-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_gaussians [hPre_plain_gaussians : Cert.Pre_plain_gaussians.Facts] (m : (ℓ : Loc Cert.KernelIdeal.nD Cert.KernelIdeal.τ Cert.KernelIdeal.sig) → Buf (Elt Ideal) ℓ) : Prop :=
  ∀ c : Dev Cert.KernelIdeal.nD,
    (Cert.Pre_plain_gaussians.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_gaussians [hPre_plain_gaussians : Cert.Pre_plain_gaussians.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_gaussians.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_plain_gaussians [hKernelIdeal : Cert.KernelIdeal.Facts] [hPre_plain_gaussians : Cert.Pre_plain_gaussians.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_gaussians m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_plain_gaussians [hReferenceIdeal : Cert.ReferenceIdeal.Facts] [hPre_plain_gaussians : Cert.Pre_plain_gaussians.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_gaussians m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_plain_gaussians [hKernelIdeal : Cert.KernelIdeal.Facts] [hReferenceIdeal : Cert.ReferenceIdeal.Facts] [hPre_plain_gaussians : Cert.Pre_plain_gaussians.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_gaussians m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_plain_gaussians : Cert.Pre_plain_gaussians.Facts),
    quiescent_Kernel (hKernel := hKernel)
    ∧ quiescent_KernelIdeal (hKernelIdeal := hKernelIdeal)
    ∧ quiescent_KernelIdeal_pre_plain_gaussians (hKernelIdeal := hKernelIdeal) (hPre_plain_gaussians := hPre_plain_gaussians)
    ∧ quiescent_ReferenceIdeal (hReferenceIdeal := hReferenceIdeal)
    ∧ quiescent_ReferenceIdeal_pre_plain_gaussians (hReferenceIdeal := hReferenceIdeal) (hPre_plain_gaussians := hPre_plain_gaussians)
    ∧ preserves_Kernel_KernelIdeal
    ∧ algebraic_KernelIdeal_ReferenceIdeal_pre_plain_gaussians (hKernelIdeal := hKernelIdeal) (hReferenceIdeal := hReferenceIdeal) (hPre_plain_gaussians := hPre_plain_gaussians)
-- ==== Pre_plain_gaussians.lean ====
abbrev S50000x3 : Shape := ⟨2, ![50000, 3]⟩
abbrev S50000x3x3 : Shape := ⟨3, ![50000, 3, 3]⟩
abbrev S50000 : Shape := ⟨1, ![50000]⟩
abbrev S50000x16 : Shape := ⟨2, ![50000, 16]⟩
abbrev S3x3 : Shape := ⟨2, ![3, 3]⟩
abbrev S_ : Shape := ⟨0, ![]⟩
abbrev S1x3x3 : Shape := ⟨3, ![1, 3, 3]⟩
abbrev S50000x1 : Shape := ⟨2, ![50000, 1]⟩

class Facts : Prop where
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S_S50000x3x3 : S_.BroadcastsInDim S50000x3x3 (![] : Fin 0 → Fin S50000x3x3.rank)
  bcast_S1x3x3_S50000x3x3_0_1_2 : S1x3x3.BroadcastsInDim S50000x3x3 (![0, 1, 2] : Fin 3 → Fin S50000x3x3.rank)
  reducesTo_S50000x3x3_S_d0_1_2 : S50000x3x3.ReducesTo [0, 1, 2] S_
  h_S_ : 0 < S_.numel
  slices_S50000x3_S50000x1_0_2 : S50000x3.Slices ![0, 2] S50000x1
  shapeCasts_S50000x1_S50000 : S50000x1.ShapeCasts S50000
  bcast_S_S50000 : S_.BroadcastsInDim S50000 (![] : Fin 0 → Fin S50000.rank)
  reducesTo_S50000_S_d0 : S50000.ReducesTo [0] S_

variable [Facts]

def fn_where {F : FTy → Type} [FloatOps F] (arg0 : IVec S1x3x3 1) (arg1 : IVec S50000x3x3 1) (arg2 : IVec S50000x3x3 1) : IVec S50000x3x3 1 :=
  let v0 : IVec S50000x3x3 1 := broadcastInDim S50000x3x3 ![0, 1, 2] bcast_S1x3x3_S50000x3x3_0_1_2 arg0
  let v1 : IVec S50000x3x3 1 := select v0 arg1 arg2
  v1

def fn_part1 {F : FTy → Type} [FloatOps F] (main_v14 : IVec S_ 1) (main_v16 : FVec F S50000 .f32) (main_v17 : FVec F S50000 .f32) : IVec S_ 1 :=
  let main_v18 : IVec S50000 1 := cmpf .une main_v16 main_v17
  let main_c_4 : IVec S_ 1 := constantI S_ 1 1#1
  let main_v19 : IVec S_ 1 := (fun x v => Host.reduce IntOp.andi x v reducesTo_S50000_S_d0 h_S_) main_v18 main_c_4
  let main_v20 : IVec S_ 1 := andi main_v14 main_v19
  main_v20

def fn {F : FTy → Type} [FloatOps F] (main_arg0 : FVec F S50000x3 .f32) (main_arg1 : FVec F S50000x3x3 .f32) (main_arg2 : FVec F S50000 .f32) (main_arg3 : FVec F S50000x16 .f32) : IVec S_ 1 :=
  let main_v0 : IVec S3x3 32 := iotaInDim S3x3 32 0
  let main_v1 : IVec S3x3 32 := iotaInDim S3x3 32 1
  let main_c : IVec S_ 32 := constantI S_ 32 0#32
  let main_v2 : IVec S3x3 32 := broadcastInDim S3x3 ![] bcast_S_S3x3 main_c
  let main_v3 : IVec S3x3 32 := addi main_v0 main_v2
  let main_v4 : IVec S3x3 1 := cmpi .eq main_v3 main_v1
  let main_v5 : IVec S1x3x3 1 := broadcastInDim S1x3x3 ![1, 2] bcast_S3x3_S1x3x3_1_2 main_v4
  let main_cst : FVec F S_ .f32 := constant S_ .f32 0x00000000#32
  let main_v6 : FVec F S50000x3x3 .f32 := broadcastInDim S50000x3x3 ![] bcast_S_S50000x3x3 main_cst
  let main_v7 : IVec S50000x3x3 1 := cmpf .une main_arg1 main_v6
  let main_cst_0 : FVec F S_ .f32 := constant S_ .f32 0x7F800000#32
  let main_v8 : FVec F S50000x3x3 .f32 := broadcastInDim S50000x3x3 ![] bcast_S_S50000x3x3 main_cst_0
  let main_v9 : IVec S50000x3x3 1 := cmpf .olt main_arg1 main_v8
  let main_v10 : IVec S50000x3x3 1 := andi main_v7 main_v9
  let main_cst_1 : FVec F S_ .f32 := constant S_ .f32 0x00000000#32
  let main_v11 : FVec F S50000x3x3 .f32 := broadcastInDim S50000x3x3 ![] bcast_S_S50000x3x3 main_cst_1
  let main_v12 : IVec S50000x3x3 1 := cmpf .oeq main_arg1 main_v11
  let main_v13 : IVec S50000x3x3 1 := fn_where (F := F) main_v5 main_v10 main_v12
  let main_c_2 : IVec S_ 1 := constantI S_ 1 1#1
  let main_v14 : IVec S_ 1 := (fun x v => Host.reduce IntOp.andi x v reducesTo_S50000x3x3_S_d0_1_2 h_S_) main_v13 main_c_2
  let main_v15 : FVec F S50000x1 .f32 := (extractStridedSlice S50000x1 ![0, 2] · slices_S50000x3_S50000x1_0_2) main_arg0
  let main_v16 : FVec F S50000 .f32 := shapeCast S50000 main_v15 shapeCasts_S50000x1_S50000
  let main_cst_3 : FVec F S_ .f32 := constant S_ .f32 0x40ACCCCD#32
  let main_v17 : FVec F S50000 .f32 := broadcastInDim S50000 ![] bcast_S_S50000 main_cst_3
  fn_part1 (F := F) main_v14 main_v16 main_v17
-- ==== Kernel.lean ====
abbrev S50000x3 : Shape := ⟨2, ![50000, 3]⟩
abbrev S50000x3x3 : Shape := ⟨3, ![50000, 3, 3]⟩
abbrev S50000 : Shape := ⟨1, ![50000]⟩
abbrev S50000x16 : Shape := ⟨2, ![50000, 16]⟩
abbrev S3 : Shape := ⟨1, ![3]⟩
abbrev S_ : Shape := ⟨0, ![]⟩
abbrev S3x1 : Shape := ⟨2, ![3, 1]⟩
abbrev S3x2 : Shape := ⟨2, ![3, 2]⟩
abbrev S50000x1 : Shape := ⟨2, ![50000, 1]⟩
abbrev S50176 : Shape := ⟨1, ![50176]⟩
abbrev S1x50176 : Shape := ⟨2, ![1, 50176]⟩
abbrev S8x50176 : Shape := ⟨2, ![8, 50176]⟩
abbrev S8x98x512 : Shape := ⟨3, ![8, 98, 512]⟩
abbrev S98x8x512 : Shape := ⟨3, ![98, 8, 512]⟩
abbrev S50176x16 : Shape := ⟨2, ![50176, 16]⟩
abbrev S1x50176x1x16 : Shape := ⟨4, ![1, 50176, 1, 16]⟩
abbrev S1x50176x16x16 : Shape := ⟨4, ![1, 50176, 16, 16]⟩
abbrev S50176x256 : Shape := ⟨2, ![50176, 256]⟩
abbrev S40816x16 : Shape := ⟨2, ![40816, 16]⟩
abbrev S1x8x512 : Shape := ⟨3, ![1, 8, 512]⟩
abbrev S512x32 : Shape := ⟨2, ![512, 32]⟩
abbrev S512x8 : Shape := ⟨2, ![512, 8]⟩
abbrev S1x1x512 : Shape := ⟨3, ![1, 1, 512]⟩
abbrev S1x512 : Shape := ⟨2, ![1, 512]⟩
abbrev S32x512 : Shape := ⟨2, ![32, 512]⟩
abbrev S8x512 : Shape := ⟨2, ![8, 512]⟩
abbrev S3x16 : Shape := ⟨2, ![3, 16]⟩
abbrev S16x16 : Shape := ⟨2, ![16, 16]⟩
abbrev S1x1 : Shape := ⟨2, ![1, 1]⟩
abbrev S1 : Shape := ⟨1, ![1]⟩
abbrev S1x16 : Shape := ⟨2, ![1, 16]⟩
abbrev S40816x256 : Shape := ⟨2, ![40816, 256]⟩
abbrev S512x256 : Shape := ⟨2, ![512, 256]⟩
abbrev S3x256 : Shape := ⟨2, ![3, 256]⟩
abbrev S8x256 : Shape := ⟨2, ![8, 256]⟩
abbrev S16x256 : Shape := ⟨2, ![16, 256]⟩
abbrev S256 : Shape := ⟨1, ![256]⟩
abbrev S1x256 : Shape := ⟨2, ![1, 256]⟩
abbrev S16x1 : Shape := ⟨2, ![16, 1]⟩
abbrev S40804x16 : Shape := ⟨2, ![40804, 16]⟩
abbrev S202x202x16 : Shape := ⟨3, ![202, 202, 16]⟩
abbrev S40804x256 : Shape := ⟨2, ![40804, 256]⟩
abbrev S202x202x16x16 : Shape := ⟨4, ![202, 202, 16, 16]⟩
abbrev S200x200x16 : Shape := ⟨3, ![200, 200, 16]⟩
abbrev S200x200x16x16 : Shape := ⟨4, ![200, 200, 16, 16]⟩

abbrev nBuf : Space → Nat
  | .hbm => 85
  | .vmem => 18
  | .smem => 0
  | _ => 0

abbrev bufTy : (tb : Table) → Fin (tcTables nBuf tb) → BufTy
  | .hbm, ⟨0, _⟩ => ⟨S50000x3, .f32⟩
  | .hbm, ⟨1, _⟩ => ⟨S50000x3x3, .f32⟩
  | .hbm, ⟨2, _⟩ => ⟨S50000, .f32⟩
  | .hbm, ⟨3, _⟩ => ⟨S50000x16, .f32⟩
  | .hbm, ⟨4, _⟩ => ⟨S3, .i32⟩
  | .hbm, ⟨5, _⟩ => ⟨S3, .i32⟩
  | .hbm, ⟨6, _⟩ => ⟨S_, .i32⟩
  | .hbm, ⟨7, _⟩ => ⟨S3, .i32⟩
  | .hbm, ⟨8, _⟩ => ⟨S3, .i1⟩
  | .hbm, ⟨9, _⟩ => ⟨S_, .i32⟩
  | .hbm, ⟨10, _⟩ => ⟨S3, .i32⟩
  | .hbm, ⟨11, _⟩ => ⟨S3, .i32⟩
  | .hbm, ⟨12, _⟩ => ⟨S3, .i32⟩
  | .hbm, ⟨13, _⟩ => ⟨S_, .i32⟩
  | .hbm, ⟨14, _⟩ => ⟨S3, .i32⟩
  | .hbm, ⟨15, _⟩ => ⟨S3, .i1⟩
  | .hbm, ⟨16, _⟩ => ⟨S_, .i32⟩
  | .hbm, ⟨17, _⟩ => ⟨S3, .i32⟩
  | .hbm, ⟨18, _⟩ => ⟨S3, .i32⟩
  | .hbm, ⟨19, _⟩ => ⟨S3, .i32⟩
  | .hbm, ⟨20, _⟩ => ⟨S3x1, .i32⟩
  | .hbm, ⟨21, _⟩ => ⟨S3x1, .i32⟩
  | .hbm, ⟨22, _⟩ => ⟨S3x2, .i32⟩
  | .hbm, ⟨23, _⟩ => ⟨S50000x3, .f32⟩
  | .hbm, ⟨24, _⟩ => ⟨S50000x1, .f32⟩
  | .hbm, ⟨25, _⟩ => ⟨S50000, .f32⟩
  | .hbm, ⟨26, _⟩ => ⟨S_, .i32⟩
  | .hbm, ⟨27, _⟩ => ⟨S_, .f32⟩
  | .hbm, ⟨28, _⟩ => ⟨S50176, .f32⟩
  | .hbm, ⟨29, _⟩ => ⟨S50000x1, .f32⟩
  | .hbm, ⟨30, _⟩ => ⟨S50000, .f32⟩
  | .hbm, ⟨31, _⟩ => ⟨S_, .i32⟩
  | .hbm, ⟨32, _⟩ => ⟨S_, .f32⟩
  | .hbm, ⟨33, _⟩ => ⟨S50176, .f32⟩
  | .hbm, ⟨34, _⟩ => ⟨S50000x1, .f32⟩
  | .hbm, ⟨35, _⟩ => ⟨S50000, .f32⟩
  | .hbm, ⟨36, _⟩ => ⟨S_, .i32⟩
  | .hbm, ⟨37, _⟩ => ⟨S_, .f32⟩
  | .hbm, ⟨38, _⟩ => ⟨S50176, .f32⟩
  | .hbm, ⟨39, _⟩ => ⟨S50000x1, .f32⟩
  | .hbm, ⟨40, _⟩ => ⟨S50000, .f32⟩
  | .hbm, ⟨41, _⟩ => ⟨S_, .f32⟩
  | .hbm, ⟨42, _⟩ => ⟨S_, .f32⟩
  | .hbm, ⟨43, _⟩ => ⟨S50176, .f32⟩
  | .hbm, ⟨44, _⟩ => ⟨S50000x1, .f32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S50176, .f32⟩
  | .hbm, ⟨49, _⟩ => ⟨S50000x1, .f32⟩
  | .hbm, ⟨50, _⟩ => ⟨S50000, .f32⟩
  | .hbm, ⟨51, _⟩ => ⟨S_, .f32⟩
  | .hbm, ⟨52, _⟩ => ⟨S_, .f32⟩
  | .hbm, ⟨53, _⟩ => ⟨S50176, .f32⟩
  | .hbm, ⟨54, _⟩ => ⟨S_, .i32⟩
  | .hbm, ⟨55, _⟩ => ⟨S_, .f32⟩
  | .hbm, ⟨56, _⟩ => ⟨S50176, .f32⟩
  | .hbm, ⟨57, _⟩ => ⟨S_, .f32⟩
  | .hbm, ⟨58, _⟩ => ⟨S50176, .f32⟩
  | .hbm, ⟨59, _⟩ => ⟨S1x50176, .f32⟩
  | .hbm, ⟨60, _⟩ => ⟨S1x50176, .f32⟩
  | .hbm, ⟨61, _⟩ => ⟨S1x50176, .f32⟩
  | .hbm, ⟨62, _⟩ => ⟨S1x50176, .f32⟩
  | .hbm, ⟨63, _⟩ => ⟨S1x50176, .f32⟩
  | .hbm, ⟨64, _⟩ => ⟨S1x50176, .f32⟩
  | .hbm, ⟨65, _⟩ => ⟨S1x50176, .f32⟩
  | .hbm, ⟨66, _⟩ => ⟨S1x50176, .f32⟩
  | .hbm, ⟨67, _⟩ => ⟨S8x50176, .f32⟩
  | .hbm, ⟨68, _⟩ => ⟨S8x98x512, .f32⟩
  | .hbm, ⟨69, _⟩ => ⟨S98x8x512, .f32⟩
  | .hbm, ⟨70, _⟩ => ⟨S_, .i32⟩
  | .hbm, ⟨71, _⟩ => ⟨S_, .f32⟩
  | .hbm, ⟨72, _⟩ => ⟨S50176x16, .f32⟩
  | .hbm, ⟨73, _⟩ => ⟨S1x50176x1x16, .f32⟩
  | .hbm, ⟨74, _⟩ => ⟨S1x50176x16x16, .f32⟩
  | .hbm, ⟨75, _⟩ => ⟨S50176x256, .f32⟩
  | .hbm, ⟨76, _⟩ => ⟨S40816x16, .f32⟩
  | .hbm, ⟨77, _⟩ => ⟨S40816x256, .f32⟩
  | .hbm, ⟨78, _⟩ => ⟨S40816x256, .f32⟩
  | .hbm, ⟨79, _⟩ => ⟨S40804x16, .f32⟩
  | .hbm, ⟨80, _⟩ => ⟨S202x202x16, .f32⟩
  | .hbm, ⟨81, _⟩ => ⟨S40804x256, .f32⟩
  | .hbm, ⟨82, _⟩ => ⟨S202x202x16x16, .f32⟩
  | .hbm, ⟨83, _⟩ => ⟨S200x200x16, .f32⟩
  | .hbm, ⟨84, _⟩ => ⟨S200x200x16x16, .f32⟩
  | .local _ .vmem, ⟨0, _⟩ => ⟨S1x8x512, .f32⟩
  | .local _ .vmem, ⟨1, _⟩ => ⟨S1x8x512, .f32⟩
  | .local _ .vmem, ⟨2, _⟩ => ⟨S40816x16, .f32⟩
  | .local _ .vmem, ⟨3, _⟩ => ⟨S512x32, .f32⟩
  | .local _ .vmem, ⟨4, _⟩ => ⟨S512x8, .i32⟩
  | .local _ .vmem, ⟨5, _⟩ => ⟨S1x8x512, .f32⟩
  | .local _ .vmem, ⟨6, _⟩ => ⟨S1x8x512, .f32⟩
  | .local _ .vmem, ⟨7, _⟩ => ⟨S512x256, .f32⟩
  | .local _ .vmem, ⟨8, _⟩ => ⟨S512x256, .f32⟩
  | .local _ .vmem, ⟨9, _⟩ => ⟨S40816x256, .f32⟩
  | .local _ .vmem, ⟨10, _⟩ => ⟨S512x32, .f32⟩
  | .local _ .vmem, ⟨11, _⟩ => ⟨S512x8, .i32⟩
  | .local _ .vmem, ⟨12, _⟩ => ⟨S16x16, .f32⟩
  | .local _ .vmem, ⟨13, _⟩ => ⟨S16x16, .f32⟩
  | .local _ .vmem, ⟨14, _⟩ => ⟨S16x256, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_c_0 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c_1 : Ref sig .tc := ⟨.hbm, 13, rfl⟩
abbrev main_call0_v7 : Ref sig .tc := ⟨.hbm, 14, rfl⟩
abbrev main_call0_v8 : Ref sig .tc := ⟨.hbm, 15, rfl⟩
abbrev main_call0_c_2 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_call1_v0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_call2_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_call3_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_call4_v0 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_call5_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_call6_v0 : Ref sig .tc := ⟨.hbm, 52, rfl⟩
abbrev main_v18 : Ref sig .tc := ⟨.hbm, 53, rfl⟩
abbrev main_c_4 : Ref sig .tc := ⟨.hbm, 54, rfl⟩
abbrev main_call7_v0 : Ref sig .tc := ⟨.hbm, 55, rfl⟩
abbrev main_v19 : Ref sig .tc := ⟨.hbm, 56, rfl⟩
abbrev main_cst_5 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_6 : Ref sig .tc := ⟨.hbm, 70, rfl⟩
abbrev main_call8_v0 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![98], ![false]⟩

@[reducible] def k0_t1_loop : Scf.Loop 32 :=
  let c0_i32_579 : BitVec 32 := 0#32
  let c512_i32 : BitVec 32 := 512#32
  let v2016 : BitVec 32 := Scalar.addi c0_i32_579 c512_i32
  let c1_i32_580 : BitVec 32 := 1#32
  ⟨c0_i32_579, v2016, c1_i32_580⟩
def k0_off1 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2017 : Index := Scalar.indexCast arg5
  let c0_582 : Index := 0#32
  ![v2017.toNat, 0]
def k0_off2 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2020 : Index := Scalar.indexCast arg5
  let c1_583 : Index := 1#32
  ![v2020.toNat, 1]
def k0_off3 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2024 : Index := Scalar.indexCast arg5
  let c0_585 : Index := 0#32
  ![v2024.toNat, 0]
def k0_off4 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2027 : Index := Scalar.indexCast arg5
  let c3_586 : Index := 3#32
  ![v2027.toNat, 3]
def k0_off5 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2030 : Index := Scalar.indexCast arg5
  let c6_587 : Index := 6#32
  ![v2030.toNat, 6]
def k0_off6 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2047 : Index := Scalar.indexCast arg5
  let c1_591 : Index := 1#32
  ![v2047.toNat, 1]
def k0_off7 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2050 : Index := Scalar.indexCast arg5
  let c4_592 : Index := 4#32
  ![v2050.toNat, 4]
def k0_off8 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2053 : Index := Scalar.indexCast arg5
  let c7 : Index := 7#32
  ![v2053.toNat, 7]
def k0_off9 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2070 : Index := Scalar.indexCast arg5
  let c2_596 : Index := 2#32
  ![v2070.toNat, 2]
def k0_off10 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2073 : Index := Scalar.indexCast arg5
  let c5_597 : Index := 5#32
  ![v2073.toNat, 5]
def k0_off11 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2076 : Index := Scalar.indexCast arg5
  let c8 : Index := 8#32
  ![v2076.toNat, 8]
def k0_off12 (v2019 : BitVec 32) (c0_i32_600 : BitVec 32) : Fin 2 → Nat :=
  let v2093 : BitVec 32 := Scalar.addi v2019 c0_i32_600
  let c0_i32_601 : BitVec 32 := 0#32
  let v2095 : BitVec 1 := Scalar.cmpi .sgt v2093 c0_i32_601
  let v2096 : BitVec 32 := Scalar.extui v2095
  let c0_i32_602 : BitVec 32 := 0#32
  let v2097 : BitVec 1 := Scalar.cmpi .slt v2093 c0_i32_602
  let v2098 : BitVec 32 := Scalar.extui v2097
  let v2099 : BitVec 32 := Scalar.subi v2096 v2098
  let c8_i32 : BitVec 32 := 8#32
  let c0_i32_603 : BitVec 32 := 0#32
  let v2100 : BitVec 1 := Scalar.cmpi .sgt c8_i32 c0_i32_603
  let v2101 : BitVec 32 := Scalar.extui v2100
  let c0_i32_604 : BitVec 32 := 0#32
  let v2102 : BitVec 1 := Scalar.cmpi .slt c8_i32 c0_i32_604
  let v2103 : BitVec 32 := Scalar.extui v2102
  let v2104 : BitVec 32 := Scalar.subi v2101 v2103
  let v2105 : BitVec 1 := Scalar.cmpi .ne v2099 v2104
  let v2106 : BitVec 32 := Scalar.remsi v2093 c8_i32
  let c0_i32_605 : BitVec 32 := 0#32
  let v2107 : BitVec 1 := Scalar.cmpi .ne v2106 c0_i32_605
  let v2108 : BitVec 1 := Scalar.andi v2105 v2107
  let v2094 : BitVec 32 := Scalar.divsi v2093 c8_i32
  let c1_i32_606 : BitVec 32 := 1#32
  let v2109 : BitVec 32 := Scalar.subi v2094 c1_i32_606
  let v2110 : BitVec 32 := Scalar.select v2108 v2109 v2094
  let c8_i32_607 : BitVec 32 := 8#32
  let v2111 : BitVec 32 := Scalar.muli v2110 c8_i32_607
  let v2141 : Index := Scalar.indexCast v2111
  let c0_615 : Index := 0#32
  ![v2141.toNat, 0]

def k0_chk1 (v2019 : BitVec 32) : Prop :=
  (∀ (r : Fin 3), ∀ a, (k0_off12 v2019 (BitVec.ofNat 32 (202 * r.val))) a + S16x16.size a ≤ S40816x16.size a)
theorem k0_off12_inb : ∀ (v2019 : BitVec 32) (k0_hw1 : k0_chk1 v2019), ∀ (r : Fin 3), ∀ a, (k0_off12 v2019 (BitVec.ofNat 32 (202 * r.val))) a + S16x16.size a ≤ S40816x16.size a := fun v2019 k0_hw1 r => k0_hw1 r

def k0_off13 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2148 : Index := Scalar.indexCast arg5
  let c9 : Index := 9#32
  ![v2148.toNat, 9]
def k0_off14 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2151 : Index := Scalar.indexCast arg5
  let c12 : Index := 12#32
  ![v2151.toNat, 12]
def k0_off15 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2154 : Index := Scalar.indexCast arg5
  let c15 : Index := 15#32
  ![v2154.toNat, 15]
def k0_off16 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2171 : Index := Scalar.indexCast arg5
  let c10 : Index := 10#32
  ![v2171.toNat, 10]
def k0_off17 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2174 : Index := Scalar.indexCast arg5
  let c13 : Index := 13#32
  ![v2174.toNat, 13]
def k0_off18 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2177 : Index := Scalar.indexCast arg5
  let c16 : Index := 16#32
  ![v2177.toNat, 16]
def k0_off19 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2194 : Index := Scalar.indexCast arg5
  let c11 : Index := 11#32
  ![v2194.toNat, 11]
def k0_off20 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2197 : Index := Scalar.indexCast arg5
  let c14 : Index := 14#32
  ![v2197.toNat, 14]
def k0_off21 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2200 : Index := Scalar.indexCast arg5
  let c17 : Index := 17#32
  ![v2200.toNat, 17]
def k0_off22 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2272 : Index := Scalar.indexCast arg5
  let c18 : Index := 18#32
  ![v2272.toNat, 18]
def k0_off23 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2275 : Index := Scalar.indexCast arg5
  let c21 : Index := 21#32
  ![v2275.toNat, 21]
def k0_off24 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2278 : Index := Scalar.indexCast arg5
  let c24 : Index := 24#32
  ![v2278.toNat, 24]
def k0_off25 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2295 : Index := Scalar.indexCast arg5
  let c19 : Index := 19#32
  ![v2295.toNat, 19]
def k0_off26 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2298 : Index := Scalar.indexCast arg5
  let c22 : Index := 22#32
  ![v2298.toNat, 22]
def k0_off27 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2301 : Index := Scalar.indexCast arg5
  let c25 : Index := 25#32
  ![v2301.toNat, 25]
def k0_off28 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2318 : Index := Scalar.indexCast arg5
  let c20 : Index := 20#32
  ![v2318.toNat, 20]
def k0_off29 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2321 : Index := Scalar.indexCast arg5
  let c23 : Index := 23#32
  ![v2321.toNat, 23]
def k0_off30 (k0_t1 : Fin k0_t1_loop.trips) : Fin 2 → Nat :=
  let c0_i32_579 : BitVec 32 := 0#32
  let c1_i32_580 : BitVec 32 := 1#32
  let arg5 : BitVec 32 := Scf.iv c0_i32_579 c1_i32_580 k0_t1
  let v2324 : Index := Scalar.indexCast arg5
  let c26 : Index := 26#32
  ![v2324.toNat, 26]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40816x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![98], ![false]⟩

@[reducible] def k1_t1_loop : Scf.Loop 32 :=
  let c0_i32_586 : BitVec 32 := 0#32
  let c512_i32 : BitVec 32 := 512#32
  let v2041 : BitVec 32 := Scalar.addi c0_i32_586 c512_i32
  let c1_i32_587 : BitVec 32 := 1#32
  ⟨c0_i32_586, v2041, c1_i32_587⟩
def k1_off1 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2042 : Index := Scalar.indexCast arg6
  let c0_589 : Index := 0#32
  ![v2042.toNat, 0]
def k1_off2 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2045 : Index := Scalar.indexCast arg6
  let c1_590 : Index := 1#32
  ![v2045.toNat, 1]
def k1_off3 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let c0_i32_591 : BitVec 32 := 0#32
  let v2049 : BitVec 1 := Scalar.cmpi .sgt arg6 c0_i32_591
  let v2050 : BitVec 32 := Scalar.extui v2049
  let c0_i32_592 : BitVec 32 := 0#32
  let v2051 : BitVec 1 := Scalar.cmpi .slt arg6 c0_i32_592
  let v2052 : BitVec 32 := Scalar.extui v2051
  let v2053 : BitVec 32 := Scalar.subi v2050 v2052
  let c8_i32 : BitVec 32 := 8#32
  let c0_i32_593 : BitVec 32 := 0#32
  let v2054 : BitVec 1 := Scalar.cmpi .sgt c8_i32 c0_i32_593
  let v2055 : BitVec 32 := Scalar.extui v2054
  let c0_i32_594 : BitVec 32 := 0#32
  let v2056 : BitVec 1 := Scalar.cmpi .slt c8_i32 c0_i32_594
  let v2057 : BitVec 32 := Scalar.extui v2056
  let v2058 : BitVec 32 := Scalar.subi v2055 v2057
  let v2059 : BitVec 1 := Scalar.cmpi .ne v2053 v2058
  let v2060 : BitVec 32 := Scalar.remsi arg6 c8_i32
  let c0_i32_595 : BitVec 32 := 0#32
  let v2061 : BitVec 1 := Scalar.cmpi .ne v2060 c0_i32_595
  let v2062 : BitVec 1 := Scalar.andi v2059 v2061
  let v2048 : BitVec 32 := Scalar.divsi arg6 c8_i32
  let c1_i32_596 : BitVec 32 := 1#32
  let v2063 : BitVec 32 := Scalar.subi v2048 c1_i32_596
  let v2064 : BitVec 32 := Scalar.select v2062 v2063 v2048
  let c8_i32_597 : BitVec 32 := 8#32
  let v2065 : BitVec 32 := Scalar.muli v2064 c8_i32_597
  let v2066 : Index := Scalar.indexCast v2065
  let c0_598 : Index := 0#32
  ![v2066.toNat, 0]
def k1_off4 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2077 : Index := Scalar.indexCast arg6
  let c0_602 : Index := 0#32
  ![v2077.toNat, 0]
def k1_off5 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2080 : Index := Scalar.indexCast arg6
  let c3_603 : Index := 3#32
  ![v2080.toNat, 3]
def k1_off6 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2083 : Index := Scalar.indexCast arg6
  let c6_604 : Index := 6#32
  ![v2083.toNat, 6]
def k1_off7 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2100 : Index := Scalar.indexCast arg6
  let c1_608 : Index := 1#32
  ![v2100.toNat, 1]
def k1_off8 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2103 : Index := Scalar.indexCast arg6
  let c4_609 : Index := 4#32
  ![v2103.toNat, 4]
def k1_off9 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2106 : Index := Scalar.indexCast arg6
  let c7 : Index := 7#32
  ![v2106.toNat, 7]
def k1_off10 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2123 : Index := Scalar.indexCast arg6
  let c2_613 : Index := 2#32
  ![v2123.toNat, 2]
def k1_off11 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2126 : Index := Scalar.indexCast arg6
  let c5_614 : Index := 5#32
  ![v2126.toNat, 5]
def k1_off12 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2129 : Index := Scalar.indexCast arg6
  let c8 : Index := 8#32
  ![v2129.toNat, 8]
def k1_off13 (v2044 : BitVec 32) (c0_i32_617 : BitVec 32) : Fin 2 → Nat :=
  let v2146 : BitVec 32 := Scalar.addi v2044 c0_i32_617
  let c0_i32_619 : BitVec 32 := 0#32
  let v2148 : BitVec 1 := Scalar.cmpi .sgt v2146 c0_i32_619
  let v2149 : BitVec 32 := Scalar.extui v2148
  let c0_i32_620 : BitVec 32 := 0#32
  let v2150 : BitVec 1 := Scalar.cmpi .slt v2146 c0_i32_620
  let v2151 : BitVec 32 := Scalar.extui v2150
  let v2152 : BitVec 32 := Scalar.subi v2149 v2151
  let c8_i32_618 : BitVec 32 := 8#32
  let c0_i32_621 : BitVec 32 := 0#32
  let v2153 : BitVec 1 := Scalar.cmpi .sgt c8_i32_618 c0_i32_621
  let v2154 : BitVec 32 := Scalar.extui v2153
  let c0_i32_622 : BitVec 32 := 0#32
  let v2155 : BitVec 1 := Scalar.cmpi .slt c8_i32_618 c0_i32_622
  let v2156 : BitVec 32 := Scalar.extui v2155
  let v2157 : BitVec 32 := Scalar.subi v2154 v2156
  let v2158 : BitVec 1 := Scalar.cmpi .ne v2152 v2157
  let v2159 : BitVec 32 := Scalar.remsi v2146 c8_i32_618
  let c0_i32_623 : BitVec 32 := 0#32
  let v2160 : BitVec 1 := Scalar.cmpi .ne v2159 c0_i32_623
  let v2161 : BitVec 1 := Scalar.andi v2158 v2160
  let v2147 : BitVec 32 := Scalar.divsi v2146 c8_i32_618
  let c1_i32_624 : BitVec 32 := 1#32
  let v2162 : BitVec 32 := Scalar.subi v2147 c1_i32_624
  let v2163 : BitVec 32 := Scalar.select v2161 v2162 v2147
  let c8_i32_625 : BitVec 32 := 8#32
  let v2164 : BitVec 32 := Scalar.muli v2163 c8_i32_625
  let v2194 : Index := Scalar.indexCast v2164
  let c0_633 : Index := 0#32
  ![v2194.toNat, 0]

def k1_chk1 (v2044 : BitVec 32) : Prop :=
  (∀ (r : Fin 3), ∀ a, (k1_off13 v2044 (BitVec.ofNat 32 (202 * r.val))) a + S16x256.size a ≤ S40816x256.size a)
theorem k1_off13_inb : ∀ (v2044 : BitVec 32) (k1_hw1 : k1_chk1 v2044), ∀ (r : Fin 3), ∀ a, (k1_off13 v2044 (BitVec.ofNat 32 (202 * r.val))) a + S16x256.size a ≤ S40816x256.size a := fun v2044 k1_hw1 r => k1_hw1 r

def k1_off14 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2203 : Index := Scalar.indexCast arg6
  let c9 : Index := 9#32
  ![v2203.toNat, 9]
def k1_off15 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2206 : Index := Scalar.indexCast arg6
  let c12 : Index := 12#32
  ![v2206.toNat, 12]
def k1_off16 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2209 : Index := Scalar.indexCast arg6
  let c15 : Index := 15#32
  ![v2209.toNat, 15]
def k1_off17 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2226 : Index := Scalar.indexCast arg6
  let c10 : Index := 10#32
  ![v2226.toNat, 10]
def k1_off18 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2229 : Index := Scalar.indexCast arg6
  let c13 : Index := 13#32
  ![v2229.toNat, 13]
def k1_off19 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2232 : Index := Scalar.indexCast arg6
  let c16 : Index := 16#32
  ![v2232.toNat, 16]
def k1_off20 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2249 : Index := Scalar.indexCast arg6
  let c11 : Index := 11#32
  ![v2249.toNat, 11]
def k1_off21 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2252 : Index := Scalar.indexCast arg6
  let c14 : Index := 14#32
  ![v2252.toNat, 14]
def k1_off22 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2255 : Index := Scalar.indexCast arg6
  let c17 : Index := 17#32
  ![v2255.toNat, 17]
def k1_off23 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2329 : Index := Scalar.indexCast arg6
  let c18 : Index := 18#32
  ![v2329.toNat, 18]
def k1_off24 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2332 : Index := Scalar.indexCast arg6
  let c21 : Index := 21#32
  ![v2332.toNat, 21]
def k1_off25 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2335 : Index := Scalar.indexCast arg6
  let c24 : Index := 24#32
  ![v2335.toNat, 24]
def k1_off26 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2352 : Index := Scalar.indexCast arg6
  let c19 : Index := 19#32
  ![v2352.toNat, 19]
def k1_off27 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2355 : Index := Scalar.indexCast arg6
  let c22 : Index := 22#32
  ![v2355.toNat, 22]
def k1_off28 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2358 : Index := Scalar.indexCast arg6
  let c25 : Index := 25#32
  ![v2358.toNat, 25]
def k1_off29 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2375 : Index := Scalar.indexCast arg6
  let c20 : Index := 20#32
  ![v2375.toNat, 20]
def k1_off30 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2378 : Index := Scalar.indexCast arg6
  let c23 : Index := 23#32
  ![v2378.toNat, 23]
def k1_off31 (k1_t1 : Fin k1_t1_loop.trips) : Fin 2 → Nat :=
  let c0_i32_586 : BitVec 32 := 0#32
  let c1_i32_587 : BitVec 32 := 1#32
  let arg6 : BitVec 32 := Scf.iv c0_i32_586 c1_i32_587 k1_t1
  let v2381 : Index := Scalar.indexCast arg6
  let c26 : Index := 26#32
  ![v2381.toNat, 26]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40816x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![2551], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S50000x3 : Shape := ⟨2, ![50000, 3]⟩
abbrev S50000x3x3 : Shape := ⟨3, ![50000, 3, 3]⟩
abbrev S50000 : Shape := ⟨1, ![50000]⟩
abbrev S50000x16 : Shape := ⟨2, ![50000, 16]⟩
abbrev S_ : Shape := ⟨0, ![]⟩
abbrev S1 : Shape := ⟨1, ![1]⟩
abbrev S3 : Shape := ⟨1, ![3]⟩
abbrev S50000x1x1 : Shape := ⟨3, ![50000, 1, 1]⟩
abbrev S50000x1 : Shape := ⟨2, ![50000, 1]⟩
abbrev S50000x9 : Shape := ⟨2, ![50000, 9]⟩
abbrev S1x3 : Shape := ⟨2, ![1, 3]⟩
abbrev S3x3x3 : Shape := ⟨3, ![3, 3, 3]⟩
abbrev S3x3x3x1 : Shape := ⟨4, ![3, 3, 3, 1]⟩
abbrev S3x3x3x3 : Shape := ⟨4, ![3, 3, 3, 3]⟩
abbrev S27x3 : Shape := ⟨2, ![27, 3]⟩
abbrev S50000x1x3 : Shape := ⟨3, ![50000, 1, 3]⟩
abbrev S1x27x3 : Shape := ⟨3, ![1, 27, 3]⟩
abbrev S50000x27x3 : Shape := ⟨3, ![50000, 27, 3]⟩
abbrev S1x1x3 : Shape := ⟨3, ![1, 1, 3]⟩
abbrev S50000x27 : Shape := ⟨2, ![50000, 27]⟩
abbrev S50000x3x27 : Shape := ⟨3, ![50000, 3, 27]⟩
abbrev S50000x27x1 : Shape := ⟨3, ![50000, 27, 1]⟩
abbrev S640000 : Shape := ⟨1, ![640000]⟩
abbrev S1350000 : Shape := ⟨1, ![1350000]⟩
abbrev S1350000x1 : Shape := ⟨2, ![1350000, 1]⟩
abbrev S200x200x16 : Shape := ⟨3, ![200, 200, 16]⟩
abbrev S50000x1x16 : Shape := ⟨3, ![50000, 1, 16]⟩
abbrev S50000x27x16 : Shape := ⟨3, ![50000, 27, 16]⟩
abbrev S640000x16 : Shape := ⟨2, ![640000, 16]⟩
abbrev S1350000x16 : Shape := ⟨2, ![1350000, 16]⟩
abbrev S200x200x16x16 : Shape := ⟨4, ![200, 200, 16, 16]⟩
abbrev S200x200x16x1 : Shape := ⟨4, ![200, 200, 16, 1]⟩

abbrev nBuf : Space → Nat
  | .hbm => 277
  | .vmem => 0
  | .smem => 0
  | _ => 0

abbrev hbmTy0_0 (i : Nat) : BufTy := match i % 128 with
  | 0 => ⟨S50000x3, .f32⟩
  | 1 => ⟨S50000x3x3, .f32⟩
  | 2 => ⟨S50000, .f32⟩
  | 3 => ⟨S50000x16, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S3, .f32⟩
  | 11 => ⟨S50000x1x1, .f32⟩
  | 12 => ⟨S50000, .f32⟩
  | 13 => ⟨S50000x1x1, .f32⟩
  | 14 => ⟨S50000, .f32⟩
  | 15 => ⟨S50000x1x1, .f32⟩
  | 16 => ⟨S50000, .f32⟩
  | 17 => ⟨S50000x1x1, .f32⟩
  | 18 => ⟨S50000, .f32⟩
  | 19 => ⟨S50000x1x1, .f32⟩
  | 20 => ⟨S50000, .f32⟩
  | 21 => ⟨S50000x1x1, .f32⟩
  | 22 => ⟨S50000, .f32⟩
  | 23 => ⟨S50000x1x1, .f32⟩
  | 24 => ⟨S50000, .f32⟩
  | 25 => ⟨S50000x1x1, .f32⟩
  | 26 => ⟨S50000, .f32⟩
  | 27 => ⟨S50000x1x1, .f32⟩
  | 28 => ⟨S50000, .f32⟩
  | 29 => ⟨S50000, .f32⟩
  | 30 => ⟨S50000, .f32⟩
  | 31 => ⟨S50000, .f32⟩
  | 32 => ⟨S50000, .f32⟩
  | 33 => ⟨S50000, .f32⟩
  | 34 => ⟨S50000, .f32⟩
  | 35 => ⟨S50000, .f32⟩
  | 36 => ⟨S50000, .f32⟩
  | 37 => ⟨S50000, .f32⟩
  | 38 => ⟨S50000, .f32⟩
  | 39 => ⟨S50000, .f32⟩
  | 40 => ⟨S50000, .f32⟩
  | 41 => ⟨S50000, .f32⟩
  | 42 => ⟨S50000, .f32⟩
  | 43 => ⟨S50000, .f32⟩
  | 44 => ⟨S50000, .f32⟩
  | 45 => ⟨S50000, .f32⟩
  | 46 => ⟨S50000, .f32⟩
  | 47 => ⟨S50000, .f32⟩
  | 48 => ⟨S50000, .f32⟩
  | 49 => ⟨S50000, .f32⟩
  | 50 => ⟨S50000, .f32⟩
  | 51 => ⟨S50000, .f32⟩
  | 52 => ⟨S50000, .f32⟩
  | 53 => ⟨S50000, .f32⟩
  | 54 => ⟨S50000, .f32⟩
  | 55 => ⟨S50000, .f32⟩
  | 56 => ⟨S50000, .f32⟩
  | 57 => ⟨S50000, .f32⟩
  | 58 => ⟨S50000, .f32⟩
  | 59 => ⟨S50000, .f32⟩
  | 60 => ⟨S50000, .f32⟩
  | 61 => ⟨S50000, .f32⟩
  | 62 => ⟨S50000, .f32⟩
  | 63 => ⟨S50000, .f32⟩
  | 64 => ⟨S50000, .f32⟩
  | 65 => ⟨S50000, .f32⟩
  | 66 => ⟨S50000, .f32⟩
  | 67 => ⟨S50000, .f32⟩
  | 68 => ⟨S50000, .f32⟩
  | 69 => ⟨S50000, .f32⟩
  | 70 => ⟨S50000x1, .f32⟩
  | 71 => ⟨S50000x1, .f32⟩
  | 72 => ⟨S50000x1, .f32⟩
  | 73 => ⟨S50000x1, .f32⟩
  | 74 => ⟨S50000x1, .f32⟩
  | 75 => ⟨S50000x1, .f32⟩
  | 76 => ⟨S50000x1, .f32⟩
  | 77 => ⟨S50000x1, .f32⟩
  | 78 => ⟨S50000x1, .f32⟩
  | 79 => ⟨S50000x9, .f32⟩
  | 80 => ⟨S50000x3x3, .f32⟩
  | 81 => ⟨S50000x1x1, .f32⟩
  | 82 => ⟨S50000x3x3, .f32⟩
  | 83 => ⟨S50000x3x3, .f32⟩
  | 84 => ⟨S50000x1x1, .f32⟩
  | 85 => ⟨S50000, .f32⟩
  | 86 => ⟨S50000x1x1, .f32⟩
  | 87 => ⟨S50000, .f32⟩
  | 88 => ⟨S50000x1x1, .f32⟩
  | 89 => ⟨S50000, .f32⟩
  | 90 => ⟨S50000x1, .f32⟩
  | 91 => ⟨S50000x1, .f32⟩
  | 92 => ⟨S50000x1, .f32⟩
  | 93 => ⟨S50000x3, .f32⟩
  | 94 => ⟨S50000x3, .f32⟩
  | 95 => ⟨S_, .f32⟩
  | 96 => ⟨S50000x3, .f32⟩
  | 97 => ⟨S50000x3, .f32⟩
  | 98 => ⟨S_, .f32⟩
  | 99 => ⟨S50000, .f32⟩
  | 100 => ⟨S50000, .i1⟩
  | 101 => ⟨S50000x1, .f32⟩
  | 102 => ⟨S50000, .f32⟩
  | 103 => ⟨S_, .f32⟩
  | 104 => ⟨S50000, .f32⟩
  | 105 => ⟨S50000, .i1⟩
  | 106 => ⟨S50000, .i1⟩
  | 107 => ⟨S50000x1, .f32⟩
  | 108 => ⟨S50000, .f32⟩
  | 109 => ⟨S_, .f32⟩
  | 110 => ⟨S50000, .f32⟩
  | 111 => ⟨S50000, .i1⟩
  | 112 => ⟨S50000, .i1⟩
  | 113 => ⟨S50000x1, .f32⟩
  | 114 => ⟨S50000, .f32⟩
  | 115 => ⟨S_, .f32⟩
  | 116 => ⟨S50000, .f32⟩
  | 117 => ⟨S50000, .i1⟩
  | 118 => ⟨S50000, .i1⟩
  | 119 => ⟨S50000x1, .f32⟩
  | 120 => ⟨S50000, .f32⟩
  | 121 => ⟨S_, .f32⟩
  | 122 => ⟨S50000, .f32⟩
  | 123 => ⟨S50000, .i1⟩
  | 124 => ⟨S50000, .i1⟩
  | 125 => ⟨S50000x1, .f32⟩
  | 126 => ⟨S50000, .f32⟩
  | 127 => ⟨S_, .f32⟩
  | _ => ⟨S50000x3, .f32⟩

abbrev hbmTy0_1 (i : Nat) : BufTy := match i % 128 with
  | 0 => ⟨S50000, .f32⟩
  | 1 => ⟨S50000, .i1⟩
  | 2 => ⟨S50000, .i1⟩
  | 3 => ⟨S50000x1, .f32⟩
  | 4 => ⟨S50000, .f32⟩
  | 5 => ⟨S_, .f32⟩
  | 6 => ⟨S50000, .f32⟩
  | 7 => ⟨S50000, .i1⟩
  | 8 => ⟨S50000, .i1⟩
  | 9 => ⟨S1x3, .f32⟩
  | 10 => ⟨S50000x3, .f32⟩
  | 11 => ⟨S50000x3, .f32⟩
  | 12 => ⟨S_, .f32⟩
  | 13 => ⟨S50000x3, .f32⟩
  | 14 => ⟨S50000x3, .f32⟩
  | 15 => ⟨S50000x3, .f32⟩
  | 16 => ⟨S50000x3, .i32⟩
  | 17 => ⟨S3, .i32⟩
  | 18 => ⟨S_, .i32⟩
  | 19 => ⟨S3, .i32⟩
  | 20 => ⟨S3, .i32⟩
  | 21 => ⟨S3x3x3, .i32⟩
  | 22 => ⟨S3x3x3, .i32⟩
  | 23 => ⟨S3x3x3, .i32⟩
  | 24 => ⟨S3x3x3x1, .i32⟩
  | 25 => ⟨S3x3x3x1, .i32⟩
  | 26 => ⟨S3x3x3x1, .i32⟩
  | 27 => ⟨S3x3x3x3, .i32⟩
  | 28 => ⟨S27x3, .i32⟩
  | 29 => ⟨S50000x1x3, .i32⟩
  | 30 => ⟨S1x27x3, .i32⟩
  | 31 => ⟨S50000x27x3, .i32⟩
  | 32 => ⟨S50000x27x3, .i32⟩
  | 33 => ⟨S50000x27x3, .i32⟩
  | 34 => ⟨S_, .i32⟩
  | 35 => ⟨S_, .i32⟩
  | 36 => ⟨S_, .i32⟩
  | 37 => ⟨S1, .i32⟩
  | 38 => ⟨S1, .i32⟩
  | 39 => ⟨S1, .i32⟩
  | 40 => ⟨S3, .i32⟩
  | 41 => ⟨S_, .i32⟩
  | 42 => ⟨S50000x27x3, .i32⟩
  | 43 => ⟨S50000x27x3, .i1⟩
  | 44 => ⟨S1x1x3, .i32⟩
  | 45 => ⟨S50000x27x3, .i32⟩
  | 46 => ⟨S50000x27x3, .i1⟩
  | 47 => ⟨S50000x27x3, .i1⟩
  | 48 => ⟨S_, .i1⟩
  | 49 => ⟨S50000x27, .i1⟩
  | 50 => ⟨S50000x27x3, .f32⟩
  | 51 => ⟨S_, .f32⟩
  | 52 => ⟨S50000x27x3, .f32⟩
  | 53 => ⟨S50000x27x3, .f32⟩
  | 54 => ⟨S_, .f32⟩
  | 55 => ⟨S50000x27x3, .f32⟩
  | 56 => ⟨S50000x27x3, .f32⟩
  | 57 => ⟨S1x1x3, .f32⟩
  | 58 => ⟨S50000x27x3, .f32⟩
  | 59 => ⟨S50000x27x3, .f32⟩
  | 60 => ⟨S50000x1x3, .f32⟩
  | 61 => ⟨S50000x27x3, .f32⟩
  | 62 => ⟨S50000x27x3, .f32⟩
  | 63 => ⟨S50000x27x3, .f32⟩
  | 64 => ⟨S50000x1x3, .f32⟩
  | 65 => ⟨S50000x27x3, .f32⟩
  | 66 => ⟨S50000x27x3, .i1⟩
  | 67 => ⟨S_, .i1⟩
  | 68 => ⟨S50000x27, .i1⟩
  | 69 => ⟨S50000x3x27, .f32⟩
  | 70 => ⟨S50000x27, .f32⟩
  | 71 => ⟨S50000x1, .f32⟩
  | 72 => ⟨S_, .f32⟩
  | 73 => ⟨S50000x27, .f32⟩
  | 74 => ⟨S50000x27, .f32⟩
  | 75 => ⟨S50000x27, .f32⟩
  | 76 => ⟨S50000x27, .f32⟩
  | 77 => ⟨S50000x27, .f32⟩
  | 78 => ⟨S50000x27, .i1⟩
  | 79 => ⟨S50000x1, .i1⟩
  | 80 => ⟨S50000x27, .i1⟩
  | 81 => ⟨S50000x27, .i1⟩
  | 82 => ⟨S_, .f32⟩
  | 83 => ⟨S_, .f32⟩
  | 84 => ⟨S50000x27, .f32⟩
  | 85 => ⟨S50000x27, .f32⟩
  | 86 => ⟨S_, .i32⟩
  | 87 => ⟨S3, .i32⟩
  | 88 => ⟨S3, .i32⟩
  | 89 => ⟨S_, .i32⟩
  | 90 => ⟨S_, .i32⟩
  | 91 => ⟨S50000x27x3, .i32⟩
  | 92 => ⟨S50000x27x3, .i32⟩
  | 93 => ⟨S1x1x3, .i32⟩
  | 94 => ⟨S50000x27x3, .i32⟩
  | 95 => ⟨S50000x27x3, .i32⟩
  | 96 => ⟨S50000x27x1, .i32⟩
  | 97 => ⟨S50000x27, .i32⟩
  | 98 => ⟨S_, .i32⟩
  | 99 => ⟨S50000x27, .i32⟩
  | 100 => ⟨S50000x27, .i32⟩
  | 101 => ⟨S50000x27x1, .i32⟩
  | 102 => ⟨S50000x27, .i32⟩
  | 103 => ⟨S50000x27, .i32⟩
  | 104 => ⟨S_, .i32⟩
  | 105 => ⟨S50000x27, .i32⟩
  | 106 => ⟨S50000x27, .i32⟩
  | 107 => ⟨S50000x27x1, .i32⟩
  | 108 => ⟨S50000x27, .i32⟩
  | 109 => ⟨S50000x27, .i32⟩
  | 110 => ⟨S_, .f32⟩
  | 111 => ⟨S640000, .f32⟩
  | 112 => ⟨S1350000, .i32⟩
  | 113 => ⟨S1350000, .f32⟩
  | 114 => ⟨S_, .i32⟩
  | 115 => ⟨S1350000, .i32⟩
  | 116 => ⟨S1350000, .i1⟩
  | 117 => ⟨S_, .i32⟩
  | 118 => ⟨S1350000, .i32⟩
  | 119 => ⟨S1350000, .i32⟩
  | 120 => ⟨S1350000, .i32⟩
  | 121 => ⟨S1350000x1, .i32⟩
  | 122 => ⟨S640000, .f32⟩
  | 123 => ⟨S200x200x16, .f32⟩
  | 124 => ⟨S50000x27x1, .f32⟩
  | 125 => ⟨S50000x1x16, .f32⟩
  | 126 => ⟨S50000x27x16, .f32⟩
  | 127 => ⟨S50000x27x16, .f32⟩
  | _ => ⟨S50000x3, .f32⟩

abbrev hbmTy0_2 (i : Nat) : BufTy := match i % 128 with
  | 0 => ⟨S50000x27x16, .f32⟩
  | 1 => ⟨S_, .f32⟩
  | 2 => ⟨S640000x16, .f32⟩
  | 3 => ⟨S1350000, .i32⟩
  | 4 => ⟨S1350000x16, .f32⟩
  | 5 => ⟨S_, .i32⟩
  | 6 => ⟨S1350000, .i32⟩
  | 7 => ⟨S1350000, .i1⟩
  | 8 => ⟨S_, .i32⟩
  | 9 => ⟨S1350000, .i32⟩
  | 10 => ⟨S1350000, .i32⟩
  | 11 => ⟨S1350000, .i32⟩
  | 12 => ⟨S1350000x1, .i32⟩
  | 13 => ⟨S640000x16, .f32⟩
  | 14 => ⟨S200x200x16x16, .f32⟩
  | 15 => ⟨S_, .f32⟩
  | 16 => ⟨S200x200x16, .f32⟩
  | 17 => ⟨S200x200x16, .f32⟩
  | 18 => ⟨S200x200x16x1, .f32⟩
  | 19 => ⟨S200x200x16x16, .f32⟩
  | 20 => ⟨S200x200x16x16, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_cst_2 : Ref sig .tc := ⟨.hbm, 95, rfl⟩
abbrev main_v88 : Ref sig .tc := ⟨.hbm, 96, rfl⟩
abbrev main_v89 : Ref sig .tc := ⟨.hbm, 97, rfl⟩
abbrev main_cst_3 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_cst_4 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_cst_5 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_cst_6 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_cst_7 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_8 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_cst_9 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_10 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_c : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_c_11 : Ref sig .tc := ⟨.hbm, 162, rfl⟩
abbrev main_c_12 : Ref sig .tc := ⟨.hbm, 163, rfl⟩
abbrev main_c_13 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_c_14 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_c_15 : Ref sig .tc := ⟨.hbm, 176, rfl⟩
abbrev main_v155 : Ref sig .tc := ⟨.hbm, 177, rfl⟩
abbrev main_v156 : Ref sig .tc := ⟨.hbm, 178, rfl⟩
abbrev main_cst_16 : Ref sig .tc := ⟨.hbm, 179, rfl⟩
abbrev main_v157 : Ref sig .tc := ⟨.hbm, 180, rfl⟩
abbrev main_v158 : Ref sig .tc := ⟨.hbm, 181, rfl⟩
abbrev main_cst_17 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_c_18 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_cst_19 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_cst_20 : Ref sig .tc := ⟨.hbm, 210, rfl⟩
abbrev main_call0_v0 : Ref sig .tc := ⟨.hbm, 211, rfl⟩
abbrev main_call0_v1 : Ref sig .tc := ⟨.hbm, 212, rfl⟩
abbrev main_v184 : Ref sig .tc := ⟨.hbm, 213, rfl⟩
abbrev main_c_21 : Ref sig .tc := ⟨.hbm, 214, rfl⟩
abbrev main_v185 : Ref sig .tc := ⟨.hbm, 215, rfl⟩
abbrev main_v186 : Ref sig .tc := ⟨.hbm, 216, rfl⟩
abbrev main_c_22 : Ref sig .tc := ⟨.hbm, 217, rfl⟩
abbrev main_call1_v0 : Ref sig .tc := ⟨.hbm, 218, rfl⟩
abbrev main_call1_v1 : Ref sig .tc := ⟨.hbm, 219, rfl⟩
abbrev main_call1_v2 : Ref sig .tc := ⟨.hbm, 220, rfl⟩
abbrev main_call1_v3 : Ref sig .tc := ⟨.hbm, 221, rfl⟩
abbrev main_call1_v4 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_c_23 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_c_24 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_cst_25 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_c_26 : Ref sig .tc := ⟨.hbm, 242, rfl⟩
abbrev main_v203 : Ref sig .tc := ⟨.hbm, 243, rfl⟩
abbrev main_v204 : Ref sig .tc := ⟨.hbm, 244, rfl⟩
abbrev main_c_27 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_28 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_c_29 : Ref sig .tc := ⟨.hbm, 261, rfl⟩
abbrev main_v219 : Ref sig .tc := ⟨.hbm, 262, rfl⟩
abbrev main_v220 : Ref sig .tc := ⟨.hbm, 263, rfl⟩
abbrev main_c_30 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_cst_31 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩

abbrev nD : Nat := 1
abbrev τ : Topo := Topo.v7x

variable {F : FTy → Type} [FloatOps F]
-- ==== Proof.NormBody.lean ====
/- The normalisation kernel's body at a grid point. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Exec
public import Idealize.ShloMosaic.Lib.Tactic

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body: the output block is the features' block over the clipped density's. -/
@[irreducible] def normBody (c : Dev nD) (i : grid2.Coords) (arg1 : Memref sig .tc .vmem S16x16 .f32) (harg1 : arg1.IsWhole)
    (arg2 : Memref sig .tc .vmem S16x256 .f32) (harg2 : arg2.IsWhole)
    (arg3 : Memref sig .tc .vmem S16x256 .f32) (harg3 : arg3.IsWhole)
    (x : Buf (Elt F) (arg1.view.loc (c : Thread nD τ))) (y : Buf (Elt F) (arg2.view.loc (c : Thread nD τ))) :
    { g : Buf (Elt F) (arg3.view.loc (c : Thread nD τ)) // ∀ (f3 : Buf (Elt F) (arg3.view.loc (c : Thread nD τ))),
      iprop((arg1.view.loc (c : Thread nD τ) ↦[arg1.view.set]{fullShare} x)
        ∗ (arg2.view.loc (c : Thread nD τ) ↦[arg2.view.set]{fullShare} y)
        ∗ (arg3.view.loc (c : Thread nD τ) ↦[arg3.view.set]{fullShare} f3) : sProp 𝕄)
      ⊢ wp frame (wpE (defs₀ (F := F)) Variants.none (c : Thread nD τ) none) Set.univ
          (cc2__norm_kernel (F := F) i arg1 harg1 arg2 harg2 arg3 harg3)
          (fun _ => iprop((arg1.view.loc (c : Thread nD τ) ↦[arg1.view.set]{fullShare} x)
            ∗ (arg2.view.loc (c : Thread nD τ) ↦[arg2.view.set]{fullShare} y)
            ∗ (arg3.view.loc (c : Thread nD τ) ↦[arg3.view.set]{fullShare} g))) } := by
  refine ⟨?_, fun f3 => ?run⟩
  case run =>
    iintro ⟨HX, HY, HO⟩
    sl_exec!
    sl_step
    sl_close

end Cert.KernelIdeal.Splat
-- ==== Proof.FeatsLoop.lean ====
/- One trip of the feature kernel's loop over a block's Gaussians, and the loop's invariant. -/
module

public import proofs.«01_k».proof.Proof.Gen.KernelIdeal
public import proofs.«01_k».proof.Proof.Gen.KernelIdeal.Loops
public import proofs.«01_k».proof.Proof.Gen.KernelIdeal.Skeleton
public import proofs.«01_k».proof.Proof.Gen.KernelIdeal.Points
public import Idealize.ShloMosaic.Lib.Exec
public import Idealize.ShloMosaic.Lib.Tactic

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The four buffers a trip of the feature loop touches: the features, the block's weights, the block's words, the accumulator. -/
abbrev FeatsHold (c : Dev nD) (arg2 : Memref sig .tc .vmem S512x256 .f32) (arg3 : Memref sig .tc .vmem S40816x256 .f32)
    (arg4 : Memref sig .tc .vmem S512x32 .f32) (arg5 : Memref sig .tc .vmem S512x8 .i32)
    (ft : Buf (Elt F) (arg2.view.loc (c : Thread nD τ))) (fw : Buf (Elt F) (arg4.view.loc (c : Thread nD τ)))
    (fi : Buf (Elt F) (arg5.view.loc (c : Thread nD τ))) (f : Buf (Elt F) (arg3.view.loc (c : Thread nD τ))) : sProp 𝕄 :=
  iprop((arg2.view.loc (c : Thread nD τ) ↦[arg2.view.set]{fullShare} ft)
    ∗ (arg4.view.loc (c : Thread nD τ) ↦[arg4.view.set]{fullShare} fw)
    ∗ (arg5.view.loc (c : Thread nD τ) ↦[arg5.view.set]{fullShare} fi)
    ∗ (arg3.view.loc (c : Thread nD τ) ↦[arg3.view.set]{fullShare} f))

/-- The row word of the Gaussian of trip `k`. -/
abbrev featsRow (c : Dev nD) (arg5 : Memref sig .tc .vmem S512x8 .i32) (fi : Buf (Elt F) (arg5.view.loc (c : Thread nD τ)))
    (k : Fin k1_t1_loop.trips) : BitVec 32 :=
  extractAt ![0, 0] (arg5.view.readAt (Elt F) (Rect.unit (s := S512x8) (k1_off1 k) S1x1.size (k1_off1_inb k)).toLoadRect fi) inpos_S1x1_p0_0

/-- One trip: the pieces it stores into the accumulator are found by the run. -/
@[irreducible] def featsTrip (c : Dev nD) (i : grid1.Coords) (arg1 : Memref sig .tc .vmem S1x8x512 .f32) (harg1 : arg1.IsWhole) (arg2 : Memref sig .tc .vmem S512x256 .f32) (harg2 : arg2.IsWhole) (arg3 : Memref sig .tc .vmem S40816x256 .f32) (harg3 : arg3.IsWhole) (arg4 : Memref sig .tc .vmem S512x32 .f32) (harg4 : arg4.IsWhole) (arg5 : Memref sig .tc .vmem S512x8 .i32) (harg5 : arg5.IsWhole) (v2016 : IVec S3x256 32) (v2030 : IVec S3x256 1) (v2034 : IVec S3x256 1) (v2039 : IVec S8x256 32) (v2040 : IVec S16x256 32)
    (ft : Buf (Elt F) (arg2.view.loc (c : Thread nD τ))) (fw : Buf (Elt F) (arg4.view.loc (c : Thread nD τ))) (fi : Buf (Elt F) (arg5.view.loc (c : Thread nD τ)))
    (k : Fin k1_t1_loop.trips) (hrow : k1_chk1 (featsRow c arg5 fi k)) :
    { L : Buf (Elt F) (arg3.view.loc (c : Thread nD τ)) → List (View.Piece (Elt F) S40816x256 .f32) //
      ∀ f, FeatsHold c arg2 arg3 arg4 arg5 ft fw fi f
        ⊢ wp frame (wpE (defs₀ (F := F)) Variants.none (c : Thread nD τ) none) Set.univ
            (k1_t1_body (F := F) i arg1 harg1 arg2 harg2 arg3 harg3 arg4 harg4 arg5 harg5 v2016 v2030 v2034 v2039 v2040 k ())
            (fun _ => FeatsHold c arg2 arg3 arg4 arg5 ft fw fi (arg3.view.writes (Elt F) f (L f))) } := by
  refine ⟨?_, fun f => ?run⟩
  case run =>
    unfold k1_t1_body
    iintro ⟨HF, HW, HI, HA⟩
    sl_exec
    sl_step
    sl_close

section Fold

variable (c : Dev nD) (i : grid1.Coords) (arg1 : Memref sig .tc .vmem S1x8x512 .f32) (harg1 : arg1.IsWhole) (arg2 : Memref sig .tc .vmem S512x256 .f32) (harg2 : arg2.IsWhole) (arg3 : Memref sig .tc .vmem S40816x256 .f32) (harg3 : arg3.IsWhole) (arg4 : Memref sig .tc .vmem S512x32 .f32) (harg4 : arg4.IsWhole) (arg5 : Memref sig .tc .vmem S512x8 .i32) (harg5 : arg5.IsWhole) (v2016 : IVec S3x256 32) (v2030 : IVec S3x256 1) (v2034 : IVec S3x256 1) (v2039 : IVec S8x256 32) (v2040 : IVec S16x256 32)
  (ft : Buf (Elt F) (arg2.view.loc (c : Thread nD τ))) (fw : Buf (Elt F) (arg4.view.loc (c : Thread nD τ))) (fi : Buf (Elt F) (arg5.view.loc (c : Thread nD τ)))
  (hrow : ∀ k, k1_chk1 (featsRow c arg5 fi k))

/-- The accumulator before trip `k`. -/
def featsFold (f : Buf (Elt F) (arg3.view.loc (c : Thread nD τ))) : ℕ → Buf (Elt F) (arg3.view.loc (c : Thread nD τ))
  | 0 => f
  | k + 1 =>
    if h : k < k1_t1_loop.trips then
      arg3.view.writes (Elt F) (featsFold f k)
        ((featsTrip c i arg1 harg1 arg2 harg2 arg3 harg3 arg4 harg4 arg5 harg5 v2016 v2030 v2034 v2039 v2040 ft fw fi ⟨k, h⟩ (hrow ⟨k, h⟩)).1 (featsFold f k))
    else featsFold f k

theorem featsFold_succ (f : Buf (Elt F) (arg3.view.loc (c : Thread nD τ))) (k : Fin k1_t1_loop.trips) :
    featsFold c i arg1 harg1 arg2 harg2 arg3 harg3 arg4 harg4 arg5 harg5 v2016 v2030 v2034 v2039 v2040 ft fw fi hrow f (k.val + 1)
      = arg3.view.writes (Elt F) (featsFold c i arg1 harg1 arg2 harg2 arg3 harg3 arg4 harg4 arg5 harg5 v2016 v2030 v2034 v2039 v2040 ft fw fi hrow f k)
          ((featsTrip c i arg1 harg1 arg2 harg2 arg3 harg3 arg4 harg4 arg5 harg5 v2016 v2030 v2034 v2039 v2040 ft fw fi k (hrow k)).1
            (featsFold c i arg1 harg1 arg2 harg2 arg3 harg3 arg4 harg4 arg5 harg5 v2016 v2030 v2034 v2039 v2040 ft fw fi hrow f k)) := by
  rw [featsFold.eq_2]; exact dif_pos k.isLt

/-- Before trip `k` the four buffers are held, the accumulator at the fold. -/
abbrev featsInv (f : Buf (Elt F) (arg3.view.loc (c : Thread nD τ))) (k : ℕ) (_ : Unit) : sProp 𝕄 :=
  FeatsHold c arg2 arg3 arg4 arg5 ft fw fi (featsFold c i arg1 harg1 arg2 harg2 arg3 harg3 arg4 harg4 arg5 harg5 v2016 v2030 v2034 v2039 v2040 ft fw fi hrow f k)

theorem featsInv_step (f : Buf (Elt F) (arg3.view.loc (c : Thread nD τ))) (k : Fin k1_t1_loop.trips) (u : Unit) :
    featsInv c i arg1 harg1 arg2 harg2 arg3 harg3 arg4 harg4 arg5 harg5 v2016 v2030 v2034 v2039 v2040 ft fw fi hrow f k u
      ⊢ wp frame (wpE (defs₀ (F := F)) Variants.none (c : Thread nD τ) none) Set.univ
          (k1_t1_body (F := F) i arg1 harg1 arg2 harg2 arg3 harg3 arg4 harg4 arg5 harg5 v2016 v2030 v2034 v2039 v2040 k u)
          (featsInv c i arg1 harg1 arg2 harg2 arg3 harg3 arg4 harg4 arg5 harg5 v2016 v2030 v2034 v2039 v2040 ft fw fi hrow f (k.val + 1)) := by
  have h := (featsTrip c i arg1 harg1 arg2 harg2 arg3 harg3 arg4 harg4 arg5 harg5 v2016 v2030 v2034 v2039 v2040 ft fw fi k (hrow k)).2
    (featsFold c i arg1 harg1 arg2 harg2 arg3 harg3 arg4 harg4 arg5 harg5 v2016 v2030 v2034 v2039 v2040 ft fw fi hrow f k)
  rw [← featsFold_succ c i arg1 harg1 arg2 harg2 arg3 harg3 arg4 harg4 arg5 harg5 v2016 v2030 v2034 v2039 v2040 ft fw fi hrow f k] at h
  exact h

end Fold

end Cert.KernelIdeal.Splat
-- ==== Proof.Words.lean ====
/- Word arithmetic of the splat kernels: a clipped word, and the floor to a multiple of eight. -/
module

public import Idealize.ShloMosaic.Lib.Affine

@[expose] public section

namespace Cert.Splat

open Idealize.ShloMosaic

/-- A word clipped to `[0, 199]`, as a natural number. -/
def clip199 (v : BitVec 32) : ℕ := (min 199 (max 0 v.toInt)).toNat

theorem clip199_le (v : BitVec 32) : clip199 v ≤ 199 := by unfold clip199; omega

theorem clip199_isInt (v : BitVec 32) : Affine.IsInt (IntOp.minsi 199#32 (IntOp.maxsi 0#32 v)) (clip199 v) := by
  have h0 : Affine.IsInt 0#32 0 := Affine.ofNat 0 (by omega)
  have h1 : Affine.IsInt 199#32 199 := Affine.ofNat 199 (by omega)
  have h2 : Affine.IsInt (Scalar.maxsi 0#32 v) (max 0 v.toInt) := Affine.maxsi h0 (Affine.word v) rfl
  exact Affine.minsi h1 h2 (by unfold clip199; omega)

/-- The word `a * 202 + b` of two clipped words. -/
theorem row_isInt (x y : BitVec 32) :
    Affine.IsInt (IntOp.addi (IntOp.muli (IntOp.minsi 199#32 (IntOp.maxsi 0#32 x)) 202#32) (IntOp.minsi 199#32 (IntOp.maxsi 0#32 y)))
      ((clip199 x * 202 + clip199 y : ℕ) : ℤ) := by
  have hx := clip199_le x
  have hy := clip199_le y
  have h202 : Affine.IsInt 202#32 202 := Affine.ofNat 202 (by omega)
  have h1 : Affine.IsInt (Scalar.muli (IntOp.minsi 199#32 (IntOp.maxsi 0#32 x)) 202#32) ((clip199 x : ℤ) * 202) :=
    Affine.muli (clip199_isInt x) h202 (by omega)
  exact Affine.addi h1 (clip199_isInt y) (by push_cast; omega)

/-- The floor of a word to a multiple of eight, as the kernels compute it. -/
def floor8 (w : BitVec 32) : BitVec 32 :=
  Scalar.muli
    (Scalar.select
      (Scalar.andi
        (Scalar.cmpi .ne
          (Scalar.subi (Scalar.extui (Scalar.cmpi .sgt w 0#32)) (Scalar.extui (Scalar.cmpi .slt w 0#32)))
          (Scalar.subi (Scalar.extui (Scalar.cmpi .sgt 8#32 0#32)) (Scalar.extui (Scalar.cmpi .slt 8#32 0#32))))
        (Scalar.cmpi .ne (Scalar.remsi w 8#32) 0#32))
      (Scalar.subi (Scalar.divsi w 8#32) 1#32) (Scalar.divsi w 8#32)) 8#32

theorem floor8_isInt {w : BitVec 32} {n : ℕ} (hw : Affine.IsInt w n) (hn : n < 2 ^ 20) :
    Affine.IsInt (floor8 w) ((n / 8 * 8 : ℕ) : ℤ) := by
  have h0 : Affine.IsInt 0#32 0 := Affine.ofNat 0 (by omega)
  have h1 : Affine.IsInt 1#32 1 := Affine.ofNat 1 (by omega)
  have h8 : Affine.IsInt 8#32 8 := Affine.ofNat 8 (by omega)
  have hd : Affine.IsInt (Scalar.divsi w 8#32) ((n / 8 : ℕ) : ℤ) := Affine.divsi hw h8 (by omega)
  have hr : Affine.IsInt (Scalar.remsi w 8#32) ((n % 8 : ℕ) : ℤ) := Affine.remsi hw h8 (by omega)
  have hlt : Affine.Fails (Scalar.cmpi .slt w 0#32) := Affine.slt_fails hw h0 (by omega)
  have hs8 : Affine.IsInt (Scalar.subi (Scalar.extui (Scalar.cmpi .sgt 8#32 0#32)) (Scalar.extui (Scalar.cmpi .slt 8#32 0#32))) 1 :=
    Affine.subi (Affine.extui_holds (Affine.sgt_holds h8 h0 (by omega)) rfl)
      (Affine.extui_fails (Affine.slt_fails h8 h0 (by omega)) rfl) (by omega)
  have hsel : Affine.IsInt (Scalar.select
      (Scalar.andi
        (Scalar.cmpi .ne
          (Scalar.subi (Scalar.extui (Scalar.cmpi .sgt w 0#32)) (Scalar.extui (Scalar.cmpi .slt w 0#32)))
          (Scalar.subi (Scalar.extui (Scalar.cmpi .sgt 8#32 0#32)) (Scalar.extui (Scalar.cmpi .slt 8#32 0#32))))
        (Scalar.cmpi .ne (Scalar.remsi w 8#32) 0#32))
      (Scalar.subi (Scalar.divsi w 8#32) 1#32) (Scalar.divsi w 8#32)) ((n / 8 : ℕ) : ℤ) := by
    refine Affine.select_fails ?_ (Affine.word _) hd rfl
    rcases Nat.eq_zero_or_pos n with hz | hz
    · exact Affine.andi_fails_right trivial (Affine.ne_fails hr h0 (by subst hz; rfl))
    · refine Affine.andi_fails_left (Affine.ne_fails (ea := 1) ?_ hs8 rfl) trivial
      exact Affine.subi (Affine.extui_holds (Affine.sgt_holds hw h0 (by omega)) rfl) (Affine.extui_fails hlt rfl) (by omega)
  exact Affine.muli hsel h8 (by push_cast; omega)

theorem floor8_toNat {w : BitVec 32} {n : ℕ} (hw : Affine.IsInt w n) (hn : n < 2 ^ 20) :
    (Scalar.indexCast (floor8 w)).toNat = n / 8 * 8 := by
  have h := Affine.toNat_of (Affine.indexCast (floor8_isInt hw hn)) (by omega)
  exact_mod_cast h

theorem add_isInt {w : BitVec 32} {n : ℕ} (hw : Affine.IsInt w n) (hn : n < 2 ^ 19) (m : ℕ) (hm : m < 2 ^ 10) :
    Affine.IsInt (Scalar.addi w (BitVec.ofNat 32 m)) ((n + m : ℕ) : ℤ) :=
  Affine.addi hw (Affine.ofNat (e := (m : ℤ)) m (by omega)) (by push_cast; omega)

end Cert.Splat
-- ==== Proof.FeatsBody.lean ====
/- The feature kernel's body at a grid point. -/
module

public import proofs.«01_k».proof.Proof.FeatsLoop
public import proofs.«01_k».proof.Proof.Words
public import Idealize.ShloMosaic.Lib.VecWindow
public import Idealize.ShloMosaic.Lib.Pointwise

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Splat

variable {F : FTy → Type} [FloatOps F]

local notation "𝕄" => MT nD τ sig Unit (Elt F) ℕ (UR sig nD τ) ℕ

/-- The offsets of an accumulator access from the row. -/
theorem foff_eq {w : BitVec 32} {n : ℕ} (hw : Affine.IsInt w n) (hn : n ≤ 40397) (m : ℕ) (hm : m < 2 ^ 10) :
    k1_off13 w (BitVec.ofNat 32 m) = ![(n + m) / 8 * 8, 0] := by
  have h := floor8_toNat (add_isInt hw (by omega) m hm) (by omega)
  unfold k1_off13
  funext a
  fin_cases a
  · exact h
  · rfl

theorem fchk1_of {w : BitVec 32} {n : ℕ} (hw : Affine.IsInt w n) (hn : n ≤ 40397) : k1_chk1 w := by
  unfold k1_chk1
  intro r a
  rw [foff_eq hw hn (202 * r.val) (by omega)]
  fin_cases a
  · show (n + 202 * r.val) / 8 * 8 + 16 ≤ 40816
    omega
  · show 0 + 256 ≤ 256
    omega

theorem pay294_row (a b : IVec S1x512 32) (d : IVec S1x512 32) (k : Fin 512) :
    k1_pay294 a b d (ix2 k 0)
      = IntOp.addi (IntOp.muli (IntOp.minsi 199#32 (IntOp.maxsi 0#32 (a (ix2 0 k)))) 202#32)
          (IntOp.minsi 199#32 (IntOp.maxsi 0#32 (b (ix2 0 k)))) := by
  unfold k1_pay294
  pointwise

/-- The row word of a trip, read from the words the body stores before the loop. -/
theorem featsRow_full (c : Dev nD) (arg5 : Memref sig .tc .vmem S512x8 .i32) (f : Buf (Elt F) (arg5.view.loc (c : Thread nD τ)))
    (w : IVec S512x8 32) (k : Fin k1_t1_loop.trips) :
    featsRow (F := F) c arg5 (arg5.view.writes (Elt F) f [⟨Rect.unit ![0, 0] S512x8.size inb_S512x8_S512x8_0_0, w⟩]) k
      = w (ix2 ⟨k.val, k.isLt⟩ 0) := by
  unfold featsRow extractAt
  rw [View.readAt_apply, View.read_writes_full]
  refine congrArg w (funext fun a => Fin.ext ?_)
  have hk : (Scalar.indexCast (Scf.iv 0#32 1#32 k.val)).toNat = k.val := by
    have h : Affine.IsInt (Scf.iv 0#32 1#32 k.val) k.val :=
      Affine.iv (Affine.ofNat (e := 0) 0 (by omega)) (Affine.ofNat (e := 1) 1 (by omega)) k.val
        (by have h2 : k.val < 512 := k.isLt; omega)
    exact_mod_cast Affine.toNat_of (Affine.indexCast h) (by omega)
  fin_cases a
  · show (Scalar.indexCast (Scf.iv 0#32 1#32 k.val)).toNat + 1 * 0 = k.val
    omega
  · rfl

theorem featsRow_chk (c : Dev nD) (arg5 : Memref sig .tc .vmem S512x8 .i32) (f : Buf (Elt F) (arg5.view.loc (c : Thread nD τ)))
    (a b : IVec S1x512 32) (d : IVec S1x512 32) (k : Fin k1_t1_loop.trips) :
    k1_chk1 (featsRow (F := F) c arg5 (arg5.view.writes (Elt F) f
      [⟨Rect.unit ![0, 0] S512x8.size inb_S512x8_S512x8_0_0, k1_pay294 a b d⟩]) k) := by
  rw [featsRow_full, pay294_row]
  refine fchk1_of (row_isInt _ _) ?_
  have hx := clip199_le (a (ix2 0 ⟨k.val, k.isLt⟩))
  have hy := clip199_le (b (ix2 0 ⟨k.val, k.isLt⟩))
  omega

/-- The body at the first grid point: the accumulator is zeroed, then receives the block's boxes. -/
@[irreducible] def featsBody0 (c : Dev nD) (i : grid1.Coords) (arg1 : Memref sig .tc .vmem S1x8x512 .f32) (harg1 : arg1.IsWhole) (arg2 : Memref sig .tc .vmem S512x256 .f32) (harg2 : arg2.IsWhole) (arg3 : Memref sig .tc .vmem S40816x256 .f32) (harg3 : arg3.IsWhole) (arg4 : Memref sig .tc .vmem S512x32 .f32) (harg4 : arg4.IsWhole) (arg5 : Memref sig .tc .vmem S512x8 .i32) (harg5 : arg5.IsWhole)
    (h0 : Scalar.cmpi .ne (Scalar.extui (Scalar.cmpi .eq (BitVec.ofNat 32 (i 0).val) 0#32)) 0#32 = 1#1)
    (x : Buf (Elt F) (arg1.view.loc (c : Thread nD τ))) (ft : Buf (Elt F) (arg2.view.loc (c : Thread nD τ))) :
    { g : Buf (Elt F) (arg3.view.loc (c : Thread nD τ)) // ∀ (f3 : Buf (Elt F) (arg3.view.loc (c : Thread nD τ)))
        (f4 : Buf (Elt F) (arg4.view.loc (c : Thread nD τ))) (f5 : Buf (Elt F) (arg5.view.loc (c : Thread nD τ))),
      iprop((arg1.view.loc (c : Thread nD τ) ↦[arg1.view.set]{fullShare} x)
        ∗ (arg2.view.loc (c : Thread nD τ) ↦[arg2.view.set]{fullShare} ft)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5) : sProp 𝕄)
      ⊢ wp frame (wpE (defs₀ (F := F)) Variants.none (c : Thread nD τ) none) Set.univ
          (cc1__feats_kernel (F := F) i arg1 harg1 arg2 harg2 arg3 harg3 arg4 harg4 arg5 harg5)
          (fun _ => iprop((arg1.view.loc (c : Thread nD τ) ↦[arg1.view.set]{fullShare} x)
            ∗ (arg2.view.loc (c : Thread nD τ) ↦[arg2.view.set]{fullShare} ft)
            ∗ (arg3.view.loc (c : Thread nD τ) ↦[arg3.view.set]{fullShare} g)
            ∗ (∃ f4 : Buf (Elt F) (arg4.view.loc (c : Thread nD τ)), arg4.view.loc (c : Thread nD τ) ↦[arg4.view.set]{fullShare} f4)
            ∗ (∃ f5 : Buf (Elt F) (arg5.view.loc (c : Thread nD τ)), arg5.view.loc (c : Thread nD τ) ↦[arg5.view.set]{fullShare} f5))) } := by
  refine ⟨?_, fun f3 f4 f5 => ?run⟩
  case run =>
    iintro ⟨HX, HF, HA, HW, HI⟩
    sl_exec!
    sl_for (featsInv c i arg1 harg1 arg2 harg2 arg3 harg3 arg4 harg4 arg5 harg5 (divsi featsBody0.sl.v2014 featsBody0.sl.v2015) featsBody0.sl.v2030 featsBody0.sl.v2034 featsBody0.sl.v2039 featsBody0.sl.v2040 ft
      (arg4.view.writes (Elt F) arg4.view.junk (featsBody0.sl.HW_1 c arg1 x))
      (arg5.view.writes (Elt F) arg5.view.junk (featsBody0.sl.HI_1 c arg1 x)) (fun k => featsRow_chk c arg5 _ _ _ _ k)
      (arg3.view.writes (Elt F) arg3.view.junk featsBody0.sl.HA_1)) $$ [HF HW HI HA]
    · intro k u; exact featsInv_step (F := F) c i arg1 harg1 arg2 harg2 arg3 harg3 arg4 harg4 arg5 harg5 _ _ _ _ _ _ _ _ _ _ k u
    · sl_close
    iintro %acc ⟨HF, HW, HI, HA⟩
    sl_step
    sl_close

/-- The body at a later grid point: the accumulator receives the block's boxes. -/
@[irreducible] def featsBodyS (c : Dev nD) (i : grid1.Coords) (arg1 : Memref sig .tc .vmem S1x8x512 .f32) (harg1 : arg1.IsWhole) (arg2 : Memref sig .tc .vmem S512x256 .f32) (harg2 : arg2.IsWhole) (arg3 : Memref sig .tc .vmem S40816x256 .f32) (harg3 : arg3.IsWhole) (arg4 : Memref sig .tc .vmem S512x32 .f32) (harg4 : arg4.IsWhole) (arg5 : Memref sig .tc .vmem S512x8 .i32) (harg5 : arg5.IsWhole)
    (h0 : ¬ Scalar.cmpi .ne (Scalar.extui (Scalar.cmpi .eq (BitVec.ofNat 32 (i 0).val) 0#32)) 0#32 = 1#1)
    (x : Buf (Elt F) (arg1.view.loc (c : Thread nD τ))) (ft : Buf (Elt F) (arg2.view.loc (c : Thread nD τ))) :
    { g : Buf (Elt F) (arg3.view.loc (c : Thread nD τ)) → Buf (Elt F) (arg3.view.loc (c : Thread nD τ)) // ∀ (f3 : Buf (Elt F) (arg3.view.loc (c : Thread nD τ)))
        (f4 : Buf (Elt F) (arg4.view.loc (c : Thread nD τ))) (f5 : Buf (Elt F) (arg5.view.loc (c : Thread nD τ))),
      iprop((arg1.view.loc (c : Thread nD τ) ↦[arg1.view.set]{fullShare} x)
        ∗ (arg2.view.loc (c : Thread nD τ) ↦[arg2.view.set]{fullShare} ft)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5) : sProp 𝕄)
      ⊢ wp frame (wpE (defs₀ (F := F)) Variants.none (c : Thread nD τ) none) Set.univ
          (cc1__feats_kernel (F := F) i arg1 harg1 arg2 harg2 arg3 harg3 arg4 harg4 arg5 harg5)
          (fun _ => iprop((arg1.view.loc (c : Thread nD τ) ↦[arg1.view.set]{fullShare} x)
            ∗ (arg2.view.loc (c : Thread nD τ) ↦[arg2.view.set]{fullShare} ft)
            ∗ (arg3.view.loc (c : Thread nD τ) ↦[arg3.view.set]{fullShare} (g f3))
            ∗ (∃ f4 : Buf (Elt F) (arg4.view.loc (c : Thread nD τ)), arg4.view.loc (c : Thread nD τ) ↦[arg4.view.set]{fullShare} f4)
            ∗ (∃ f5 : Buf (Elt F) (arg5.view.loc (c : Thread nD τ)), arg5.view.loc (c : Thread nD τ) ↦[arg5.view.set]{fullShare} f5))) } := by
  refine ⟨?_, fun f3 f4 f5 => ?run⟩
  case run =>
    iintro ⟨HX, HF, HA, HW, HI⟩
    sl_exec!
    sl_for (featsInv c i arg1 harg1 arg2 harg2 arg3 harg3 arg4 harg4 arg5 harg5 (divsi featsBodyS.sl.v2014 featsBodyS.sl.v2015) featsBodyS.sl.v2030 featsBodyS.sl.v2034 featsBodyS.sl.v2039 featsBodyS.sl.v2040 ft
      (arg4.view.writes (Elt F) arg4.view.junk (featsBodyS.sl.HW_1 c arg1 x))
      (arg5.view.writes (Elt F) arg5.view.junk (featsBodyS.sl.HI_1 c arg1 x)) (fun k => featsRow_chk c arg5 _ _ _ _ k)
      f3) $$ [HF HW HI HA]
    · intro k u; exact featsInv_step (F := F) c i arg1 harg1 arg2 harg2 arg3 harg3 arg4 harg4 arg5 harg5 _ _ _ _ _ _ _ _ _ _ k u
    · sl_close
    iintro %acc ⟨HF, HW, HI, HA⟩
    sl_step
    sl_close

end Cert.KernelIdeal.Splat
-- ==== Proof.DensLoop.lean ====
/- One trip of the density kernel's loop over a block's Gaussians, and the loop's invariant. -/
module

public import proofs.«01_k».proof.Proof.Gen.KernelIdeal
public import proofs.«01_k».proof.Proof.Gen.KernelIdeal.Loops
public import proofs.«01_k».proof.Proof.Gen.KernelIdeal.Skeleton
public import proofs.«01_k».proof.Proof.Gen.KernelIdeal.Points
public import Idealize.ShloMosaic.Lib.Exec
public import Idealize.ShloMosaic.Lib.Tactic

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three buffers a trip of the density loop touches: the accumulator, the block's weights, the block's words. -/
abbrev DensHold (c : Dev nD) (arg2 : Memref sig .tc .vmem S40816x16 .f32) (arg3 : Memref sig .tc .vmem S512x32 .f32)
    (arg4 : Memref sig .tc .vmem S512x8 .i32) (fw : Buf (Elt F) (arg3.view.loc (c : Thread nD τ)))
    (fi : Buf (Elt F) (arg4.view.loc (c : Thread nD τ))) (f : Buf (Elt F) (arg2.view.loc (c : Thread nD τ))) : sProp 𝕄 :=
  iprop((arg3.view.loc (c : Thread nD τ) ↦[arg3.view.set]{fullShare} fw)
    ∗ (arg4.view.loc (c : Thread nD τ) ↦[arg4.view.set]{fullShare} fi)
    ∗ (arg2.view.loc (c : Thread nD τ) ↦[arg2.view.set]{fullShare} f))

/-- The row word of the Gaussian of trip `k`. -/
abbrev densRow (c : Dev nD) (arg4 : Memref sig .tc .vmem S512x8 .i32) (fi : Buf (Elt F) (arg4.view.loc (c : Thread nD τ)))
    (k : Fin k0_t1_loop.trips) : BitVec 32 :=
  extractAt ![0, 0] (arg4.view.readAt (Elt F) (Rect.unit (s := S512x8) (k0_off1 k) S1x1.size (k0_off1_inb k)).toLoadRect fi) inpos_S1x1_p0_0

/-- One trip: the pieces it stores into the accumulator are found by the run. -/
@[irreducible] def densTrip (c : Dev nD) (i : grid0.Coords) (arg1 : Memref sig .tc .vmem S1x8x512 .f32) (harg1 : arg1.IsWhole) (arg2 : Memref sig .tc .vmem S40816x16 .f32) (harg2 : arg2.IsWhole) (arg3 : Memref sig .tc .vmem S512x32 .f32) (harg3 : arg3.IsWhole) (arg4 : Memref sig .tc .vmem S512x8 .i32) (harg4 : arg4.IsWhole) (v2014 : IVec S3x16 32) (v2015 : IVec S16x16 32)
    (fw : Buf (Elt F) (arg3.view.loc (c : Thread nD τ))) (fi : Buf (Elt F) (arg4.view.loc (c : Thread nD τ)))
    (k : Fin k0_t1_loop.trips) (hrow : k0_chk1 (densRow c arg4 fi k)) :
    { L : Buf (Elt F) (arg2.view.loc (c : Thread nD τ)) → List (View.Piece (Elt F) S40816x16 .f32) //
      ∀ f, DensHold c arg2 arg3 arg4 fw fi f
        ⊢ wp frame (wpE (defs₀ (F := F)) Variants.none (c : Thread nD τ) none) Set.univ
            (k0_t1_body (F := F) i arg1 harg1 arg2 harg2 arg3 harg3 arg4 harg4 v2014 v2015 k ())
            (fun _ => DensHold c arg2 arg3 arg4 fw fi (arg2.view.writes (Elt F) f (L f))) } := by
  refine ⟨?_, fun f => ?run⟩
  case run =>
    unfold k0_t1_body
    iintro ⟨HW, HI, HA⟩
    sl_exec
    sl_step
    sl_close

section Fold

variable (c : Dev nD) (i : grid0.Coords) (arg1 : Memref sig .tc .vmem S1x8x512 .f32) (harg1 : arg1.IsWhole) (arg2 : Memref sig .tc .vmem S40816x16 .f32) (harg2 : arg2.IsWhole) (arg3 : Memref sig .tc .vmem S512x32 .f32) (harg3 : arg3.IsWhole) (arg4 : Memref sig .tc .vmem S512x8 .i32) (harg4 : arg4.IsWhole) (v2014 : IVec S3x16 32) (v2015 : IVec S16x16 32)
  (fw : Buf (Elt F) (arg3.view.loc (c : Thread nD τ))) (fi : Buf (Elt F) (arg4.view.loc (c : Thread nD τ)))
  (hrow : ∀ k, k0_chk1 (densRow c arg4 fi k))

/-- The accumulator before trip `k`. -/
def densFold (f : Buf (Elt F) (arg2.view.loc (c : Thread nD τ))) : ℕ → Buf (Elt F) (arg2.view.loc (c : Thread nD τ))
  | 0 => f
  | k + 1 =>
    if h : k < k0_t1_loop.trips then
      arg2.view.writes (Elt F) (densFold f k)
        ((densTrip c i arg1 harg1 arg2 harg2 arg3 harg3 arg4 harg4 v2014 v2015 fw fi ⟨k, h⟩ (hrow ⟨k, h⟩)).1 (densFold f k))
    else densFold f k

theorem densFold_succ (f : Buf (Elt F) (arg2.view.loc (c : Thread nD τ))) (k : Fin k0_t1_loop.trips) :
    densFold c i arg1 harg1 arg2 harg2 arg3 harg3 arg4 harg4 v2014 v2015 fw fi hrow f (k.val + 1)
      = arg2.view.writes (Elt F) (densFold c i arg1 harg1 arg2 harg2 arg3 harg3 arg4 harg4 v2014 v2015 fw fi hrow f k)
          ((densTrip c i arg1 harg1 arg2 harg2 arg3 harg3 arg4 harg4 v2014 v2015 fw fi k (hrow k)).1
            (densFold c i arg1 harg1 arg2 harg2 arg3 harg3 arg4 harg4 v2014 v2015 fw fi hrow f k)) := by
  rw [densFold.eq_2]; exact dif_pos k.isLt

/-- Before trip `k` the three buffers are held, the accumulator at the fold. -/
abbrev densInv (f : Buf (Elt F) (arg2.view.loc (c : Thread nD τ))) (k : ℕ) (_ : Unit) : sProp 𝕄 :=
  DensHold c arg2 arg3 arg4 fw fi (densFold c i arg1 harg1 arg2 harg2 arg3 harg3 arg4 harg4 v2014 v2015 fw fi hrow f k)

theorem densInv_step (f : Buf (Elt F) (arg2.view.loc (c : Thread nD τ))) (k : Fin k0_t1_loop.trips) (u : Unit) :
    densInv c i arg1 harg1 arg2 harg2 arg3 harg3 arg4 harg4 v2014 v2015 fw fi hrow f k u
      ⊢ wp frame (wpE (defs₀ (F := F)) Variants.none (c : Thread nD τ) none) Set.univ
          (k0_t1_body (F := F) i arg1 harg1 arg2 harg2 arg3 harg3 arg4 harg4 v2014 v2015 k u)
          (densInv c i arg1 harg1 arg2 harg2 arg3 harg3 arg4 harg4 v2014 v2015 fw fi hrow f (k.val + 1)) := by
  have h := (densTrip c i arg1 harg1 arg2 harg2 arg3 harg3 arg4 harg4 v2014 v2015 fw fi k (hrow k)).2
    (densFold c i arg1 harg1 arg2 harg2 arg3 harg3 arg4 harg4 v2014 v2015 fw fi hrow f k)
  rw [← densFold_succ c i arg1 harg1 arg2 harg2 arg3 harg3 arg4 harg4 v2014 v2015 fw fi hrow f k] at h
  exact h

end Fold

end Cert.KernelIdeal.Splat
-- ==== Proof.DensBody.lean ====
/- The density kernel's body at a grid point. -/
module

public import proofs.«01_k».proof.Proof.DensLoop
public import proofs.«01_k».proof.Proof.Words
public import Idealize.ShloMosaic.Lib.VecWindow
public import Idealize.ShloMosaic.Lib.Pointwise

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Splat

variable {F : FTy → Type} [FloatOps F]

local notation "𝕄" => MT nD τ sig Unit (Elt F) ℕ (UR sig nD τ) ℕ

/-- The offsets of an accumulator access from the row. -/
theorem off12_eq {w : BitVec 32} {n : ℕ} (hw : Affine.IsInt w n) (hn : n ≤ 40397) (m : ℕ) (hm : m < 2 ^ 10) :
    k0_off12 w (BitVec.ofNat 32 m) = ![(n + m) / 8 * 8, 0] := by
  have h := floor8_toNat (add_isInt hw (by omega) m hm) (by omega)
  unfold k0_off12
  funext a
  fin_cases a
  · exact h
  · rfl

theorem chk1_of {w : BitVec 32} {n : ℕ} (hw : Affine.IsInt w n) (hn : n ≤ 40397) : k0_chk1 w := by
  unfold k0_chk1
  intro r a
  rw [off12_eq hw hn (202 * r.val) (by omega)]
  fin_cases a
  · show (n + 202 * r.val) / 8 * 8 + 16 ≤ 40816
    omega
  · show 0 + 16 ≤ 16
    omega

theorem pay1_row (a b : IVec S1x512 32) (c : BitVec 32) (d : IVec S1x512 32) (k : Fin 512) :
    k0_pay1 (k0_pay290 a) (k0_pay291 b) c d (ix2 k 0)
      = IntOp.addi (IntOp.muli (IntOp.minsi 199#32 (IntOp.maxsi 0#32 (a (ix2 0 k)))) 202#32)
          (IntOp.minsi 199#32 (IntOp.maxsi 0#32 (b (ix2 0 k)))) := by
  unfold k0_pay1 k0_pay290 k0_pay291
  pointwise

/-- The row word of a trip, read from the words the body stores before the loop. -/
theorem densRow_full (c : Dev nD) (arg4 : Memref sig .tc .vmem S512x8 .i32) (f : Buf (Elt F) (arg4.view.loc (c : Thread nD τ)))
    (w : IVec S512x8 32) (k : Fin k0_t1_loop.trips) :
    densRow (F := F) c arg4 (arg4.view.writes (Elt F) f [⟨Rect.unit ![0, 0] S512x8.size inb_S512x8_S512x8_0_0, w⟩]) k
      = w (ix2 ⟨k.val, k.isLt⟩ 0) := by
  unfold densRow extractAt
  rw [View.readAt_apply, View.read_writes_full]
  refine congrArg w (funext fun a => Fin.ext ?_)
  have hk : (Scalar.indexCast (Scf.iv 0#32 1#32 k.val)).toNat = k.val := by
    have h : Affine.IsInt (Scf.iv 0#32 1#32 k.val) k.val :=
      Affine.iv (Affine.ofNat (e := 0) 0 (by omega)) (Affine.ofNat (e := 1) 1 (by omega)) k.val
        (by have h2 : k.val < 512 := k.isLt; omega)
    exact_mod_cast Affine.toNat_of (Affine.indexCast h) (by omega)
  fin_cases a
  · show (Scalar.indexCast (Scf.iv 0#32 1#32 k.val)).toNat + 1 * 0 = k.val
    omega
  · rfl

theorem densRow_chk (c : Dev nD) (arg4 : Memref sig .tc .vmem S512x8 .i32) (f : Buf (Elt F) (arg4.view.loc (c : Thread nD τ)))
    (a b : IVec S1x512 32) (e : BitVec 32) (d : IVec S1x512 32) (k : Fin k0_t1_loop.trips) :
    k0_chk1 (densRow (F := F) c arg4 (arg4.view.writes (Elt F) f
      [⟨Rect.unit ![0, 0] S512x8.size inb_S512x8_S512x8_0_0, k0_pay1 (k0_pay290 a) (k0_pay291 b) e d⟩]) k) := by
  rw [densRow_full, pay1_row]
  refine chk1_of (row_isInt _ _) ?_
  have hx := clip199_le (a (ix2 0 ⟨k.val, k.isLt⟩))
  have hy := clip199_le (b (ix2 0 ⟨k.val, k.isLt⟩))
  omega

/-- The body at the first grid point: the accumulator is zeroed, then receives the block's boxes. -/
@[irreducible] def densBody0 (c : Dev nD) (i : grid0.Coords) (arg1 : Memref sig .tc .vmem S1x8x512 .f32) (harg1 : arg1.IsWhole)
    (arg2 : Memref sig .tc .vmem S40816x16 .f32) (harg2 : arg2.IsWhole)
    (arg3 : Memref sig .tc .vmem S512x32 .f32) (harg3 : arg3.IsWhole) (arg4 : Memref sig .tc .vmem S512x8 .i32) (harg4 : arg4.IsWhole)
    (h0 : Scalar.cmpi .ne (Scalar.extui (Scalar.cmpi .eq (BitVec.ofNat 32 (i 0).val) 0#32)) 0#32 = 1#1)
    (x : Buf (Elt F) (arg1.view.loc (c : Thread nD τ))) :
    { g : Buf (Elt F) (arg2.view.loc (c : Thread nD τ)) // ∀ (f2 : Buf (Elt F) (arg2.view.loc (c : Thread nD τ)))
        (f3 : Buf (Elt F) (arg3.view.loc (c : Thread nD τ))) (f4 : Buf (Elt F) (arg4.view.loc (c : Thread nD τ))),
      iprop((arg1.view.loc (c : Thread nD τ) ↦[arg1.view.set]{fullShare} x)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4) : sProp 𝕄)
      ⊢ wp frame (wpE (defs₀ (F := F)) Variants.none (c : Thread nD τ) none) Set.univ
          (cc0__dens_kernel (F := F) i arg1 harg1 arg2 harg2 arg3 harg3 arg4 harg4)
          (fun _ => iprop((arg1.view.loc (c : Thread nD τ) ↦[arg1.view.set]{fullShare} x)
            ∗ (arg2.view.loc (c : Thread nD τ) ↦[arg2.view.set]{fullShare} g)
            ∗ (∃ f3 : Buf (Elt F) (arg3.view.loc (c : Thread nD τ)), arg3.view.loc (c : Thread nD τ) ↦[arg3.view.set]{fullShare} f3)
            ∗ (∃ f4 : Buf (Elt F) (arg4.view.loc (c : Thread nD τ)), arg4.view.loc (c : Thread nD τ) ↦[arg4.view.set]{fullShare} f4))) } := by
  refine ⟨?_, fun f2 f3 f4 => ?run⟩
  case run =>
    iintro ⟨HX, HA, HW, HI⟩
    sl_exec!
    sl_for (densInv c i arg1 harg1 arg2 harg2 arg3 harg3 arg4 harg4 densBody0.sl.v2014 densBody0.sl.v2015
      (arg3.view.writes (Elt F) arg3.view.junk (densBody0.sl.HW_1 c arg1 x))
      (arg4.view.writes (Elt F) arg4.view.junk (densBody0.sl.HI_1 c arg1 x)) (fun k => densRow_chk c arg4 _ _ _ _ _ k)
      (arg2.view.writes (Elt F) arg2.view.junk densBody0.sl.HA_1)) $$ [HW HI HA]
    · intro k u; exact densInv_step (F := F) c i arg1 harg1 arg2 harg2 arg3 harg3 arg4 harg4 _ _ _ _ _ _ k u
    · sl_close
    iintro %acc ⟨HW, HI, HA⟩
    sl_step
    sl_close

/-- The body at a later grid point: the accumulator receives the block's boxes. -/
@[irreducible] def densBodyS (c : Dev nD) (i : grid0.Coords) (arg1 : Memref sig .tc .vmem S1x8x512 .f32) (harg1 : arg1.IsWhole)
    (arg2 : Memref sig .tc .vmem S40816x16 .f32) (harg2 : arg2.IsWhole)
    (arg3 : Memref sig .tc .vmem S512x32 .f32) (harg3 : arg3.IsWhole) (arg4 : Memref sig .tc .vmem S512x8 .i32) (harg4 : arg4.IsWhole)
    (h0 : ¬ Scalar.cmpi .ne (Scalar.extui (Scalar.cmpi .eq (BitVec.ofNat 32 (i 0).val) 0#32)) 0#32 = 1#1)
    (x : Buf (Elt F) (arg1.view.loc (c : Thread nD τ))) :
    { g : Buf (Elt F) (arg2.view.loc (c : Thread nD τ)) → Buf (Elt F) (arg2.view.loc (c : Thread nD τ)) // ∀ (f2 : Buf (Elt F) (arg2.view.loc (c : Thread nD τ)))
        (f3 : Buf (Elt F) (arg3.view.loc (c : Thread nD τ))) (f4 : Buf (Elt F) (arg4.view.loc (c : Thread nD τ))),
      iprop((arg1.view.loc (c : Thread nD τ) ↦[arg1.view.set]{fullShare} x)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4) : sProp 𝕄)
      ⊢ wp frame (wpE (defs₀ (F := F)) Variants.none (c : Thread nD τ) none) Set.univ
          (cc0__dens_kernel (F := F) i arg1 harg1 arg2 harg2 arg3 harg3 arg4 harg4)
          (fun _ => iprop((arg1.view.loc (c : Thread nD τ) ↦[arg1.view.set]{fullShare} x)
            ∗ (arg2.view.loc (c : Thread nD τ) ↦[arg2.view.set]{fullShare} g f2)
            ∗ (∃ f3 : Buf (Elt F) (arg3.view.loc (c : Thread nD τ)), arg3.view.loc (c : Thread nD τ) ↦[arg3.view.set]{fullShare} f3)
            ∗ (∃ f4 : Buf (Elt F) (arg4.view.loc (c : Thread nD τ)), arg4.view.loc (c : Thread nD τ) ↦[arg4.view.set]{fullShare} f4))) } := by
  refine ⟨?_, fun f2 f3 f4 => ?run⟩
  case run =>
    iintro ⟨HX, HA, HW, HI⟩
    sl_exec!
    sl_for (densInv c i arg1 harg1 arg2 harg2 arg3 harg3 arg4 harg4 densBodyS.sl.v2014 densBodyS.sl.v2015
      (arg3.view.writes (Elt F) arg3.view.junk (densBodyS.sl.HW_1 c arg1 x))
      (arg4.view.writes (Elt F) arg4.view.junk (densBodyS.sl.HI_1 c arg1 x)) (fun k => densRow_chk c arg4 _ _ _ _ _ k)
      f2) $$ [HW HI HA]
    · intro k u; exact densInv_step (F := F) c i arg1 harg1 arg2 harg2 arg3 harg3 arg4 harg4 _ _ _ _ _ _ k u
    · sl_close
    iintro %acc ⟨HW, HI, HA⟩
    sl_step
    sl_close

end Cert.KernelIdeal.Splat
-- ==== Proof.DensRegion.lean ====
/- The density kernel's proof data and body obligation, from a valuation of the unscoped buffers. -/
module

public import proofs.«01_k».proof.Proof.DensBody
public import proofs.«01_k».proof.Proof.Gen.KernelIdeal.Regions
public import Idealize.ShloMosaic.Lib.Pipeline.FrameBody
public import Idealize.ShloMosaic.Lib.Pipeline.RegionArraysS

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The accumulator is zeroed at the first point only. -/
theorem dens_first : ∀ t : Fin grid0.N,
    (Scalar.cmpi .ne (Scalar.extui (Scalar.cmpi .eq (BitVec.ofNat 32 (grid0.coords t 0).val) 0#32)) 0#32 = 1#1) ↔ t.val = 0 := by
  decide +kernel

/-- The condition under which the accumulator is zeroed. -/
abbrev densFirst (i : grid0.Coords) : Prop :=
  Scalar.cmpi .ne (Scalar.extui (Scalar.cmpi .eq (BitVec.ofNat 32 (i 0).val) 0#32)) 0#32 = 1#1

section
variable (c : Dev nD) (i : grid0.Coords) (M0 : Memref sig .tc .vmem S1x8x512 .f32) (h0 : M0.IsWhole)
  (M1 : Memref sig .tc .vmem S40816x16 .f32) (h1 : M1.IsWhole) (x : S1x8x512.Idx → Elt F .f32) (acc : S40816x16.Idx → Elt F .f32)

/-- What the body leaves in the accumulator's staging buffer, over the block `x` and the accumulator `acc`. -/
def densOut : S40816x16.Idx → Elt F .f32 :=
  if h : densFirst i then
    M1.view.read (Elt F) (densBody0 (F := F) c i M0 h0 M1 h1 (Memref.whole cc0_scratch0) (Memref.isWhole_whole _)
      (Memref.whole cc0_scratch1) (Memref.isWhole_whole _) h (h0.unread x)).1
  else
    M1.view.read (Elt F) ((densBodyS (F := F) c i M0 h0 M1 h1 (Memref.whole cc0_scratch0) (Memref.isWhole_whole _)
      (Memref.whole cc0_scratch1) (Memref.isWhole_whole _) h (h0.unread x)).1 (h1.unread acc))

theorem densOut_first (h : densFirst i) (acc' : S40816x16.Idx → Elt F .f32) :
    densOut c i M0 h0 M1 h1 x acc = densOut c i M0 h0 M1 h1 x acc' := by
  unfold densOut; rw [dif_pos h, dif_pos h]

end

/-- A scratch buffer at some contents, as a body spells it. -/
theorem scr_eq (c : Dev nD) (b : Ref sig .tc) :
    (iprop(∃ f, (Memref.whole b).view.loc (c : Thread nD τ) ↦[(Memref.whole b).view.set]{fullShare} f) : sProp 𝕄)
      = iprop(∃ f : Buf (Elt F) ((c : Thread nD τ).loc b), ((c : Thread nD τ).loc b) ↦{fullShare} f) := by
  have h : (Memref.whole b).view.set = Finset.univ := by rw [Memref.view_whole, View.set_whole]
  rw [h]

/-- A body's run over raw contents is one over the staging buffers owned at what they read. -/
theorem wrap2 {c : Dev nD} {s0 s1 s2 s3 : Shape} {e0 e1 e2 e3 : EltTy} {M0 : Memref sig .tc .vmem s0 e0} (h0 : M0.IsWhole)
    {M1 : Memref sig .tc .vmem s1 e1} (h1 : M1.IsWhole) {M2 : Memref sig .tc .vmem s2 e2} {M3 : Memref sig .tc .vmem s3 e3}
    (x : s0.Idx → Elt F e0) (acc v : s1.Idx → Elt F e1) {g : Buf (Elt F) (M1.view.loc (c : Thread nD τ))}
    (hv : M1.view.read (Elt F) g = v) {W : sWPT 𝕄 PUnit}
    (H : ∀ (f2 : Buf (Elt F) (M2.view.loc (c : Thread nD τ))) (f3 : Buf (Elt F) (M3.view.loc (c : Thread nD τ))),
      (iprop((M0.view.loc (c : Thread nD τ) ↦[M0.view.set]{fullShare} h0.unread x) ∗ (M1.view.loc (c : Thread nD τ) ↦[M1.view.set]{fullShare} h1.unread acc)
          ∗ (M2.view.loc (c : Thread nD τ) ↦[M2.view.set]{fullShare} f2) ∗ (M3.view.loc (c : Thread nD τ) ↦[M3.view.set]{fullShare} f3)) : sProp 𝕄)
        ⊢ W (fun _ => iprop((M0.view.loc (c : Thread nD τ) ↦[M0.view.set]{fullShare} h0.unread x) ∗ (M1.view.loc (c : Thread nD τ) ↦[M1.view.set]{fullShare} g)
          ∗ (∃ f2, M2.view.loc (c : Thread nD τ) ↦[M2.view.set]{fullShare} f2) ∗ (∃ f3, M3.view.loc (c : Thread nD τ) ↦[M3.view.set]{fullShare} f3)))) :
    (iprop(owns (c : Thread nD τ) M0 fullShare x ∗ owns (c : Thread nD τ) M1 fullShare acc
        ∗ (∃ f2, M2.view.loc (c : Thread nD τ) ↦[M2.view.set]{fullShare} f2) ∗ (∃ f3, M3.view.loc (c : Thread nD τ) ↦[M3.view.set]{fullShare} f3)) : sProp 𝕄)
      ⊢ W (fun _ => iprop(owns (c : Thread nD τ) M0 fullShare x ∗ owns (c : Thread nD τ) M1 fullShare v
        ∗ (∃ f2, M2.view.loc (c : Thread nD τ) ↦[M2.view.set]{fullShare} f2) ∗ (∃ f3, M3.view.loc (c : Thread nD τ) ↦[M3.view.set]{fullShare} f3))) := by
  have hx := h0.read_unread (Val := Elt F) x
  unfold owns
  have hpost : (iprop((M0.view.loc (c : Thread nD τ) ↦[M0.view.set]{fullShare} h0.unread x) ∗ (M1.view.loc (c : Thread nD τ) ↦[M1.view.set]{fullShare} g)
        ∗ (∃ f2, M2.view.loc (c : Thread nD τ) ↦[M2.view.set]{fullShare} f2) ∗ (∃ f3, M3.view.loc (c : Thread nD τ) ↦[M3.view.set]{fullShare} f3)) : sProp 𝕄)
      ⊢ iprop((∃ f, ⌜M0.view.read (Elt F) f = x⌝ ∗ (M0.view.loc (c : Thread nD τ) ↦[M0.view.set]{fullShare} f))
        ∗ (∃ f, ⌜M1.view.read (Elt F) f = v⌝ ∗ (M1.view.loc (c : Thread nD τ) ↦[M1.view.set]{fullShare} f))
        ∗ (∃ f2, M2.view.loc (c : Thread nD τ) ↦[M2.view.set]{fullShare} f2) ∗ (∃ f3, M3.view.loc (c : Thread nD τ) ↦[M3.view.set]{fullShare} f3)) := by
    iintro ⟨H1, H2, H3, H4⟩
    isplitl [H1]; · iexists _; isplitr; swap; (· iexact H1); ipureintro; exact hx
    isplitl [H2]; · iexists _; isplitr; swap; (· iexact H2); ipureintro; exact hv
    isplitl [H3]; · iexact H3
    iexact H4
  iintro ⟨⟨%f1, %e1, H1⟩, ⟨%f2, %e2, H2⟩, ⟨%f3, H3⟩, ⟨%f4, H4⟩⟩
  obtain rfl := h0.eq_unread e1
  obtain rfl := h1.eq_unread e2
  iapply ((H f3 f4).trans (W.mono fun _ => hpost)) $$ [H1 H2 H3 H4]
  isplitl [H1]; · iexact H1
  isplitl [H2]; · iexact H2
  isplitl [H3]; · iexact H3
  iexact H4

/-- The two scratch buffers of the kernel, each at some contents. -/
abbrev densScr (c : Dev nD) : sProp 𝕄 :=
  iprop((∃ f, (Memref.whole cc0_scratch0).view.loc (c : Thread nD τ) ↦[(Memref.whole cc0_scratch0).view.set]{fullShare} f)
    ∗ (∃ f, (Memref.whole cc0_scratch1).view.loc (c : Thread nD τ) ↦[(Memref.whole cc0_scratch1).view.set]{fullShare} f))

/-- The body over the two staging buffers owned at `x` and `acc`. -/
theorem dens_sound (c : Dev nD) (i : grid0.Coords) (M0 : Memref sig .tc .vmem S1x8x512 .f32) (h0 : M0.IsWhole)
    (M1 : Memref sig .tc .vmem S40816x16 .f32) (h1 : M1.IsWhole) (x : S1x8x512.Idx → Elt F .f32) (acc : S40816x16.Idx → Elt F .f32) :
    (iprop(owns (c : Thread nD τ) M0 fullShare x ∗ owns (c : Thread nD τ) M1 fullShare acc ∗ densScr c) : sProp 𝕄)
      ⊢ wp frame (wpE (defs₀ (F := F)) Variants.none c none) Set.univ
          (cc0__dens_kernel i M0 h0 M1 h1 (Memref.whole cc0_scratch0) (Memref.isWhole_whole _) (Memref.whole cc0_scratch1) (Memref.isWhole_whole _))
          fun _ => iprop(owns (c : Thread nD τ) M0 fullShare x ∗ owns (c : Thread nD τ) M1 fullShare (densOut c i M0 h0 M1 h1 x acc) ∗ densScr c) := by
  by_cases h : densFirst i
  · exact wrap2 h0 h1 x acc _ (by unfold densOut; rw [dif_pos h])
      fun f2 f3 => (densBody0 (F := F) c i M0 h0 M1 h1 (Memref.whole cc0_scratch0) (Memref.isWhole_whole _)
        (Memref.whole cc0_scratch1) (Memref.isWhole_whole _) h (h0.unread x)).2 (h1.unread acc) f2 f3
  · exact wrap2 h0 h1 x acc _ (by unfold densOut; rw [dif_neg h])
      fun f2 f3 => (densBodyS (F := F) c i M0 h0 M1 h1 (Memref.whole cc0_scratch0) (Memref.isWhole_whole _)
        (Memref.whole cc0_scratch1) (Memref.isWhole_whole _) h (h0.unread x)).2 (h1.unread acc) f2 f3

/-! ## The proof data over a valuation -/

theorem scr_assoc (P Q R : sProp 𝕄) : iprop((P ∗ Q) ∗ R) = iprop(P ∗ Q ∗ R) :=
  Idealize.SL.BI.equiv_iff.mp ⟨Idealize.SL.BI.sep_assoc, Idealize.SL.BI.sep_assoc'⟩

/-- The scoped buffers split into the kernel's two scratch buffers and the rest. -/
theorem dens_rest (c : Dev nD) : ∃ R : sProp 𝕄,
    (Pipeline.scopedRest (Ix := Unit) (Name := ℕ) (U := UR sig nD τ) (Lvl := ℕ) (Val := Elt F) spec0 c : sProp 𝕄) = iprop(densScr c ∗ R) := by
  have h := scopedRest0_eq (Ix := Unit) (Name := ℕ) (U := UR sig nD τ) (Lvl := ℕ) (Val := Elt F) c
  rw [← scr_eq c cc0_scratch0, ← scr_eq c cc0_scratch1, ← scr_assoc] at h
  exact ⟨_, h⟩

variable (W : Dev nD → Valuation τ sig (Elt F))

/-- The block of Gaussians the fetch stages at point `t`. -/
def densStg (c : Dev nD) (t : Fin cfg0.N) : S1x8x512.Idx → Elt F .f32 :=
  ((cfg0.win 0).blk t).view.read (Elt F) (W c (Proc.devRef .tc (Pipeline.arrRef spec0 0)))

/-- The accumulator before point `n`. -/
def densAcc (c : Dev nD) : ℕ → S40816x16.Idx → Elt F .f32
  | 0 => fun _ => Scalar.ofBits .f32 0#32
  | n + 1 => if h : n < cfg0.N then
      densOut c (grid0.coords ⟨n, h⟩) (st0_0 ⟨n, h⟩) (hstage0_0 ((cfg0.slots ⟨n, h⟩ 0).cast nbuf0_0))
        (st0_1 ⟨n, h⟩) (hstage0_1 ((cfg0.slots ⟨n, h⟩ 1).cast nbuf0_1)) (densStg W c ⟨n, h⟩) (densAcc c n)
    else densAcc c n

theorem densAcc_succ (c : Dev nD) (t : Fin cfg0.N) : densAcc W c (t.val + 1) =
    densOut c (grid0.coords t) (st0_0 t) (hstage0_0 ((cfg0.slots t 0).cast nbuf0_0))
        (st0_1 t) (hstage0_1 ((cfg0.slots t 1).cast nbuf0_1)) (densStg W c t) (densAcc W c t.val) := by
  rw [densAcc, dif_pos t.isLt]

/-- The region's proof data: the arrays at the valuation, the block as fetched, the accumulator after the point. -/
def dat0 (c : Dev nD) : Dat τ (Elt F) Unit ℕ (UR sig nD τ) ℕ cfg0 c where
  A w := W c (Proc.devRef .tc (Pipeline.arrRef spec0 w))
  after w t := match w with
    | ⟨0, _⟩ => densStg W c t
    | ⟨1, _⟩ => densAcc W c (t.val + 1)
  Φ _ := Pipeline.scopedRest spec0 c
  q _ := fullShare
  owed _ := 0

theorem dat0_before0 (c : Dev nD) (t : Fin cfg0.N) (d) : (dat0 W c).before 0 t d = densStg W c t := by
  unfold Dat.before; rw [if_pos (fetch0_0 t)]; rfl

theorem dat0_before1_first (c : Dev nD) (t : Fin cfg0.N) (h : t.val = 0) (d) : (dat0 W c).before 1 t d = d :=
  (dat0 W c).before_out_reset 1 rfl t (.inl h) d

theorem dat0_before1_later (c : Dev nD) (t : Fin cfg0.N) (h : t.val ≠ 0) (d) : (dat0 W c).before 1 t d = densAcc W c t.val := by
  rw [(dat0 W c).before_out_kept 1 rfl t h (Bool.eq_false_iff.mpr fun e => by
    have := (flush0_1 _).mp e; have := t.isLt; have : cfg0.N = 98 := by decide
    dsimp only at *; omega) (fun _ => rfl) (fun _ _ => rfl)]
  show densAcc W c (t.val - 1 + 1) = _
  rw [Nat.sub_add_cancel (Nat.one_le_iff_ne_zero.mpr h)]

theorem body_obligation0 (c : Dev nD) : BodyObligation (dat0 W c) (defs₀ (F := F)) Variants.none () Set.univ := fun t => by
  obtain ⟨R, hR⟩ := dens_rest (F := F) c
  rw [bigSep_W0, bigSep_W0]
  rw [show (dat0 W c).Φ t.castSucc = iprop(densScr c ∗ R) from hR, show (dat0 W c).Φ t.succ = iprop(densScr c ∗ R) from hR,
    show (dat0 W c).owesAt () t.succ = (dat0 W c).owesAt () t.castSucc from rfl,
    show (dat0 W c).after 1 t = densAcc W c (t.val + 1) from rfl, densAcc_succ,
    show (dat0 W c).after 0 t = densStg W c t from rfl]
  have H (acc) := dens_sound (F := F) c (grid0.coords t) (st0_0 t) (hstage0_0 ((cfg0.slots t 0).cast nbuf0_0))
        (st0_1 t) (hstage0_1 ((cfg0.slots t 1).cast nbuf0_1)) (densStg W c t) acc
  by_cases h : t.val = 0
  · simp only [dat0_before0, dat0_before1_first W c t h]
    iintro ⟨⟨HS, HR⟩, HO, ⟨%d0, H0⟩, ⟨%d1, H1⟩⟩
    rw [densOut_first c _ _ _ _ _ _ (densAcc W c t.val) ((dens_first t).mpr h) d1]
    iapply (wp_wand_r frame (wpE (defs₀ (F := F)) Variants.none c none) Set.univ)
    isplitl [H0 H1 HS]
    · iapply (H d1)
      isplitl [H0]; · iexact H0
      isplitl [H1]; · iexact H1
      iexact HS
    iintro %a ⟨H0, H1, HS⟩
    isplitl [HS HR]
    · isplitl [HS]; · iexact HS
      iexact HR
    isplitl [HO]; · iexact HO
    isplitl [H0]; · iexact H0
    iexact H1
  · simp only [dat0_before0, dat0_before1_later W c t h]
    iintro ⟨⟨HS, HR⟩, HO, ⟨%d0, H0⟩, ⟨%d1, H1⟩⟩
    iapply (wp_wand_r frame (wpE (defs₀ (F := F)) Variants.none c none) Set.univ)
    isplitl [H0 H1 HS]
    · iapply (H (densAcc W c t.val))
      isplitl [H0]; · iexact H0
      isplitl [H1]; · iexact H1
      iexact HS
    iintro %a ⟨H0, H1, HS⟩
    isplitl [HS HR]
    · isplitl [HS]; · iexact HS
      iexact HR
    isplitl [HO]; · iexact HO
    isplitl [H0]; · iexact H0
    iexact H1

end Cert.KernelIdeal.Splat
-- ==== Proof.FeatsRegion.lean ====
/- The feature kernel's proof data and body obligation, from a valuation of the unscoped buffers. -/
module

public import proofs.«01_k».proof.Proof.FeatsBody
public import proofs.«01_k».proof.Proof.DensRegion
public import proofs.«01_k».proof.Proof.Gen.KernelIdeal.Regions
public import Idealize.ShloMosaic.Lib.Pipeline.FrameBody
public import Idealize.ShloMosaic.Lib.Pipeline.RegionArraysS

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The condition under which the accumulator is zeroed. -/
abbrev featsFirst (i : grid1.Coords) : Prop :=
  Scalar.cmpi .ne (Scalar.extui (Scalar.cmpi .eq (BitVec.ofNat 32 (i 0).val) 0#32)) 0#32 = 1#1

/-- The accumulator is zeroed at the first point only. -/
theorem feats_first : ∀ t : Fin grid1.N, featsFirst (grid1.coords t) ↔ t.val = 0 := by
  decide +kernel

section
variable (c : Dev nD) (i : grid1.Coords) (M0 : Memref sig .tc .vmem S1x8x512 .f32) (h0 : M0.IsWhole)
  (Mt : Memref sig .tc .vmem S512x256 .f32) (ht : Mt.IsWhole)
  (M1 : Memref sig .tc .vmem S40816x256 .f32) (h1 : M1.IsWhole) (x : S1x8x512.Idx → Elt F .f32)
  (y : S512x256.Idx → Elt F .f32) (acc : S40816x256.Idx → Elt F .f32)

/-- What the body leaves in the accumulator's staging buffer, over the blocks `x`, `y` and the accumulator `acc`. -/
def featsOut : S40816x256.Idx → Elt F .f32 :=
  if h : featsFirst i then
    M1.view.read (Elt F) (featsBody0 (F := F) c i M0 h0 Mt ht M1 h1 (Memref.whole cc1_scratch0) (Memref.isWhole_whole _)
      (Memref.whole cc1_scratch1) (Memref.isWhole_whole _) h (h0.unread x) (ht.unread y)).1
  else
    M1.view.read (Elt F) ((featsBodyS (F := F) c i M0 h0 Mt ht M1 h1 (Memref.whole cc1_scratch0) (Memref.isWhole_whole _)
      (Memref.whole cc1_scratch1) (Memref.isWhole_whole _) h (h0.unread x) (ht.unread y)).1 (h1.unread acc))

theorem featsOut_first (h : featsFirst i) (acc' : S40816x256.Idx → Elt F .f32) :
    featsOut c i M0 h0 Mt ht M1 h1 x y acc = featsOut c i M0 h0 Mt ht M1 h1 x y acc' := by
  unfold featsOut; rw [dif_pos h, dif_pos h]

end

/-- A body's run over raw contents is one over the staging buffers owned at what they read. -/
theorem wrap3 {c : Dev nD} {s0 st s1 : Shape} {e0 et e1 : EltTy} {M0 : Memref sig .tc .vmem s0 e0} (h0 : M0.IsWhole)
    {Mt : Memref sig .tc .vmem st et} (ht : Mt.IsWhole)
    {M1 : Memref sig .tc .vmem s1 e1} (h1 : M1.IsWhole)
    (x : s0.Idx → Elt F e0) (y : st.Idx → Elt F et) (acc v : s1.Idx → Elt F e1) {g : Buf (Elt F) (M1.view.loc (c : Thread nD τ))}
    (hv : M1.view.read (Elt F) g = v) {W : sWPT 𝕄 PUnit} {P Q : sProp 𝕄}
    (H : (iprop((M0.view.loc (c : Thread nD τ) ↦[M0.view.set]{fullShare} h0.unread x) ∗ (Mt.view.loc (c : Thread nD τ) ↦[Mt.view.set]{fullShare} ht.unread y)
          ∗ (M1.view.loc (c : Thread nD τ) ↦[M1.view.set]{fullShare} h1.unread acc) ∗ P) : sProp 𝕄)
        ⊢ W (fun _ => iprop((M0.view.loc (c : Thread nD τ) ↦[M0.view.set]{fullShare} h0.unread x) ∗ (Mt.view.loc (c : Thread nD τ) ↦[Mt.view.set]{fullShare} ht.unread y)
          ∗ (M1.view.loc (c : Thread nD τ) ↦[M1.view.set]{fullShare} g) ∗ Q))) :
    (iprop(owns (c : Thread nD τ) M0 fullShare x ∗ owns (c : Thread nD τ) Mt fullShare y ∗ owns (c : Thread nD τ) M1 fullShare acc ∗ P) : sProp 𝕄)
      ⊢ W (fun _ => iprop(owns (c : Thread nD τ) M0 fullShare x ∗ owns (c : Thread nD τ) Mt fullShare y ∗ owns (c : Thread nD τ) M1 fullShare v ∗ Q)) := by
  have hx := h0.read_unread (Val := Elt F) x
  have hy := ht.read_unread (Val := Elt F) y
  unfold owns
  have hpost : (iprop((M0.view.loc (c : Thread nD τ) ↦[M0.view.set]{fullShare} h0.unread x) ∗ (Mt.view.loc (c : Thread nD τ) ↦[Mt.view.set]{fullShare} ht.unread y)
        ∗ (M1.view.loc (c : Thread nD τ) ↦[M1.view.set]{fullShare} g) ∗ Q) : sProp 𝕄)
      ⊢ iprop((∃ f, ⌜M0.view.read (Elt F) f = x⌝ ∗ (M0.view.loc (c : Thread nD τ) ↦[M0.view.set]{fullShare} f))
        ∗ (∃ f, ⌜Mt.view.read (Elt F) f = y⌝ ∗ (Mt.view.loc (c : Thread nD τ) ↦[Mt.view.set]{fullShare} f))
        ∗ (∃ f, ⌜M1.view.read (Elt F) f = v⌝ ∗ (M1.view.loc (c : Thread nD τ) ↦[M1.view.set]{fullShare} f)) ∗ Q) := by
    iintro ⟨H1, Ht, H2, H3⟩
    isplitl [H1]; · iexists _; isplitr; swap; (· iexact H1); ipureintro; exact hx
    isplitl [Ht]; · iexists _; isplitr; swap; (· iexact Ht); ipureintro; exact hy
    isplitl [H2]; · iexists _; isplitr; swap; (· iexact H2); ipureintro; exact hv
    iexact H3
  iintro ⟨⟨%f1, %e1, H1⟩, ⟨%ft, %et, Ht⟩, ⟨%f2, %e2, H2⟩, H3⟩
  obtain rfl := h0.eq_unread e1
  obtain rfl := ht.eq_unread et
  obtain rfl := h1.eq_unread e2
  iapply (H.trans (W.mono fun _ => hpost)) $$ [H1 Ht H2 H3]
  isplitl [H1]; · iexact H1
  isplitl [Ht]; · iexact Ht
  isplitl [H2]; · iexact H2
  iexact H3

/-- Two buffers at some contents, taken apart in front of a triple. -/
theorem wrap_ex {A B : Type} {P₀ P₁ P₂ : sProp 𝕄} {X : A → sProp 𝕄} {Y : B → sProp 𝕄} {Q : sProp 𝕄}
    (H : ∀ a b, (iprop(P₀ ∗ P₁ ∗ P₂ ∗ X a ∗ Y b) : sProp 𝕄) ⊢ Q) : (iprop(P₀ ∗ P₁ ∗ P₂ ∗ (∃ a, X a) ∗ ∃ b, Y b) : sProp 𝕄) ⊢ Q := by
  iintro ⟨H0, H1, H2, ⟨%a, Ha⟩, ⟨%b, Hb⟩⟩
  iapply (H a b)
  isplitl [H0]; · iexact H0
  isplitl [H1]; · iexact H1
  isplitl [H2]; · iexact H2
  isplitl [Ha]; · iexact Ha
  iexact Hb

/-- The two scratch buffers of the kernel, each at some contents. -/
abbrev featsScr (c : Dev nD) : sProp 𝕄 :=
  iprop((∃ f, (Memref.whole cc1_scratch0).view.loc (c : Thread nD τ) ↦[(Memref.whole cc1_scratch0).view.set]{fullShare} f)
    ∗ (∃ f, (Memref.whole cc1_scratch1).view.loc (c : Thread nD τ) ↦[(Memref.whole cc1_scratch1).view.set]{fullShare} f))

/-- The body over the staging buffers owned at `x`, `y` and `acc`. -/
theorem feats_sound (c : Dev nD) (i : grid1.Coords) (M0 : Memref sig .tc .vmem S1x8x512 .f32) (h0 : M0.IsWhole)
    (Mt : Memref sig .tc .vmem S512x256 .f32) (ht : Mt.IsWhole)
    (M1 : Memref sig .tc .vmem S40816x256 .f32) (h1 : M1.IsWhole) (x : S1x8x512.Idx → Elt F .f32)
    (y : S512x256.Idx → Elt F .f32) (acc : S40816x256.Idx → Elt F .f32) :
    (iprop(owns (c : Thread nD τ) M0 fullShare x ∗ owns (c : Thread nD τ) Mt fullShare y ∗ owns (c : Thread nD τ) M1 fullShare acc ∗ featsScr c) : sProp 𝕄)
      ⊢ wp frame (wpE (defs₀ (F := F)) Variants.none c none) Set.univ
          (cc1__feats_kernel i M0 h0 Mt ht M1 h1 (Memref.whole cc1_scratch0) (Memref.isWhole_whole _) (Memref.whole cc1_scratch1) (Memref.isWhole_whole _))
          fun _ => iprop(owns (c : Thread nD τ) M0 fullShare x ∗ owns (c : Thread nD τ) Mt fullShare y
            ∗ owns (c : Thread nD τ) M1 fullShare (featsOut c i M0 h0 Mt ht M1 h1 x y acc) ∗ featsScr c) := by
  by_cases h : featsFirst i
  · exact wrap3 h0 ht h1 x y acc _ (by unfold featsOut; rw [dif_pos h])
      (wrap_ex fun f2 f3 => (featsBody0 (F := F) c i M0 h0 Mt ht M1 h1 (Memref.whole cc1_scratch0) (Memref.isWhole_whole _)
        (Memref.whole cc1_scratch1) (Memref.isWhole_whole _) h (h0.unread x) (ht.unread y)).2 (h1.unread acc) f2 f3)
  · exact wrap3 h0 ht h1 x y acc _ (by unfold featsOut; rw [dif_neg h])
      (wrap_ex fun f2 f3 => (featsBodyS (F := F) c i M0 h0 Mt ht M1 h1 (Memref.whole cc1_scratch0) (Memref.isWhole_whole _)
        (Memref.whole cc1_scratch1) (Memref.isWhole_whole _) h (h0.unread x) (ht.unread y)).2 (h1.unread acc) f2 f3)

/-! ## The proof data over a valuation -/

/-- The scoped buffers split into the kernel's two scratch buffers and the rest. -/
theorem feats_rest (c : Dev nD) : ∃ R : sProp 𝕄,
    (Pipeline.scopedRest (Ix := Unit) (Name := ℕ) (U := UR sig nD τ) (Lvl := ℕ) (Val := Elt F) spec1 c : sProp 𝕄) = iprop(featsScr c ∗ R) := by
  have h := Pipeline.scopedRest_eq_of_list (nD := nD) (τ := τ) (Ix := Unit) (Name := ℕ) (U := UR sig nD τ) (Lvl := ℕ) (Val := Elt F) spec1 c
    [cc1_scratch0, cc1_scratch1, cc0_stg0_0, cc0_stg0_1, cc0_stg1_0, cc0_scratch0, cc0_scratch1, cc2_stg0_0, cc2_stg0_1, cc2_stg1_0, cc2_stg1_1, cc2_stg2_0, cc2_stg2_1] (by decide) (by decide)
  have h' : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f) ∗ _) := h
  rw [← scr_eq c cc1_scratch0, ← scr_eq c cc1_scratch1, ← scr_assoc] at h'
  exact ⟨_, h'⟩

variable (W : Dev nD → Valuation τ sig (Elt F))

/-- The block of Gaussians the fetch stages at point `t`. -/
def featsStg0 (c : Dev nD) (t : Fin cfg1.N) : S1x8x512.Idx → Elt F .f32 :=
  ((cfg1.win 0).blk t).view.read (Elt F) (W c (Proc.devRef .tc (Pipeline.arrRef spec1 0)))

/-- The block of features the fetch stages at point `t`. -/
def featsStg1 (c : Dev nD) (t : Fin cfg1.N) : S512x256.Idx → Elt F .f32 :=
  ((cfg1.win 1).blk t).view.read (Elt F) (W c (Proc.devRef .tc (Pipeline.arrRef spec1 1)))

/-- The accumulator before point `n`. -/
def featsAcc (c : Dev nD) : ℕ → S40816x256.Idx → Elt F .f32
  | 0 => fun _ => Scalar.ofBits .f32 0#32
  | n + 1 => if h : n < cfg1.N then
      featsOut c (grid1.coords ⟨n, h⟩) (st1_0 ⟨n, h⟩) (hstage1_0 ((cfg1.slots ⟨n, h⟩ 0).cast nbuf1_0))
        (st1_1 ⟨n, h⟩) (hstage1_1 ((cfg1.slots ⟨n, h⟩ 1).cast nbuf1_1))
        (st1_2 ⟨n, h⟩) (hstage1_2 ((cfg1.slots ⟨n, h⟩ 2).cast nbuf1_2)) (featsStg0 W c ⟨n, h⟩) (featsStg1 W c ⟨n, h⟩) (featsAcc c n)
    else featsAcc c n

theorem featsAcc_succ (c : Dev nD) (t : Fin cfg1.N) : featsAcc W c (t.val + 1) =
    featsOut c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (featsStg0 W c t) (featsStg1 W c t) (featsAcc W c t.val) := by
  rw [featsAcc, dif_pos t.isLt]

/-- The region's proof data: the arrays at the valuation, the blocks as fetched, the accumulator after the point. -/
def dat1 (c : Dev nD) : Dat τ (Elt F) Unit ℕ (UR sig nD τ) ℕ cfg1 c where
  A w := W c (Proc.devRef .tc (Pipeline.arrRef spec1 w))
  after w t := match w with
    | ⟨0, _⟩ => featsStg0 W c t
    | ⟨1, _⟩ => featsStg1 W c t
    | ⟨2, _⟩ => featsAcc W c (t.val + 1)
  Φ _ := Pipeline.scopedRest spec1 c
  q _ := fullShare
  owed _ := 0

theorem dat1_before0 (c : Dev nD) (t : Fin cfg1.N) (d) : (dat1 W c).before 0 t d = featsStg0 W c t := by
  unfold Dat.before; rw [if_pos (fetch1_0 t)]; rfl

theorem dat1_before1 (c : Dev nD) (t : Fin cfg1.N) (d) : (dat1 W c).before 1 t d = featsStg1 W c t := by
  unfold Dat.before; rw [if_pos (fetch1_1 t)]; rfl

theorem dat1_before2_first (c : Dev nD) (t : Fin cfg1.N) (h : t.val = 0) (d) : (dat1 W c).before 2 t d = d :=
  (dat1 W c).before_out_reset 2 rfl t (.inl h) d

theorem dat1_before2_later (c : Dev nD) (t : Fin cfg1.N) (h : t.val ≠ 0) (d) : (dat1 W c).before 2 t d = featsAcc W c t.val := by
  rw [(dat1 W c).before_out_kept 2 rfl t h (Bool.eq_false_iff.mpr fun e => by
    have := (flush1_2 _).mp e; have := t.isLt; have : cfg1.N = 98 := by decide
    dsimp only at *; omega) (fun _ => rfl) (fun _ _ => rfl)]
  show featsAcc W c (t.val - 1 + 1) = _
  rw [Nat.sub_add_cancel (Nat.one_le_iff_ne_zero.mpr h)]

theorem body_obligation1 (c : Dev nD) : BodyObligation (dat1 W c) (defs₀ (F := F)) Variants.none () Set.univ := fun t => by
  obtain ⟨R, hR⟩ := feats_rest (F := F) c
  rw [bigSep_W1, bigSep_W1]
  rw [show (dat1 W c).Φ t.castSucc = iprop(featsScr c ∗ R) from hR, show (dat1 W c).Φ t.succ = iprop(featsScr c ∗ R) from hR,
    show (dat1 W c).owesAt () t.succ = (dat1 W c).owesAt () t.castSucc from rfl,
    show (dat1 W c).after 2 t = featsAcc W c (t.val + 1) from rfl, featsAcc_succ,
    show (dat1 W c).after 0 t = featsStg0 W c t from rfl, show (dat1 W c).after 1 t = featsStg1 W c t from rfl]
  have H (acc) := feats_sound (F := F) c (grid1.coords t) (st1_0 t) (hstage1_0 ((cfg1.slots t 0).cast nbuf1_0))
        (st1_1 t) (hstage1_1 ((cfg1.slots t 1).cast nbuf1_1)) (st1_2 t) (hstage1_2 ((cfg1.slots t 2).cast nbuf1_2))
        (featsStg0 W c t) (featsStg1 W c t) acc
  by_cases h : t.val = 0
  · simp only [dat1_before0, dat1_before1, dat1_before2_first W c t h]
    iintro ⟨⟨HS, HR⟩, HO, ⟨%d0, H0⟩, ⟨%d1, H1⟩, ⟨%d2, H2⟩⟩
    rw [featsOut_first c _ _ _ _ _ _ _ _ _ (featsAcc W c t.val) ((feats_first t).mpr h) d2]
    iapply (wp_wand_r frame (wpE (defs₀ (F := F)) Variants.none c none) Set.univ)
    isplitl [H0 H1 H2 HS]
    · iapply (H d2)
      isplitl [H0]; · iexact H0
      isplitl [H1]; · iexact H1
      isplitl [H2]; · iexact H2
      iexact HS
    iintro %a ⟨H0, H1, H2, HS⟩
    isplitl [HS HR]
    · isplitl [HS]; · iexact HS
      iexact HR
    isplitl [HO]; · iexact HO
    isplitl [H0]; · iexact H0
    isplitl [H1]; · iexact H1
    iexact H2
  · simp only [dat1_before0, dat1_before1, dat1_before2_later W c t h]
    iintro ⟨⟨HS, HR⟩, HO, ⟨%d0, H0⟩, ⟨%d1, H1⟩, ⟨%d2, H2⟩⟩
    iapply (wp_wand_r frame (wpE (defs₀ (F := F)) Variants.none c none) Set.univ)
    isplitl [H0 H1 H2 HS]
    · iapply (H (featsAcc W c t.val))
      isplitl [H0]; · iexact H0
      isplitl [H1]; · iexact H1
      isplitl [H2]; · iexact H2
      iexact HS
    iintro %a ⟨H0, H1, H2, HS⟩
    isplitl [HS HR]
    · isplitl [HS]; · iexact HS
      iexact HR
    isplitl [HO]; · iexact HO
    isplitl [H0]; · iexact H0
    isplitl [H1]; · iexact H1
    iexact H2

end Cert.KernelIdeal.Splat
-- ==== Proof.NormRegion.lean ====
/- The normalising kernel's proof data and body obligation, from a valuation of the unscoped buffers. -/
module

public import proofs.«01_k».proof.Proof.NormBody
public import proofs.«01_k».proof.Proof.FeatsRegion
public import proofs.«01_k».proof.Proof.Gen.KernelIdeal.Regions
public import Idealize.ShloMosaic.Lib.Pipeline.FrameBody
public import Idealize.ShloMosaic.Lib.Pipeline.RegionArraysS

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section
variable (c : Dev nD) (i : grid2.Coords) (M0 : Memref sig .tc .vmem S16x16 .f32) (h0 : M0.IsWhole)
  (Mt : Memref sig .tc .vmem S16x256 .f32) (ht : Mt.IsWhole)
  (M1 : Memref sig .tc .vmem S16x256 .f32) (h1 : M1.IsWhole) (x : S16x16.Idx → Elt F .f32)
  (y : S16x256.Idx → Elt F .f32) (acc : S16x256.Idx → Elt F .f32)

/-- What the body leaves in the result's staging buffer, over the blocks `x` and `y`. -/
def normOut : S16x256.Idx → Elt F .f32 :=
  M1.view.read (Elt F) (normBody (F := F) c i M0 h0 Mt ht M1 h1 (h0.unread x) (ht.unread y)).1

/-- The body over the staging buffers owned at `x`, `y` and `acc`. -/
theorem norm_sound :
    (iprop(owns (c : Thread nD τ) M0 fullShare x ∗ owns (c : Thread nD τ) Mt fullShare y ∗ owns (c : Thread nD τ) M1 fullShare acc ∗ emp) : sProp 𝕄)
      ⊢ wp frame (wpE (defs₀ (F := F)) Variants.none c none) Set.univ
          (cc2__norm_kernel i M0 h0 Mt ht M1 h1)
          fun _ => iprop(owns (c : Thread nD τ) M0 fullShare x ∗ owns (c : Thread nD τ) Mt fullShare y
            ∗ owns (c : Thread nD τ) M1 fullShare (normOut c i M0 h0 Mt ht M1 h1 x y) ∗ emp) := by
  refine wrap3 h0 ht h1 x y acc _ rfl ?_
  refine Idealize.ShloMosaic.triple_restated ((normBody (F := F) c i M0 h0 Mt ht M1 h1 (h0.unread x) (ht.unread y)).2 (h1.unread acc)) rfl ?_ fun _ => ?_
  · iintro ⟨H0, H1, H2, -⟩
    isplitl [H0]; · iexact H0
    isplitl [H1]; · iexact H1
    iexact H2
  · iintro ⟨H0, H1, H2⟩
    isplitl [H0]; · iexact H0
    isplitl [H1]; · iexact H1
    isplitl [H2]; · iexact H2
    iempintro

end

/-! ## The proof data over a valuation -/

variable (W : Dev nD → Valuation τ sig (Elt F))

/-- The block of densities the fetch stages at point `t`. -/
def normStg0 (c : Dev nD) (t : Fin cfg2.N) : S16x16.Idx → Elt F .f32 :=
  ((cfg2.win 0).blk t).view.read (Elt F) (W c (Proc.devRef .tc (Pipeline.arrRef spec2 0)))

/-- The block of feature sums the fetch stages at point `t`. -/
def normStg1 (c : Dev nD) (t : Fin cfg2.N) : S16x256.Idx → Elt F .f32 :=
  ((cfg2.win 1).blk t).view.read (Elt F) (W c (Proc.devRef .tc (Pipeline.arrRef spec2 1)))

/-- What the body leaves at point `t`. -/
def normRes (c : Dev nD) (t : Fin cfg2.N) : S16x256.Idx → Elt F .f32 :=
  normOut c (grid2.coords t) (st2_0 t) (hstage2_0 ((cfg2.slots t 0).cast nbuf2_0))
    (st2_1 t) (hstage2_1 ((cfg2.slots t 1).cast nbuf2_1)) (st2_2 t) (hstage2_2 ((cfg2.slots t 2).cast nbuf2_2))
    (normStg0 W c t) (normStg1 W c t)

/-- The region's proof data: the arrays at the valuation, the blocks as fetched, the quotient after the point. -/
def dat2 (c : Dev nD) : Dat τ (Elt F) Unit ℕ (UR sig nD τ) ℕ cfg2 c where
  A w := W c (Proc.devRef .tc (Pipeline.arrRef spec2 w))
  after w t := match w with
    | ⟨0, _⟩ => normStg0 W c t
    | ⟨1, _⟩ => normStg1 W c t
    | ⟨2, _⟩ => normRes W c t
  Φ _ := Pipeline.scopedRest spec2 c
  q _ := fullShare
  owed _ := 0

theorem dat2_before0 (c : Dev nD) (t : Fin cfg2.N) (d) : (dat2 W c).before 0 t d = normStg0 W c t := by
  unfold Dat.before; rw [if_pos (fetch2_0 t)]; rfl

theorem dat2_before1 (c : Dev nD) (t : Fin cfg2.N) (d) : (dat2 W c).before 1 t d = normStg1 W c t := by
  unfold Dat.before; rw [if_pos (fetch2_1 t)]; rfl

theorem body_obligation2 (c : Dev nD) : BodyObligation (dat2 W c) (defs₀ (F := F)) Variants.none () Set.univ := fun t => by
  rw [bigSep_W2, bigSep_W2]
  rw [show (dat2 W c).owesAt () t.succ = (dat2 W c).owesAt () t.castSucc from rfl,
    show (dat2 W c).Φ t.succ = (dat2 W c).Φ t.castSucc from rfl,
    show (dat2 W c).after 2 t = normRes W c t from rfl,
    show (dat2 W c).after 0 t = normStg0 W c t from rfl, show (dat2 W c).after 1 t = normStg1 W c t from rfl]
  have H (acc) := norm_sound (F := F) c (grid2.coords t) (st2_0 t) (hstage2_0 ((cfg2.slots t 0).cast nbuf2_0))
        (st2_1 t) (hstage2_1 ((cfg2.slots t 1).cast nbuf2_1)) (st2_2 t) (hstage2_2 ((cfg2.slots t 2).cast nbuf2_2))
        (normStg0 W c t) (normStg1 W c t) acc
  simp only [dat2_before0, dat2_before1]
  generalize (dat2 W c).Φ t.castSucc = R
  iintro ⟨HR, HO, ⟨%d0, H0⟩, ⟨%d1, H1⟩, ⟨%d2, H2⟩⟩
  iapply (wp_wand_r frame (wpE (defs₀ (F := F)) Variants.none c none) Set.univ)
  isplitl [H0 H1 H2]
  · iapply (H ((dat2 W c).before 2 t d2))
    isplitl [H0]; · iexact H0
    isplitl [H1]; · iexact H1
    isplitl [H2]; · iexact H2
    iempintro
  iintro %a ⟨H0, H1, H2, -⟩
  isplitl [HR]; · iexact HR
  isplitl [HO]; · iexact HO
  isplitl [H0]; · iexact H0
  isplitl [H1]; · iexact H1
  iexact H2

end Cert.KernelIdeal.Splat
-- ==== Proof.Run.lean ====
/- The kernel's run: the three regions between the host stretches, and what every buffer holds at the end. -/
module

public import proofs.«01_k».proof.Proof.NormRegion

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg afterRegion)

variable {F : FTy → Type} [FloatOps F]

local notation "𝕄" => MT nD τ sig Unit (Elt F) ℕ (UR sig nD τ) ℕ

/-- A region's exit valuation is its entry valuation with the output array replaced. -/
theorem after_update {cfg : Pipeline.Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (w : Fin cfg.W)
    (ho : ∀ w', w' ≠ w → (cfg.win w').isOut = false)
    (X : Buf (Elt F) ((c : Thread nD τ).loc (Pipeline.arrRef cfg.spec w))) (hX : X = dat.arrAt w cfg.N) :
    afterRegion dat V = Function.update V (Proc.devRef .tc (Pipeline.arrRef cfg.spec w)) X := by
  funext b
  by_cases hb : b = Proc.devRef .tc (Pipeline.arrRef cfg.spec w)
  · subst hb; rw [Function.update_self, hX]; exact Pipeline.afterRegion_arr dat V hinj w
  · rw [Function.update_of_ne hb]
    by_cases h : ∃ w', b = Proc.devRef .tc (Pipeline.arrRef cfg.spec w')
    · obtain ⟨w', rfl⟩ := h
      exact (Pipeline.afterRegion_arr dat V hinj w').trans ((dat.arrAt_in w' (ho w' fun e => hb (e ▸ rfl)) _).trans (hA w'))
    · unfold afterRegion; rw [dif_neg]
      rintro ⟨w', e⟩; exact h ⟨w', e⟩

/-! ## The regions' records -/

variable (Wa Wb Wc Wd : Dev nD → Valuation τ sig (Elt F))

/-- The proof data of the three pipelines. -/
def pdats : (p : Fin 3) → (c : Dev nD) → Dat τ (Elt F) Unit ℕ (UR sig nD τ) ℕ (cfgs p) c
  | ⟨0, _⟩ => fun c => dat0 Wa c
  | ⟨1, _⟩ => fun c => dat1 Wb c
  | ⟨2, _⟩ => fun c => dat2 Wc c

/-- Every TensorCore cell at the one index. -/
def L : GSem nD τ sig → Finset Unit := fun g => if g.1.2 = .tc then {()} else ∅
/-- One level. -/
def lv : GSem nD τ sig → Unit → ℕ := fun _ _ => 0

/-- What rides beside the held buffers: the core owes nothing. -/
abbrev E (c : Dev nD) : sProp 𝕄 := iprop(∃ Wd, owes (c : Thread nD τ) (0 : CellTallies nD τ sig Unit) Wd)

theorem cut (p : Fin 3) : Pipeline.LevelCut (pcfgs (F := F)) adm () L lv p (fun _ => (0 : CellTallies nD τ sig Unit)) (fun _ => 0) where
  hι c w s := by unfold L; rw [if_pos rfl]; exact Finset.mem_singleton_self _
  hιb c w s := le_refl _
  hD c g i h := absurd h (by simp)

theorem emp_in {P P' : sProp 𝕄} (h : P = P') : iprop(P ∗ (BI.emp : sProp 𝕄)) ⊢ P' := by
  subst h; iintro ⟨H, -⟩; iexact H

theorem emp_out {P P' : sProp 𝕄} (h : P = P') : P ⊢ iprop(P' ∗ (BI.emp : sProp 𝕄)) := by
  subst h; iintro H; isplitl [H]; (· iexact H); iempintro

theorem seg_pre {P O : sProp 𝕄} : iprop(P ∗ O) ⊢ iprop(P ∗ (O ∗ (BI.emp : sProp 𝕄) ∗ (BI.emp : sProp 𝕄))) := by
  iintro ⟨H, HO⟩
  isplitl [H]; · iexact H
  isplitl [HO]; · iexact HO
  isplitr <;> iempintro

theorem seg_post {P P' O : sProp 𝕄} (h : P = P') : iprop(P ∗ (O ∗ (BI.emp : sProp 𝕄) ∗ (BI.emp : sProp 𝕄))) ⊢ iprop(P' ∗ O) := by
  subst h
  iintro ⟨H, HO, -⟩
  isplitl [H]; · iexact H
  iexact HO

/-- A region's record over any proof data whose invariant is the scoped rest. -/
def mkReg (p : Fin 3) (pd : (p : Fin 3) → (c : Dev nD) → Dat τ (Elt F) Unit ℕ (UR sig nD τ) ℕ (Pipeline.pin (pcfgs (F := F)) adm p) c)
    (W : Dev nD → Valuation τ sig (Elt F)) (kit : Pipeline.PLaunchFacts (nD := nD) (τ := τ) (pcfgs (F := F)) p) (hK : (pcfgs (F := F) p).pre.K = 0)
    (hbody : ∀ c, Pipeline.BodyObligationLoose (pd p c) (defs₀ (F := F)) Variants.none () Set.univ)
    (howed : ∀ c t, (pd p c).owed t = 0) (hrec : ∀ c, (pd p c).recorded 0 = Set.univ) (hq : ∀ c w, (pd p c).q w = fullShare)
    (hΦ : ∀ c t, (pd p c).Φ t = Pipeline.scopedRest (Pipeline.pin (pcfgs (F := F)) adm p).spec c)
    (hW : ∀ c w, (pd p c).A w = W c (Proc.devRef .tc (Pipeline.arrRef (Pipeline.pin (pcfgs (F := F)) adm p).spec w))) :
    RegionSeg (pcfgs (F := F)) adm pd () defs₀ Variants.none L lv p :=
  RegionSeg.ofHeldIn (pcfgs (F := F)) adm pd () defs₀ Variants.none L lv p (fun _ => 0) (Pipeline.ucRefs τ sig) (fun _ => BI.emp) (fun _ => BI.emp)
    kit hK hbody howed hrec (fun c => (pd p c).share_full (hq c))
    (fun c => emp_in (hΦ c _).symm) (fun c => emp_out (hΦ c _)) (fun _ => 0) (cut p) (fun _ => BI.emp) W hW

theorem mkReg_pre {p pd W kit hK hbody howed hrec hq hΦ hW} (hs : ∀ w, (Pipeline.arrRef (pcfgs (F := F) p).spec w).isScoped = false) (c : Dev nD) :
    iprop(StableHlo.held (c : Thread nD τ) (Pipeline.ucRefs τ sig) (W c) ∗ E (F := F) c)
      ⊢ (mkReg p pd W kit hK hbody howed hrec hq hΦ hW).pre c := by
  have e := seg_pre (F := F) (P := StableHlo.held (c : Thread nD τ) (Pipeline.ucRefs τ sig) (W c)) (O := E (F := F) c)
  refine BIBase.Entails.trans e ?_
  unfold mkReg
  apply RegionSeg.ofHeldIn_pre
  exact Pipeline.arrRefs_sub_ucRefs _ hs

theorem mkReg_post {p pd W kit hK hbody howed hrec hq hΦ hW} (hs : ∀ w, (Pipeline.arrRef (pcfgs (F := F) p).spec w).isScoped = false)
    (V : Dev nD → Valuation τ sig (Elt F)) (h : ∀ c, afterRegion (pd p c) (W c) = V c) (c : Dev nD) :
    (mkReg p pd W kit hK hbody howed hrec hq hΦ hW).post c
      ⊢ iprop(StableHlo.held (c : Thread nD τ) (Pipeline.ucRefs τ sig) (V c) ∗ E (F := F) c) := by
  have e : StableHlo.held (c : Thread nD τ) (Pipeline.ucRefs τ sig) (afterRegion (pd p c) (W c))
    = (StableHlo.held (c : Thread nD τ) (Pipeline.ucRefs τ sig) (V c) : sProp 𝕄) := by rw [h]
  unfold mkReg
  exact (RegionSeg.ofHeldIn_post (Pipeline.arrRefs_sub_ucRefs _ hs) c).trans (seg_post e)

theorem hbody0 (c : Dev nD) : Pipeline.BodyObligationLoose (pdats Wa Wb Wc 0 c) (defs₀ (F := F)) Variants.none () Set.univ :=
  (body_obligation0 Wa c).loose
theorem hbody1 (c : Dev nD) : Pipeline.BodyObligationLoose (pdats Wa Wb Wc 1 c) (defs₀ (F := F)) Variants.none () Set.univ :=
  (body_obligation1 Wb c).loose
theorem hbody2 (c : Dev nD) : Pipeline.BodyObligationLoose (pdats Wa Wb Wc 2 c) (defs₀ (F := F)) Variants.none () Set.univ :=
  (body_obligation2 Wc c).loose

/-- Region 0. -/
def R0 : RegionSeg (pcfgs (F := F)) adm (pdats Wa Wb Wc) () defs₀ Variants.none L lv 0 :=
  mkReg 0 (pdats Wa Wb Wc) Wa launch0.toP rfl (hbody0 Wa Wb Wc) (fun _ _ => rfl) (fun _ => rfl) (fun _ _ => rfl) (fun _ _ => rfl) (fun _ _ => rfl)

theorem hspec1 : spec1 = (Pipeline.pin (pcfgs (F := F)) adm 1).spec := rfl
theorem hΦ1 (c : Dev nD) : (Pipeline.scopedRest spec1 c : sProp 𝕄) = Pipeline.scopedRest (Pipeline.pin (pcfgs (F := F)) adm 1).spec c :=
  congrArg (fun s => (Pipeline.scopedRest s c : sProp 𝕄)) hspec1

/-- Region 1. -/
def R1 : RegionSeg (pcfgs (F := F)) adm (pdats Wa Wb Wc) () defs₀ Variants.none L lv 1 :=
  mkReg 1 (pdats Wa Wb Wc) Wb launch1.toP rfl (hbody1 Wa Wb Wc) (fun _ _ => rfl) (fun _ => rfl) (fun _ _ => rfl) (fun c _ => hΦ1 c) (fun _ _ => rfl)

theorem hspec2 : spec2 = (Pipeline.pin (pcfgs (F := F)) adm 2).spec := rfl
theorem hΦ2 (c : Dev nD) : (Pipeline.scopedRest spec2 c : sProp 𝕄) = Pipeline.scopedRest (Pipeline.pin (pcfgs (F := F)) adm 2).spec c :=
  congrArg (fun s => (Pipeline.scopedRest s c : sProp 𝕄)) hspec2

/-- Region 2. -/
def R2 : RegionSeg (pcfgs (F := F)) adm (pdats Wa Wb Wc) () defs₀ Variants.none L lv 2 :=
  mkReg 2 (pdats Wa Wb Wc) Wc launch2.toP rfl (hbody2 Wa Wb Wc) (fun _ _ => rfl) (fun _ => rfl) (fun _ _ => rfl) (fun c _ => hΦ2 c) (fun _ _ => rfl)

variable (m : (ℓ : Loc nD τ sig) → Buf (Elt F) ℓ)

/-! ## The valuations -/

/-- The unscoped buffers as the first region finds them. -/
def W18 (c : Dev nD) : Valuation τ sig (Elt F) := V18 m c
/-- The densities the first region leaves. -/
def o19 (c : Dev nD) : Buf (Elt F) ((c : Thread nD τ).loc main_v36) := (dat0 (W18 m) c).arrAt 1 cfg0.N
/-- After the first region. -/
def W19 (c : Dev nD) : Valuation τ sig (Elt F) := Function.update (W18 m c) main_v36 (o19 m c)
/-- The feature sums the second region leaves. -/
def o20 (c : Dev nD) : Buf (Elt F) ((c : Thread nD τ).loc main_v37) := (dat1 (W19 m) c).arrAt 2 cfg1.N
/-- After the second region. -/
def W20 (c : Dev nD) : Valuation τ sig (Elt F) := Function.update (W19 m c) main_v37 (o20 m c)
/-- The quotients the third region leaves. -/
def o21 (c : Dev nD) : Buf (Elt F) ((c : Thread nD τ).loc main_v38) := (dat2 (W20 m) c).arrAt 2 cfg2.N
/-- After the third region. -/
def W21 (c : Dev nD) : Valuation τ sig (Elt F) := Function.update (W20 m c) main_v38 (o21 m c)

/-- What the regions leave in the buffers they may change. -/
def outs : Outs (F := F) := fun _ r c => W21 m c (Proc.devRef .tc r)

theorem W21_v36 (c : Dev nD) : W21 m c main_v36 = o19 m c := by
  unfold W21 W20 W19
  rw [Function.update_of_ne (by decide), Function.update_of_ne (by decide), Function.update_self]

theorem W21_v37 (c : Dev nD) : W21 m c main_v37 = o20 m c := by
  unfold W21 W20
  rw [Function.update_of_ne (by decide), Function.update_self]

theorem W21_v38 (c : Dev nD) : W21 m c main_v38 = o21 m c := by
  unfold W21; rw [Function.update_self]

theorem V19_eq (c : Dev nD) : V19 m (outs m) c = W19 m c := by
  show Function.update (W18 m c) main_v36 (W21 m c main_v36) = W19 m c
  rw [W21_v36]; rfl

theorem V20_eq (c : Dev nD) : V20 m (outs m) c = W20 m c := by
  show Function.update (V19 m (outs m) c) main_v37 (W21 m c main_v37) = W20 m c
  rw [W21_v37, V19_eq]; rfl

theorem V21_eq (c : Dev nD) : V21 m (outs m) c = W21 m c := by
  show Function.update (V20 m (outs m) c) main_v38 (W21 m c main_v38) = W21 m c
  rw [W21_v38, V20_eq]; rfl

theorem after0 (c : Dev nD) : afterRegion (dat0 (W18 m) c) (W18 m c) = W19 m c :=
  after_update (dat0 (W18 m) c) (W18 m c) winFacts0.arr_inj (fun _ => rfl) 1
    (fun w' h => by revert h; fin_cases w' <;> simp <;> rfl) (o19 m c) rfl

theorem after1 (c : Dev nD) : afterRegion (dat1 (W19 m) c) (W19 m c) = W20 m c :=
  after_update (dat1 (W19 m) c) (W19 m c) winFacts1.arr_inj (fun _ => rfl) 2
    (fun w' h => by revert h; fin_cases w' <;> simp <;> rfl) (o20 m c) rfl

theorem after2 (c : Dev nD) : afterRegion (dat2 (W20 m) c) (W20 m c) = W21 m c :=
  after_update (dat2 (W20 m) c) (W20 m c) winFacts2.arr_inj (fun _ => rfl) 2
    (fun w' h => by revert h; fin_cases w' <;> simp <;> rfl) (o21 m c) rfl

/-! ## The run -/

/-- The launch's state without the semaphores, tokens and generator. -/
theorem hE0 (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ (BI.emp : sProp 𝕄))) ∗ levAts L lv)
      ⊢ (|={Set.univ}=> bigSep Finset.univ (fun c => E (F := F) c) : sProp 𝕄) := by
  have h1 (c : Dev nD) : (iprop(unscopedSems0 c ∗ owes (c : Thread nD τ) (0 : CellTallies nD τ sig Unit) ∅
        ∗ Pipeline.launchCred (fun _ => 0) c ∗ prngReg c (ρ c) ∗ (BI.emp : sProp 𝕄)) : sProp 𝕄) ⊢ E (F := F) c := by
    iintro ⟨-, HO, -⟩
    iexists ∅; iexact HO
  iintro ⟨H, -⟩
  imodintro
  iapply (show (bigSep Finset.univ fun c : Dev nD => iprop(unscopedSems0 c ∗ owes (c : Thread nD τ) (0 : CellTallies nD τ sig Unit) ∅
        ∗ Pipeline.launchCred (fun _ => 0) c ∗ prngReg c (ρ c) ∗ (BI.emp : sProp 𝕄)) : sProp 𝕄) ⊢ bigSep Finset.univ (fun c => E (F := F) c) from
    bigSep_mono fun c _ => h1 c) $$ H

theorem hs0 : ∀ w, (Pipeline.arrRef spec0 w).isScoped = false := by decide

theorem hpre0 (c : Dev nD) : iprop(StableHlo.held (c : Thread nD τ) (Pipeline.ucRefs τ sig) (V18 m c) ∗ E (F := F) c)
    ⊢ (R0 (W18 m) (W19 m) (W20 m)).pre c := by
  rw [show V18 m c = W18 m c from rfl]
  unfold R0
  exact mkReg_pre (p := 0) (F := F) hs0 c

theorem hpost0 (c : Dev nD) : (R0 (W18 m) (W19 m) (W20 m)).post c
    ⊢ iprop(StableHlo.held (c : Thread nD τ) (Pipeline.ucRefs τ sig) (V19 m (outs m) c) ∗ E (F := F) c) := by
  have h (c : Dev nD) : afterRegion (pdats (W18 m) (W19 m) (W20 m) 0 c) (W18 m c) = V19 m (outs m) c := by
    rw [V19_eq, ← after0]; rfl
  unfold R0
  exact mkReg_post (p := 0) (F := F) hs0 (V19 m (outs m)) h c

theorem hs1 : ∀ w, (Pipeline.arrRef spec1 w).isScoped = false := by decide

theorem hpre1 (c : Dev nD) : iprop(StableHlo.held (c : Thread nD τ) (Pipeline.ucRefs τ sig) (V19 m (outs m) c) ∗ E (F := F) c)
    ⊢ (R1 (W18 m) (W19 m) (W20 m)).pre c := by
  rw [show V19 m (outs m) c = W19 m c from V19_eq m c]
  unfold R1
  exact mkReg_pre (p := 1) (F := F) hs1 c

theorem hpost1 (c : Dev nD) : (R1 (W18 m) (W19 m) (W20 m)).post c
    ⊢ iprop(StableHlo.held (c : Thread nD τ) (Pipeline.ucRefs τ sig) (V20 m (outs m) c) ∗ E (F := F) c) := by
  have h (c : Dev nD) : afterRegion (pdats (W18 m) (W19 m) (W20 m) 1 c) (W19 m c) = V20 m (outs m) c := by
    rw [V20_eq, ← after1]; rfl
  unfold R1
  exact mkReg_post (p := 1) (F := F) hs1 (V20 m (outs m)) h c

theorem hs2 : ∀ w, (Pipeline.arrRef spec2 w).isScoped = false := by decide

theorem hpre2 (c : Dev nD) : iprop(StableHlo.held (c : Thread nD τ) (Pipeline.ucRefs τ sig) (V20 m (outs m) c) ∗ E (F := F) c)
    ⊢ (R2 (W18 m) (W19 m) (W20 m)).pre c := by
  rw [show V20 m (outs m) c = W20 m c from V20_eq m c]
  unfold R2
  exact mkReg_pre (p := 2) (F := F) hs2 c

theorem hpost2 (c : Dev nD) : (R2 (W18 m) (W19 m) (W20 m)).post c
    ⊢ iprop(StableHlo.held (c : Thread nD τ) (Pipeline.ucRefs τ sig) (V21 m (outs m) c) ∗ E (F := F) c) := by
  have h (c : Dev nD) : afterRegion (pdats (W18 m) (W19 m) (W20 m) 2 c) (W20 m c) = V21 m (outs m) c := by
    rw [V21_eq, ← after2]; rfl
  unfold R2
  exact mkReg_post (p := 2) (F := F) hs2 (V21 m (outs m)) h c

/-- The launch's tokens. -/
def u₀ : UR sig nD τ := initOf (Pipeline.cells cfgs cellOf_inj) (Pipeline.launchToks cfgs cellOf_inj)

/-- Every weakly fair execution ends with each unscoped buffer at the last valuation, and every counter at zero. -/
theorem run (ρ : Dev nD → PrngReg) :
    θ_run defs (onTc (τ := τ) (main (F := F))) ⟨m, fun _ => 0, ρ⟩ (fun r => (∀ c : Dev nD, ∀ b : Ref sig .tc, b.isScoped = false →
      r.2.mem ((c.tc : Thread nD τ).loc b) = V22 m (outs m) c b) ∧ r.2.sem = fun _ => 0) := by
  refine Pipeline.θ_run_regions_kit_dev_sems (pcfgs (F := F)) adm (pdats (W18 m) (W19 m) (W20 m)) () cellOf_inj emb₁ defs₀ Variants.none L lv m ρ main
    (segs m (outs m) Variants.none L lv (fun _ => E (F := F)) () (pdats (W18 m) (W19 m) (W20 m))
      (R0 (W18 m) (W19 m) (W20 m)) (R1 (W18 m) (W19 m) (W20 m)) (R2 (W18 m) (W19 m) (W20 m)))
    (fun c Q => by
      rewrite [main_chain c, Seg.run_eq_chain,
        show (segs m (outs m) Variants.none L lv (fun _ => E (F := F)) () (pdats (W18 m) (W19 m) (W20 m))
          (R0 (W18 m) (W19 m) (W20 m)) (R1 (W18 m) (W19 m) (W20 m)) (R2 (W18 m) (W19 m) (W20 m)) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          StableHlo.seq hostOps0_16, StableHlo.seq hostOps0_17,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => by unfold L; exact if_neg h) (fun _ => BI.emp) u₀
    (by
      iintro Hu; imodintro
      isplitl [Hu]; · iapply (show (ownU u₀ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) c))
    (Tₙ := fun c => StableHlo.held (c : Thread nD τ) (Pipeline.ucRefs τ sig) (V22 m (outs m) c))
    (hch := fun c => ⟨.rfl, .rfl, .rfl, .rfl, .rfl, .rfl, .rfl, .rfl, .rfl, .rfl, .rfl, .rfl, .rfl, .rfl, .rfl, .rfl, .rfl, .rfl, hpre0 m c, (hpost0 m c).trans (hpre1 m c),
      (hpost1 m c).trans (hpre2 m c), hpost2 m c, sep_mono .rfl .rfl⟩)
    (hinit := ?_) (QY := fun c s => ∀ b : Ref sig .tc, b.isScoped = false → s.mem ((c.tc : Thread nD τ).loc b) = V22 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ (BI.emp : sProp 𝕄))) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V22 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [Bool.not_eq_true]; exact hb⟩)
    · iexact HSI

end Cert.KernelIdeal.Splat
-- ==== Proof.RefScatter.lean ====
/-
  The reference's two scatters as sums over the points and their twenty-seven neighbours.
-/
module

public import proofs.«01_k».proof.Proof.Gen.ReferenceIdeal.Read
public import Idealize.ShloMosaic.Lib.Pointwise

@[expose] public section

noncomputable section

namespace Cert.ReferenceIdeal.Splat

open Cert.ReferenceIdeal Cert.ReferenceIdeal.Gen Cert.ReferenceIdeal.Read
open Idealize.ShloMosaic

abbrev dS := scatter_S640000_S1350000x1_S1350000_n_0_0_1
abbrev dF := scatter_S640000x16_S1350000x1_S1350000x16_1_0_0_1

theorem start_dS (j : S1350000.Idx) (idx : IVec S1350000x1 32) :
    dS.start j idx 0 = (idx (ix2 (j 0) (0 : Fin 1))).toInt := by
  unfold ScatterDims.start
  rw [dif_pos (by decide)]
  congr 2
  funext b
  match b with
  | ⟨0, _⟩ => rfl
  | ⟨1, _⟩ => rfl

theorem window_dS (j : S1350000.Idx) : dS.window j 0 = 0 := by
  unfold ScatterDims.window
  rw [dif_neg (by decide)]

/-- Where an update of the first scatter lands. -/
theorem lands_dS (j : S1350000.Idx) (idx : IVec S1350000x1 32) (v : Fin 640000) :
    dS.resultIdx? j idx = some (ix1 v) ↔ (idx (ix2 (j 0) (0 : Fin 1))).toInt = (v.val : ℤ) := by
  unfold ScatterDims.resultIdx?
  have h0 := start_dS j idx
  have h1 := window_dS j
  have hv := v.isLt
  by_cases h : ∀ a, 0 ≤ dS.start j idx a + dS.window j a ∧ dS.start j idx a + dS.window j a < S640000.size a
  · rw [dif_pos h]
    have hh := h 0
    rw [h0, h1] at hh
    constructor
    · intro e
      have e' := congrArg (fun f : S640000.Idx => (f 0).val) (Option.some.inj e)
      have e2 : (dS.start j idx 0 + dS.window j 0).toNat = v.val := e'
      rw [h0, h1] at e2
      omega
    · intro e
      congr 1
      funext a
      match a with
      | ⟨0, _⟩ =>
        apply Fin.ext
        show (dS.start j idx 0 + dS.window j 0).toNat = v.val
        rw [h0, h1]
        omega
  · rw [dif_neg h]
    constructor
    · intro e; cases e
    · intro e
      exfalso
      apply h
      intro a
      match a with
      | ⟨0, _⟩ =>
        show 0 ≤ dS.start j idx 0 + dS.window j 0 ∧ dS.start j idx 0 + dS.window j 0 < (640000 : ℕ)
        rw [h0, h1, e]
        constructor <;> omega

theorem start_dF (j : S1350000x16.Idx) (idx : IVec S1350000x1 32) :
    dF.start j idx 0 = (idx (ix2 (j 0) (0 : Fin 1))).toInt := by
  unfold ScatterDims.start
  rw [dif_pos (by decide)]
  congr 2
  funext b
  match b with
  | ⟨0, _⟩ => rfl
  | ⟨1, _⟩ => rfl

theorem start_dF1 (j : S1350000x16.Idx) (idx : IVec S1350000x1 32) : dF.start j idx 1 = 0 := by
  unfold ScatterDims.start
  rw [dif_neg (by decide)]

theorem window_dF (j : S1350000x16.Idx) : dF.window j 0 = 0 := by
  unfold ScatterDims.window
  rw [dif_neg (by decide)]

theorem window_dF1 (j : S1350000x16.Idx) : dF.window j 1 = (j 1).val := by
  unfold ScatterDims.window
  rw [dif_pos (by decide)]
  rfl

/-- Where an update of the second scatter lands. -/
theorem lands_dF (j : S1350000x16.Idx) (idx : IVec S1350000x1 32) (v : Fin 640000) (q : Fin 16) :
    dF.resultIdx? j idx = some (ix2 v q) ↔
      (idx (ix2 (j 0) (0 : Fin 1))).toInt = (v.val : ℤ) ∧ j 1 = q := by
  unfold ScatterDims.resultIdx?
  have h0 := start_dF j idx
  have h1 := window_dF j
  have h2 := start_dF1 j idx
  have h3 := window_dF1 j
  have hv := v.isLt
  have hj : (j 1).val < 16 := (j 1).isLt
  by_cases h : ∀ a, 0 ≤ dF.start j idx a + dF.window j a ∧ dF.start j idx a + dF.window j a < S640000x16.size a
  · rw [dif_pos h]
    have hh := h 0
    rw [h0, h1] at hh
    constructor
    · intro e
      have e' := congrArg (fun f : S640000x16.Idx => (f 0).val) (Option.some.inj e)
      have e2 : (dF.start j idx 0 + dF.window j 0).toNat = v.val := e'
      have f' := congrArg (fun f : S640000x16.Idx => (f 1).val) (Option.some.inj e)
      have f2 : (dF.start j idx 1 + dF.window j 1).toNat = q.val := f'
      rw [h0, h1] at e2
      rw [h2, h3] at f2
      exact ⟨by omega, Fin.ext (by omega)⟩
    · rintro ⟨e, f⟩
      congr 1
      funext a
      match a with
      | ⟨0, _⟩ =>
        apply Fin.ext
        show (dF.start j idx 0 + dF.window j 0).toNat = v.val
        rw [h0, h1]
        omega
      | ⟨1, _⟩ =>
        apply Fin.ext
        show (dF.start j idx 1 + dF.window j 1).toNat = q.val
        rw [h2, h3, ← f]
        omega
  · rw [dif_neg h]
    constructor
    · intro e; cases e
    · rintro ⟨e, f⟩
      exfalso
      apply h
      intro a
      match a with
      | ⟨0, _⟩ =>
        show 0 ≤ dF.start j idx 0 + dF.window j 0 ∧ dF.start j idx 0 + dF.window j 0 < (640000 : ℕ)
        rw [h0, h1, e]
        constructor <;> omega
      | ⟨1, _⟩ =>
        show 0 ≤ dF.start j idx 1 + dF.window j 1 ∧ dF.start j idx 1 + dF.window j 1 < (16 : ℕ)
        rw [h2, h3]
        constructor <;> omega

/-- A sum over all updates is the sum over the points and their neighbours. -/
theorem sum_updates {M : Type*} [AddCommMonoid M] (f : Fin 50000 → Fin 27 → M) :
    ∑ j : Fin 1350000, f (⟨j.val / 27, by omega⟩ : Fin 50000) (⟨j.val % 27, by omega⟩ : Fin 27) =
      ∑ n : Fin 50000, ∑ k : Fin 27, f n k := by
  rw [← Fintype.sum_prod_type' f]
  exact (Fintype.sum_equiv (finProdFinEquiv (m := 50000) (n := 27)) (fun p => f p.1 p.2) _ fun p => by
    have h1 : (finProdFinEquiv p).val = p.2.val + 27 * p.1.val := rfl
    have h2 := p.2.isLt
    congr 1
    · exact Fin.ext (by show p.1.val = _ / 27; rw [h1]; omega)
    · exact Fin.ext (by show p.2.val = _ % 27; rw [h1]; omega)).symm

theorem scatter_dS (x : FVec Ideal S640000 .f32) (idx : IVec S1350000x1 32) (upd : FVec Ideal S1350000 .f32) (v : Fin 640000) :
    Host.scatterAdd dS x idx upd (ix1 v) =
      x (ix1 v) + ∑ j : Fin 1350000, if (idx (ix2 j (0 : Fin 1))).toInt = (v.val : ℤ) then upd (ix1 j) else (0 : EReal) := by
  show Ideal.hostScatterAdd dS x idx upd (ix1 v) = _
  unfold Ideal.hostScatterAdd
  rw [Finset.sum_filter]
  refine congrArg (fun z : EReal => x _ + z) ?_
  rw [← Equiv.sum_comp (Equiv.symm (⟨fun i => i 0, ix1, fun i => (ValueIdx.eq_ix1 i).symm, fun _ => rfl⟩ : S1350000.Idx ≃ Fin 1350000))]
  refine Finset.sum_congr rfl fun j _ => ?_
  show (if dS.resultIdx? (ix1 j) idx = some (ix1 v) then upd (ix1 j) else 0) = _
  rw [if_congr (lands_dS (ix1 j) idx v) rfl rfl]
  rfl

theorem scatter_dF (x : FVec Ideal S640000x16 .f32) (idx : IVec S1350000x1 32) (upd : FVec Ideal S1350000x16 .f32) (v : Fin 640000) (q : Fin 16) :
    Host.scatterAdd dF x idx upd (ix2 v q) =
      x (ix2 v q) + ∑ j : Fin 1350000, if (idx (ix2 j (0 : Fin 1))).toInt = (v.val : ℤ) then upd (ix2 j q) else (0 : EReal) := by
  show Ideal.hostScatterAdd dF x idx upd (ix2 v q) = _
  unfold Ideal.hostScatterAdd
  rw [Finset.sum_filter]
  refine congrArg (fun z : EReal => x _ + z) ?_
  rw [sum_idx2]
  refine Finset.sum_congr rfl fun j _ => ?_
  rw [Finset.sum_congr rfl (g := fun b : Fin 16 => if b = q then (if (idx (ix2 j (0 : Fin 1))).toInt = (v.val : ℤ) then upd (ix2 j q) else (0 : EReal)) else 0)
    (fun b _ => by
      have key := lands_dF (ix2 j b) idx v q
      by_cases hb : b = q
      · subst hb
        rw [if_pos rfl]
        exact if_congr (key.trans (and_iff_left rfl)) rfl rfl
      · rw [if_neg hb, if_neg (fun h => hb (key.1 h).2)])]
  rw [Finset.sum_ite_eq' Finset.univ q, if_pos (Finset.mem_univ q)]

/-- The index word an update is scattered by: negative words move up by the number of cells. -/
def wrapW (w : BitVec 32) : BitVec 32 := Scalar.select (IntOp.cmpi .slt w 0#32) (IntOp.addi w 640000#32) w

theorem density_sum (x0 : (⟨S50000x3, .f32⟩ : BufTy).Contents (Elt Ideal)) (x1 : (⟨S50000x3x3, .f32⟩ : BufTy).Contents (Elt Ideal))
    (x2 : (⟨S50000, .f32⟩ : BufTy).Contents (Elt Ideal)) (v : Fin 640000) :
    val_main_v209 (F := Ideal) x0 x1 x2 (ix1 v) =
      ∑ n : Fin 50000, ∑ k : Fin 27,
        if (wrapW (val_main_v199 (F := Ideal) x0 (ix2 n k))).toInt = (v.val : ℤ)
        then val_main_v184 (F := Ideal) x0 x1 x2 (ix2 n k) else (0 : EReal) := by
  unfold val_main_v209
  rw [scatter_dS, val_main_v200_apply, val_main_cst_25_apply]
  rw [show (FloatOps.ofBits .f32 0x00000000#32 : Ideal .f32) = (0 : EReal) from by
    show Ideal.ofBits .f32 0x00000000#32 = 0
    simp [Ideal.ofBits, Ideal.ieee]]
  rw [zero_add, ← sum_updates]
  refine Finset.sum_congr rfl fun j _ => ?_
  rw [val_main_v202_apply, val_main_v208_apply, val_main_v207_apply, val_main_v204_apply, val_main_v206_apply,
    val_main_v201_apply, val_main_v203_apply, val_main_v205_apply, val_main_c_26_apply, val_main_c_27_apply]
  have e : idx_main_v201 (idx_main_v208 (ix2 j (0 : Fin 1))) = ix2 (⟨j.val / 27, by omega⟩ : Fin 50000) (⟨j.val % 27, by omega⟩ : Fin 27) := by
    funext a
    match a with
    | ⟨0, _⟩ => rfl
    | ⟨1, _⟩ => rfl
  have e2 : idx_main_v202 (ix1 j) = ix2 (⟨j.val / 27, by omega⟩ : Fin 50000) (⟨j.val % 27, by omega⟩ : Fin 27) := by
    funext a
    match a with
    | ⟨0, _⟩ => rfl
    | ⟨1, _⟩ => rfl
  rw [e, e2]
  rfl

theorem features_sum (x0 : (⟨S50000x3, .f32⟩ : BufTy).Contents (Elt Ideal)) (x1 : (⟨S50000x3x3, .f32⟩ : BufTy).Contents (Elt Ideal))
    (x2 : (⟨S50000, .f32⟩ : BufTy).Contents (Elt Ideal)) (x3 : (⟨S50000x16, .f32⟩ : BufTy).Contents (Elt Ideal)) (v : Fin 640000) (q : Fin 16) :
    val_main_v225 (F := Ideal) x0 x1 x2 x3 (ix2 v q) =
      ∑ n : Fin 50000, ∑ k : Fin 27,
        if (wrapW (val_main_v199 (F := Ideal) x0 (ix2 n k))).toInt = (v.val : ℤ)
        then val_main_v184 (F := Ideal) x0 x1 x2 (ix2 n k) * x3 (ix2 n q) else (0 : EReal) := by
  unfold val_main_v225
  rw [scatter_dF, val_main_v216_apply, val_main_cst_28_apply]
  rw [show (FloatOps.ofBits .f32 0x00000000#32 : Ideal .f32) = (0 : EReal) from by
    show Ideal.ofBits .f32 0x00000000#32 = 0
    simp [Ideal.ofBits, Ideal.ieee]]
  rw [zero_add, ← sum_updates]
  refine Finset.sum_congr rfl fun j _ => ?_
  rw [val_main_v218_apply, val_main_v215_apply, val_main_v213_apply, val_main_v214_apply, val_main_v211_apply, val_main_v212_apply,
    val_main_v224_apply, val_main_v223_apply, val_main_v220_apply, val_main_v222_apply,
    val_main_v217_apply, val_main_v219_apply, val_main_v221_apply, val_main_c_29_apply, val_main_c_30_apply]
  have e : idx_main_v217 (idx_main_v224 (ix2 j (0 : Fin 1))) = ix2 (⟨j.val / 27, by omega⟩ : Fin 50000) (⟨j.val % 27, by omega⟩ : Fin 27) := by
    funext a
    match a with
    | ⟨0, _⟩ => rfl
    | ⟨1, _⟩ => rfl
  have hq := q.isLt
  have hj := j.isLt
  have e2 : idx_main_v211 (idx_main_v213 (idx_main_v218 (ix2 j q))) = ix2 (⟨j.val / 27, by omega⟩ : Fin 50000) (⟨j.val % 27, by omega⟩ : Fin 27) := by
    funext a
    match a with
    | ⟨0, _⟩ => exact Fin.ext (by show (j.val * 16 + q.val) / 432 = j.val / 27; omega)
    | ⟨1, _⟩ => exact Fin.ext (by show (j.val * 16 + q.val) / 16 % 27 = j.val % 27; omega)
  have e3 : idx_main_v212 (idx_main_v214 (idx_main_v218 (ix2 j q))) = ix2 (⟨j.val / 27, by omega⟩ : Fin 50000) q := by
    funext a
    match a with
    | ⟨0, _⟩ => exact Fin.ext (by show (j.val * 16 + q.val) / 432 = j.val / 27; omega)
    | ⟨1, _⟩ => exact Fin.ext (by show (j.val * 16 + q.val) % 16 = q.val; omega)
  rw [e, e2, e3]
  rfl

end Cert.ReferenceIdeal.Splat
-- ==== Proof.DensWeights.lean ====
/- The weights of one block: the 27 neighbours' rows, beside each other. -/
module

public import proofs.«01_k».proof.Proof.DensBody
public import proofs.«01_k».proof.Proof.FeatsBody
public import Idealize.ShloMosaic.Lib.Pointwise

@[expose] public section

set_option maxRecDepth 65536

noncomputable section

namespace Cert.KernelIdeal.Splat

open Cert.KernelIdeal Cert.KernelIdeal.Gen
open Idealize.ShloMosaic Idealize.ShloMosaic.TcCoe Idealize.ShloMosaic.Tactic
open Cert.Splat

variable {F : FTy → Type} [FloatOps F]

/-- The weights of 512 Gaussians at the neighbour of offset `dx`, `dy`, `dz`. -/
def wrow (v4 v6 v8 v10 v12 v14 v16 : FVec F S1x512 .f32) (dx dy dz : BitVec 32) : FVec F S1x512 .f32 :=
  have v18 : IVec S1x512 1 := cmpf .ogt v16 (broadcast S1x512 (Scalar.ofBits .f32 0x358637BD#32))
  have v20 : IVec S1x512 1 := cmpf .oge v4 (broadcast S1x512 (Scalar.ofBits .f32 0xC2200000#32))
  have v22 : IVec S1x512 1 := cmpf .ole v4 (broadcast S1x512 (Scalar.ofBits .f32 0x42200000#32))
  have v23 : IVec S1x512 1 := andi v20 v22
  have v24 : IVec S1x512 1 := andi v18 v23
  have v26 : IVec S1x512 1 := cmpf .oge v6 (broadcast S1x512 (Scalar.ofBits .f32 0xC2200000#32))
  have v28 : IVec S1x512 1 := cmpf .ole v6 (broadcast S1x512 (Scalar.ofBits .f32 0x42200000#32))
  have v29 : IVec S1x512 1 := andi v26 v28
  have v30 : IVec S1x512 1 := andi v24 v29
  have v32 : IVec S1x512 1 := cmpf .oge v8 (broadcast S1x512 (Scalar.ofBits .f32 0xBF800000#32))
  have v34 : IVec S1x512 1 := cmpf .ole v8 (broadcast S1x512 (Scalar.ofBits .f32 0x40ACCCCD#32))
  have v35 : IVec S1x512 1 := andi v32 v34
  have v36 : IVec S1x512 1 := andi v30 v35
  have v38 : FVec F S1x512 .f32 := subf v4 (broadcast S1x512 (Scalar.ofBits .f32 0xC2200000#32))
  have v40 : FVec F S1x512 .f32 := divf v38 (broadcast S1x512 (Scalar.ofBits .f32 0x3ECCCCCD#32))
  have v41 : FVec F S1x512 .f32 := floor v40
  have v42 : IVec S1x512 32 := fptosi 32 v41
  have v44 : FVec F S1x512 .f32 := subf v6 (broadcast S1x512 (Scalar.ofBits .f32 0xC2200000#32))
  have v46 : FVec F S1x512 .f32 := divf v44 (broadcast S1x512 (Scalar.ofBits .f32 0x3ECCCCCD#32))
  have v47 : FVec F S1x512 .f32 := floor v46
  have v48 : IVec S1x512 32 := fptosi 32 v47
  have v50 : FVec F S1x512 .f32 := subf v8 (broadcast S1x512 (Scalar.ofBits .f32 0xBF800000#32))
  have v52 : FVec F S1x512 .f32 := divf v50 (broadcast S1x512 (Scalar.ofBits .f32 0x3ECCCCCD#32))
  have v53 : FVec F S1x512 .f32 := floor v52
  have v54 : IVec S1x512 32 := fptosi 32 v53
  have v56 : FVec F S1x512 .f32 := divf (broadcast S1x512 (Scalar.ofBits .f32 0x3F800000#32)) v10
  have v58 : FVec F S1x512 .f32 := divf (broadcast S1x512 (Scalar.ofBits .f32 0x3F800000#32)) v12
  have v60 : FVec F S1x512 .f32 := divf (broadcast S1x512 (Scalar.ofBits .f32 0x3F800000#32)) v14
  have v61 : FVec F S1x512 .f32 := sqrt v10
  have v63 : FVec F S1x512 .f32 := mulf (broadcast S1x512 (Scalar.ofBits .f32 0x40400000#32)) v61
  have v64 : FVec F S1x512 .f32 := sqrt v12
  have v66 : FVec F S1x512 .f32 := mulf (broadcast S1x512 (Scalar.ofBits .f32 0x40400000#32)) v64
  have v67 : FVec F S1x512 .f32 := sqrt v14
  have v69 : FVec F S1x512 .f32 := mulf (broadcast S1x512 (Scalar.ofBits .f32 0x40400000#32)) v67
  have v70 : IVec S1x512 32 := broadcast S1x512 dx
  have v71 : IVec S1x512 32 := addi v42 v70
  have v72 : IVec S1x512 32 := broadcast S1x512 dy
  have v73 : IVec S1x512 32 := addi v48 v72
  have v74 : IVec S1x512 32 := broadcast S1x512 dz
  have v75 : IVec S1x512 32 := addi v54 v74
  have v77 : IVec S1x512 1 := cmpi .sge v71 (broadcast S1x512 0#32)
  have v79 : IVec S1x512 1 := cmpi .slt v71 (broadcast S1x512 200#32)
  have v80 : IVec S1x512 1 := andi v77 v79
  have v82 : IVec S1x512 1 := cmpi .sge v73 (broadcast S1x512 0#32)
  have v84 : IVec S1x512 1 := cmpi .slt v73 (broadcast S1x512 200#32)
  have v85 : IVec S1x512 1 := andi v82 v84
  have v86 : IVec S1x512 1 := andi v80 v85
  have v88 : IVec S1x512 1 := cmpi .sge v75 (broadcast S1x512 0#32)
  have v90 : IVec S1x512 1 := cmpi .slt v75 (broadcast S1x512 16#32)
  have v91 : IVec S1x512 1 := andi v88 v90
  have v92 : IVec S1x512 1 := andi v86 v91
  have v93 : FVec F S1x512 .f32 := sitofp .f32 v71
  have v95 : FVec F S1x512 .f32 := addf v93 (broadcast S1x512 (Scalar.ofBits .f32 0x3F000000#32))
  have v97 : FVec F S1x512 .f32 := mulf v95 (broadcast S1x512 (Scalar.ofBits .f32 0x3ECCCCCD#32))
  have v99 : FVec F S1x512 .f32 := addf (broadcast S1x512 (Scalar.ofBits .f32 0xC2200000#32)) v97
  have v100 : FVec F S1x512 .f32 := subf v99 v4
  have v101 : FVec F S1x512 .f32 := sitofp .f32 v73
  have v103 : FVec F S1x512 .f32 := addf v101 (broadcast S1x512 (Scalar.ofBits .f32 0x3F000000#32))
  have v105 : FVec F S1x512 .f32 := mulf v103 (broadcast S1x512 (Scalar.ofBits .f32 0x3ECCCCCD#32))
  have v107 : FVec F S1x512 .f32 := addf (broadcast S1x512 (Scalar.ofBits .f32 0xC2200000#32)) v105
  have v108 : FVec F S1x512 .f32 := subf v107 v6
  have v109 : FVec F S1x512 .f32 := sitofp .f32 v75
  have v111 : FVec F S1x512 .f32 := addf v109 (broadcast S1x512 (Scalar.ofBits .f32 0x3F000000#32))
  have v113 : FVec F S1x512 .f32 := mulf v111 (broadcast S1x512 (Scalar.ofBits .f32 0x3ECCCCCD#32))
  have v115 : FVec F S1x512 .f32 := addf (broadcast S1x512 (Scalar.ofBits .f32 0xBF800000#32)) v113
  have v116 : FVec F S1x512 .f32 := subf v115 v8
  have v117 : FVec F S1x512 .f32 := absf v100
  have v118 : IVec S1x512 1 := cmpf .ole v117 v63
  have v119 : FVec F S1x512 .f32 := absf v108
  have v120 : IVec S1x512 1 := cmpf .ole v119 v66
  have v121 : IVec S1x512 1 := andi v118 v120
  have v122 : FVec F S1x512 .f32 := absf v116
  have v123 : IVec S1x512 1 := cmpf .ole v122 v69
  have v124 : IVec S1x512 1 := andi v121 v123
  have v125 : FVec F S1x512 .f32 := mulf v100 v100
  have v126 : FVec F S1x512 .f32 := mulf v125 v56
  have v127 : FVec F S1x512 .f32 := mulf v108 v108
  have v128 : FVec F S1x512 .f32 := mulf v127 v58
  have v129 : FVec F S1x512 .f32 := addf v126 v128
  have v130 : FVec F S1x512 .f32 := mulf v116 v116
  have v131 : FVec F S1x512 .f32 := mulf v130 v60
  have v132 : FVec F S1x512 .f32 := addf v129 v131
  have v134 : FVec F S1x512 .f32 := mulf (broadcast S1x512 (Scalar.ofBits .f32 0xBF000000#32)) v132
  have v135 : FVec F S1x512 .f32 := exp v134
  have v136 : FVec F S1x512 .f32 := mulf v16 v135
  have v137 : IVec S1x512 1 := andi v92 v124
  have v138 : IVec S1x512 1 := andi v137 v36
  have v140 : FVec F S1x512 .f32 := select v138 v136 (broadcast S1x512 (Scalar.ofBits .f32 0x00000000#32))
  v140

/-- The 27 rows beside each other, and five columns of zeros. -/
def lay (R : BitVec 32 → BitVec 32 → BitVec 32 → FVec F S1x512 .f32) : FVec F S512x32 .f32 :=
  let Z : FVec F S1x512 .f32 := broadcast S1x512 (Scalar.ofBits .f32 0x00000000#32)
  shapeCast S512x32 (transpose S512x32 [1, 0] (concatenate S32x512 0 [⟨S1x512, R 4294967295#32 4294967295#32 4294967295#32⟩, ⟨S1x512, R 4294967295#32 4294967295#32 0#32⟩, ⟨S1x512, R 4294967295#32 4294967295#32 1#32⟩, ⟨S1x512, R 4294967295#32 0#32 4294967295#32⟩, ⟨S1x512, R 4294967295#32 0#32 0#32⟩, ⟨S1x512, R 4294967295#32 0#32 1#32⟩, ⟨S1x512, R 4294967295#32 1#32 4294967295#32⟩, ⟨S1x512, R 4294967295#32 1#32 0#32⟩, ⟨S1x512, R 4294967295#32 1#32 1#32⟩, ⟨S1x512, R 0#32 4294967295#32 4294967295#32⟩, ⟨S1x512, R 0#32 4294967295#32 0#32⟩, ⟨S1x512, R 0#32 4294967295#32 1#32⟩, ⟨S1x512, R 0#32 0#32 4294967295#32⟩, ⟨S1x512, R 0#32 0#32 0#32⟩, ⟨S1x512, R 0#32 0#32 1#32⟩, ⟨S1x512, R 0#32 1#32 4294967295#32⟩, ⟨S1x512, R 0#32 1#32 0#32⟩, ⟨S1x512, R 0#32 1#32 1#32⟩, ⟨S1x512, R 1#32 4294967295#32 4294967295#32⟩, ⟨S1x512, R 1#32 4294967295#32 0#32⟩, ⟨S1x512, R 1#32 4294967295#32 1#32⟩, ⟨S1x512, R 1#32 0#32 4294967295#32⟩, ⟨S1x512, R 1#32 0#32 0#32⟩, ⟨S1x512, R 1#32 0#32 1#32⟩, ⟨S1x512, R 1#32 1#32 4294967295#32⟩, ⟨S1x512, R 1#32 1#32 0#32⟩, ⟨S1x512, R 1#32 1#32 1#32⟩, ⟨S1x512, Z⟩, ⟨S1x512, Z⟩, ⟨S1x512, Z⟩, ⟨S1x512, Z⟩, ⟨S1x512, Z⟩]
    concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0) transposes_S32x512_p1_0_S512x32) shapeCasts_S512x32_S512x32

/-- The weight of one Gaussian at the neighbour of offset `dx`, `dy`, `dz`. -/
def wS (v4 v6 v8 v10 v12 v14 v16 : F .f32) (dx dy dz : BitVec 32) : F .f32 :=
  have v18 : BitVec 1 := FloatOps.cmpf .ogt v16 (FloatOps.ofBits .f32 0x358637BD#32)
  have v20 : BitVec 1 := FloatOps.cmpf .oge v4 (FloatOps.ofBits .f32 0xC2200000#32)
  have v22 : BitVec 1 := FloatOps.cmpf .ole v4 (FloatOps.ofBits .f32 0x42200000#32)
  have v23 : BitVec 1 := IntOp.andi v20 v22
  have v24 : BitVec 1 := IntOp.andi v18 v23
  have v26 : BitVec 1 := FloatOps.cmpf .oge v6 (FloatOps.ofBits .f32 0xC2200000#32)
  have v28 : BitVec 1 := FloatOps.cmpf .ole v6 (FloatOps.ofBits .f32 0x42200000#32)
  have v29 : BitVec 1 := IntOp.andi v26 v28
  have v30 : BitVec 1 := IntOp.andi v24 v29
  have v32 : BitVec 1 := FloatOps.cmpf .oge v8 (FloatOps.ofBits .f32 0xBF800000#32)
  have v34 : BitVec 1 := FloatOps.cmpf .ole v8 (FloatOps.ofBits .f32 0x40ACCCCD#32)
  have v35 : BitVec 1 := IntOp.andi v32 v34
  have v36 : BitVec 1 := IntOp.andi v30 v35
  have v38 : F .f32 := FloatOps.subf v4 (FloatOps.ofBits .f32 0xC2200000#32)
  have v40 : F .f32 := FloatOps.divf v38 (FloatOps.ofBits .f32 0x3ECCCCCD#32)
  have v41 : F .f32 := FloatOps.floor v40
  have v42 : BitVec 32 := FloatOps.fptosi 32 v41
  have v44 : F .f32 := FloatOps.subf v6 (FloatOps.ofBits .f32 0xC2200000#32)
  have v46 : F .f32 := FloatOps.divf v44 (FloatOps.ofBits .f32 0x3ECCCCCD#32)
  have v47 : F .f32 := FloatOps.floor v46
  have v48 : BitVec 32 := FloatOps.fptosi 32 v47
  have v50 : F .f32 := FloatOps.subf v8 (FloatOps.ofBits .f32 0xBF800000#32)
  have v52 : F .f32 := FloatOps.divf v50 (FloatOps.ofBits .f32 0x3ECCCCCD#32)
  have v53 : F .f32 := FloatOps.floor v52
  have v54 : BitVec 32 := FloatOps.fptosi 32 v53
  have v56 : F .f32 := FloatOps.divf (FloatOps.ofBits .f32 0x3F800000#32) v10
  have v58 : F .f32 := FloatOps.divf (FloatOps.ofBits .f32 0x3F800000#32) v12
  have v60 : F .f32 := FloatOps.divf (FloatOps.ofBits .f32 0x3F800000#32) v14
  have v61 : F .f32 := FloatOps.sqrt v10
  have v63 : F .f32 := FloatOps.mulf (FloatOps.ofBits .f32 0x40400000#32) v61
  have v64 : F .f32 := FloatOps.sqrt v12
  have v66 : F .f32 := FloatOps.mulf (FloatOps.ofBits .f32 0x40400000#32) v64
  have v67 : F .f32 := FloatOps.sqrt v14
  have v69 : F .f32 := FloatOps.mulf (FloatOps.ofBits .f32 0x40400000#32) v67
  have v70 : BitVec 32 := dx
  have v71 : BitVec 32 := IntOp.addi v42 v70
  have v72 : BitVec 32 := dy
  have v73 : BitVec 32 := IntOp.addi v48 v72
  have v74 : BitVec 32 := dz
  have v75 : BitVec 32 := IntOp.addi v54 v74
  have v77 : BitVec 1 := IntOp.cmpi .sge v71 0#32
  have v79 : BitVec 1 := IntOp.cmpi .slt v71 200#32
  have v80 : BitVec 1 := IntOp.andi v77 v79
  have v82 : BitVec 1 := IntOp.cmpi .sge v73 0#32
  have v84 : BitVec 1 := IntOp.cmpi .slt v73 200#32
  have v85 : BitVec 1 := IntOp.andi v82 v84
  have v86 : BitVec 1 := IntOp.andi v80 v85
  have v88 : BitVec 1 := IntOp.cmpi .sge v75 0#32
  have v90 : BitVec 1 := IntOp.cmpi .slt v75 16#32
  have v91 : BitVec 1 := IntOp.andi v88 v90
  have v92 : BitVec 1 := IntOp.andi v86 v91
  have v93 : F .f32 := FloatOps.sitofp .f32 v71
  have v95 : F .f32 := FloatOps.addf v93 (FloatOps.ofBits .f32 0x3F000000#32)
  have v97 : F .f32 := FloatOps.mulf v95 (FloatOps.ofBits .f32 0x3ECCCCCD#32)
  have v99 : F .f32 := FloatOps.addf (FloatOps.ofBits .f32 0xC2200000#32) v97
  have v100 : F .f32 := FloatOps.subf v99 v4
  have v101 : F .f32 := FloatOps.sitofp .f32 v73
  have v103 : F .f32 := FloatOps.addf v101 (FloatOps.ofBits .f32 0x3F000000#32)
  have v105 : F .f32 := FloatOps.mulf v103 (FloatOps.ofBits .f32 0x3ECCCCCD#32)
  have v107 : F .f32 := FloatOps.addf (FloatOps.ofBits .f32 0xC2200000#32) v105
  have v108 : F .f32 := FloatOps.subf v107 v6
  have v109 : F .f32 := FloatOps.sitofp .f32 v75
  have v111 : F .f32 := FloatOps.addf v109 (FloatOps.ofBits .f32 0x3F000000#32)
  have v113 : F .f32 := FloatOps.mulf v111 (FloatOps.ofBits .f32 0x3ECCCCCD#32)
  have v115 : F .f32 := FloatOps.addf (FloatOps.ofBits .f32 0xBF800000#32) v113
  have v116 : F .f32 := FloatOps.subf v115 v8
  have v117 : F .f32 := FloatOps.absf v100
  have v118 : BitVec 1 := FloatOps.cmpf .ole v117 v63
  have v119 : F .f32 := FloatOps.absf v108
  have v120 : BitVec 1 := FloatOps.cmpf .ole v119 v66
  have v121 : BitVec 1 := IntOp.andi v118 v120
  have v122 : F .f32 := FloatOps.absf v116
  have v123 : BitVec 1 := FloatOps.cmpf .ole v122 v69
  have v124 : BitVec 1 := IntOp.andi v121 v123
  have v125 : F .f32 := FloatOps.mulf v100 v100
  have v126 : F .f32 := FloatOps.mulf v125 v56
  have v127 : F .f32 := FloatOps.mulf v108 v108
  have v128 : F .f32 := FloatOps.mulf v127 v58
  have v129 : F .f32 := FloatOps.addf v126 v128
  have v130 : F .f32 := FloatOps.mulf v116 v116
  have v131 : F .f32 := FloatOps.mulf v130 v60
  have v132 : F .f32 := FloatOps.addf v129 v131
  have v134 : F .f32 := FloatOps.mulf (FloatOps.ofBits .f32 0xBF000000#32) v132
  have v135 : F .f32 := FloatOps.exp v134
  have v136 : F .f32 := FloatOps.mulf v16 v135
  have v137 : BitVec 1 := IntOp.andi v92 v124
  have v138 : BitVec 1 := IntOp.andi v137 v36
  have v140 : F .f32 := Scalar.select v138 v136 (FloatOps.ofBits .f32 0x00000000#32)
  v140

/-- The offset words. -/
def noff : Fin 3 → BitVec 32 := ![4294967295#32, 0#32, 1#32]

theorem wrow_at (v4 v6 v8 v10 v12 v14 v16 : FVec F S1x512 .f32) (dx dy dz : BitVec 32) (k : Fin 512) :
    wrow v4 v6 v8 v10 v12 v14 v16 dx dy dz (ix2 0 k)
      = wS (v4 (ix2 0 k)) (v6 (ix2 0 k)) (v8 (ix2 0 k)) (v10 (ix2 0 k)) (v12 (ix2 0 k)) (v14 (ix2 0 k)) (v16 (ix2 0 k)) dx dy dz := by
  unfold wrow wS
  pointwise

theorem lay_at (R : BitVec 32 → BitVec 32 → BitVec 32 → FVec F S1x512 .f32) (e j d : Fin 3) (k : Fin 512) :
    lay R (ix2 k ⟨9 * e.val + 3 * j.val + d.val, by omega⟩) = R (noff e) (noff j) (noff d) (ix2 0 k) := by
  unfold lay
  fin_cases e <;> fin_cases j <;> fin_cases d <;> (pointwise; try rfl)

/-- One channel of the block's records, as a row. -/
def chan (c : Dev nD) (arg1 : Memref sig .tc .vmem S1x8x512 .f32) (x : Buf (Elt F) (arg1.view.loc (c : Thread nD τ)))
    (ch : ℕ) (inb : ∀ d, ![0, ch, 0] d + S1x1x512.size d ≤ S1x8x512.size d) : FVec F S1x512 .f32 :=
  shapeCast S1x512 (View.readAt (Elt F) arg1.view (Rect.unit (s := S1x8x512) ![0, ch, 0] S1x1x512.size inb).toLoadRect x) shapeCasts_S1x1x512_S1x512

theorem chan_at (c : Dev nD) (arg1 : Memref sig .tc .vmem S1x8x512 .f32) (x : Buf (Elt F) (arg1.view.loc (c : Thread nD τ)))
    (ch : Fin 8) (inb : ∀ d, ![0, ch.val, 0] d + S1x1x512.size d ≤ S1x8x512.size d) (k : Fin 512) :
    chan c arg1 x ch.val inb (ix2 0 k) = arg1.view.read (Elt F) x (ix3 0 ch k) := by
  unfold chan
  pointwise
  rw [View.readAt_apply]
  congr 1
  ext a
  fin_cases a <;> simp

/-- The weights of one block of records. -/
def blockW (c : Dev nD) (arg1 : Memref sig .tc .vmem S1x8x512 .f32) (x : Buf (Elt F) (arg1.view.loc (c : Thread nD τ))) :
    FVec F S512x32 .f32 :=
  lay (wrow (chan c arg1 x 0 inb_S1x8x512_S1x1x512_0_0_0) (chan c arg1 x 1 inb_S1x8x512_S1x1x512_0_1_0) (chan c arg1 x 2 inb_S1x8x512_S1x1x512_0_2_0) (chan c arg1 x 3 inb_S1x8x512_S1x1x512_0_3_0) (chan c arg1 x 4 inb_S1x8x512_S1x1x512_0_4_0) (chan c arg1 x 5 inb_S1x8x512_S1x1x512_0_5_0) (chan c arg1 x 6 inb_S1x8x512_S1x1x512_0_6_0))

theorem densBody0_weights (c : Dev nD) (arg1 : Memref sig .tc .vmem S1x8x512 .f32) (x : Buf (Elt F) (arg1.view.loc (c : Thread nD τ))) :
    densBody0.sl.r_201 c arg1 x = blockW c arg1 x := rfl

theorem densBodyS_weights (c : Dev nD) (arg1 : Memref sig .tc .vmem S1x8x512 .f32) (x : Buf (Elt F) (arg1.view.loc (c : Thread nD τ))) :
    densBodyS.sl.r_201 c arg1 x = blockW c arg1 x := rfl

theorem featsBody0_weights (c : Dev nD) (arg1 : Memref sig .tc .vmem S1x8x512 .f32) (x : Buf (Elt F) (arg1.view.loc (c : Thread nD τ))) :
    featsBody0.sl.r_201 c arg1 x = blockW c arg1 x := rfl

theorem featsBodyS_weights (c : Dev nD) (arg1 : Memref sig .tc .vmem S1x8x512 .f32) (x : Buf (Elt F) (arg1.view.loc (c : Thread nD τ))) :
    featsBodyS.sl.r_201 c arg1 x = blockW c arg1 x := rfl

/-- The weight of a record's Gaussian at the neighbour `e`, `j`, `d`. -/
def wP (p : Fin 8 → F .f32) (e j d : Fin 3) : F .f32 :=
  wS (p 0) (p 1) (p 2) (p 3) (p 4) (p 5) (p 6) (noff e) (noff j) (noff d)

theorem blockW_at (c : Dev nD) (arg1 : Memref sig .tc .vmem S1x8x512 .f32) (x : Buf (Elt F) (arg1.view.loc (c : Thread nD τ)))
    (e j d : Fin 3) (k : Fin 512) :
    blockW c arg1 x (ix2 k ⟨9 * e.val + 3 * j.val + d.val, by omega⟩)
      = wP (fun ch => arg1.view.read (Elt F) x (ix3 0 ch k)) e j d := by
  unfold blockW
  rw [lay_at, wrow_at]
  have e0 : chan c arg1 x 0 inb_S1x8x512_S1x1x512_0_0_0 (ix2 0 k) = (fun ch : Fin 8 => arg1.view.read (Elt F) x (ix3 0 ch k)) 0 := chan_at c arg1 x 0 inb_S1x8x512_S1x1x512_0_0_0 k
  have e1 : chan c arg1 x 1 inb_S1x8x512_S1x1x512_0_1_0 (ix2 0 k) = (fun ch : Fin 8 => arg1.view.read (Elt F) x (ix3 0 ch k)) 1 := chan_at c arg1 x 1 inb_S1x8x512_S1x1x512_0_1_0 k
  have e2 : chan c arg1 x 2 inb_S1x8x512_S1x1x512_0_2_0 (ix2 0 k) = (fun ch : Fin 8 => arg1.view.read (Elt F) x (ix3 0 ch k)) 2 := chan_at c arg1 x 2 inb_S1x8x512_S1x1x512_0_2_0 k
  have e3 : chan c arg1 x 3 inb_S1x8x512_S1x1x512_0_3_0 (ix2 0 k) = (fun ch : Fin 8 => arg1.view.read (Elt F) x (ix3 0 ch k)) 3 := chan_at c arg1 x 3 inb_S1x8x512_S1x1x512_0_3_0 k
  have e4 : chan c arg1 x 4 inb_S1x8x512_S1x1x512_0_4_0 (ix2 0 k) = (fun ch : Fin 8 => arg1.view.read (Elt F) x (ix3 0 ch k)) 4 := chan_at c arg1 x 4 inb_S1x8x512_S1x1x512_0_4_0 k
  have e5 : chan c arg1 x 5 inb_S1x8x512_S1x1x512_0_5_0 (ix2 0 k) = (fun ch : Fin 8 => arg1.view.read (Elt F) x (ix3 0 ch k)) 5 := chan_at c arg1 x 5 inb_S1x8x512_S1x1x512_0_5_0 k
  have e6 : chan c arg1 x 6 inb_S1x8x512_S1x1x512_0_6_0 (ix2 0 k) = (fun ch : Fin 8 => arg1.view.read (Elt F) x (ix3 0 ch k)) 6 := chan_at c arg1 x 6 inb_S1x8x512_S1x1x512_0_6_0 k
  rw [e0, e1, e2, e3, e4, e5, e6]
  rfl

/-- The base voxel's word along an axis of lower end `lo`. -/
def baseW (lo m : F .f32) : BitVec 32 :=
  FloatOps.fptosi 32 (FloatOps.floor (FloatOps.divf (FloatOps.subf m lo) (FloatOps.ofBits .f32 0x3ECCCCCD#32)))

/-- The words of a record's base voxel. -/
def bX (p : Fin 8 → F .f32) : BitVec 32 := baseW (FloatOps.ofBits .f32 0xC2200000#32) (p 0)
def bY (p : Fin 8 → F .f32) : BitVec 32 := baseW (FloatOps.ofBits .f32 0xC2200000#32) (p 1)
def bZ (p : Fin 8 → F .f32) : BitVec 32 := baseW (FloatOps.ofBits .f32 0xBF800000#32) (p 2)

/-- A record's row and column. -/
def rowOf (p : Fin 8 → F .f32) : ℕ := clip199 (bX p) * 202 + clip199 (bY p)
def colOf (p : Fin 8 → F .f32) : BitVec 32 := IntOp.minsi 15#32 (IntOp.maxsi 0#32 (bZ p))

/-- A base voxel's words as a row. -/
def baseRow (lo : F .f32) (v : FVec F S1x512 .f32) : IVec S1x512 32 :=
  fptosi 32 (floor (divf (subf v (broadcast S1x512 lo)) (broadcast S1x512 (Scalar.ofBits .f32 0x3ECCCCCD#32))))

/-- The words of one block. -/
def blockI (c : Dev nD) (arg1 : Memref sig .tc .vmem S1x8x512 .f32) (x : Buf (Elt F) (arg1.view.loc (c : Thread nD τ))) :
    IVec S512x8 32 :=
  k0_pay1 (k0_pay290 (baseRow (Scalar.ofBits .f32 0xC2200000#32) (chan c arg1 x 0 inb_S1x8x512_S1x1x512_0_0_0)))
    (k0_pay291 (baseRow (Scalar.ofBits .f32 0xC2200000#32) (chan c arg1 x 1 inb_S1x8x512_S1x1x512_0_1_0))) 15#32
    (k0_pay292 (baseRow (Scalar.ofBits .f32 0xBF800000#32) (chan c arg1 x 2 inb_S1x8x512_S1x1x512_0_2_0)))

theorem pay1_col (a b : IVec S1x512 32) (d : IVec S1x512 32) (k : Fin 512) :
    k0_pay1 a b 15#32 (k0_pay292 d) (ix2 k 1) = IntOp.minsi 15#32 (IntOp.maxsi 0#32 (d (ix2 0 k))) := by
  unfold k0_pay1 k0_pay292
  pointwise

theorem baseRow_at (lo : F .f32) (v : FVec F S1x512 .f32) (k : Fin 512) : baseRow lo v (ix2 0 k) = baseW lo (v (ix2 0 k)) := rfl

theorem blockI_row (c : Dev nD) (arg1 : Memref sig .tc .vmem S1x8x512 .f32) (x : Buf (Elt F) (arg1.view.loc (c : Thread nD τ)))
    (k : Fin 512) : Affine.IsInt (blockI c arg1 x (ix2 k 0)) (rowOf fun ch => arg1.view.read (Elt F) x (ix3 0 ch k)) := by
  unfold blockI
  rw [pay1_row, baseRow_at, baseRow_at]
  have e0 : chan c arg1 x 0 inb_S1x8x512_S1x1x512_0_0_0 (ix2 0 k) = (fun ch : Fin 8 => arg1.view.read (Elt F) x (ix3 0 ch k)) 0 := chan_at c arg1 x 0 inb_S1x8x512_S1x1x512_0_0_0 k
  have e1 : chan c arg1 x 1 inb_S1x8x512_S1x1x512_0_1_0 (ix2 0 k) = (fun ch : Fin 8 => arg1.view.read (Elt F) x (ix3 0 ch k)) 1 := chan_at c arg1 x 1 inb_S1x8x512_S1x1x512_0_1_0 k
  rw [e0, e1]
  exact row_isInt _ _

theorem blockI_col (c : Dev nD) (arg1 : Memref sig .tc .vmem S1x8x512 .f32) (x : Buf (Elt F) (arg1.view.loc (c : Thread nD τ)))
    (k : Fin 512) : blockI c arg1 x (ix2 k 1) = colOf fun ch => arg1.view.read (Elt F) x (ix3 0 ch k) := by
  unfold blockI
  rw [pay1_col, baseRow_at]
  have e2 : chan c arg1 x 2 inb_S1x8x512_S1x1x512_0_2_0 (ix2 0 k) = (fun ch : Fin 8 => arg1.view.read (Elt F) x (ix3 0 ch k)) 2 := chan_at c arg1 x 2 inb_S1x8x512_S1x1x512_0_2_0 k
  rw [e2]
  rfl

theorem densBody0_words (c : Dev nD) (arg1 : Memref sig .tc .vmem S1x8x512 .f32) (x : Buf (Elt F) (arg1.view.loc (c : Thread nD τ))) :
    densBody0.sl.HI_1 c arg1 x = [⟨Rect.unit ![0, 0] S512x8.size inb_S512x8_S512x8_0_0, blockI c arg1 x⟩] := rfl

theorem densBodyS_words (c : Dev nD) (arg1 : Memref sig .tc .vmem S1x8x512 .f32) (x : Buf (Elt F) (arg1.view.loc (c : Thread nD τ))) :
    densBodyS.sl.HI_1 c arg1 x = [⟨Rect.unit ![0, 0] S512x8.size inb_S512x8_S512x8_0_0, blockI c arg1 x⟩] := rfl

theorem featsBody0_words (c : Dev nD) (arg1 : Memref sig .tc .vmem S1x8x512 .f32) (x : Buf (Elt F) (arg1.view.loc (c : Thread nD τ))) :
    featsBody0.sl.HI_1 c arg1 x = [⟨Rect.unit ![0, 0] S512x8.size inb_S512x8_S512x8_0_0, blockI c arg1 x⟩] := rfl

theorem featsBodyS_words (c : Dev nD) (arg1 : Memref sig .tc .vmem S1x8x512 .f32) (x : Buf (Elt F) (arg1.view.loc (c : Thread nD τ))) :
    featsBodyS.sl.HI_1 c arg1 x = [⟨Rect.unit ![0, 0] S512x8.size inb_S512x8_S512x8_0_0, blockI c arg1 x⟩] := rfl

end Cert.KernelIdeal.Splat
-- ==== Proof.RefPoint.lean ====
/-
  The reference's per-point arrays read at an index.
-/
module

public import proofs.«01_k».proof.Proof.RefScatter
public import proofs.«01_k».proof.Proof.DensWeights
public import Idealize.ShloMosaic.Lib.Pointwise
public import Idealize.ShloMosaic.Lib.ReduceAll

@[expose] public section

noncomputable section

namespace Cert.ReferenceIdeal.Splat

open Cert.ReferenceIdeal Cert.ReferenceIdeal.Gen Cert.ReferenceIdeal.Read
open Idealize.ShloMosaic
open Cert.KernelIdeal.Splat (baseW noff)

variable (x0 : (⟨S50000x3, .f32⟩ : BufTy).Contents (Elt Ideal)) (x1 : (⟨S50000x3x3, .f32⟩ : BufTy).Contents (Elt Ideal))
  (x2 : (⟨S50000, .f32⟩ : BufTy).Contents (Elt Ideal))

/-- The lower corner of the volume, and the grid's extents. -/
def lo : Fin 3 → Ideal .f32 := ![FloatOps.ofBits .f32 0xC2200000#32, FloatOps.ofBits .f32 0xC2200000#32, FloatOps.ofBits .f32 0xBF800000#32]
def ext : Fin 3 → BitVec 32 := ![200#32, 200#32, 16#32]

theorem lo_at (a : Fin 3) : val_main_v3 (F := Ideal) (ix1 a) = lo a := by
  unfold val_main_v3
  fin_cases a <;> pointwise <;> rfl

theorem ext_at (a : Fin 3) : val_main_v148 (F := Ideal) (ix1 a) = ext a := by
  unfold val_main_v148
  fin_cases a <;> pointwise <;> rfl

theorem c5_at (n : Fin 50000) : val_main_v5 (F := Ideal) x1 (ix1 n) = x1 (ix3 n (0 : Fin 3) (0 : Fin 3)) := by
  rw [val_main_v5_apply, val_main_v4_apply]
  refine congrArg x1 (funext fun a => ?_)
  match a with
  | ⟨0, _⟩ => exact Fin.ext (by show n.val / 1 = n.val; omega)
  | ⟨1, _⟩ => rfl
  | ⟨2, _⟩ => rfl

theorem c7_at (n : Fin 50000) : val_main_v7 (F := Ideal) x1 (ix1 n) = x1 (ix3 n (0 : Fin 3) (1 : Fin 3)) := by
  rw [val_main_v7_apply, val_main_v6_apply]
  refine congrArg x1 (funext fun a => ?_)
  match a with
  | ⟨0, _⟩ => exact Fin.ext (by show n.val / 1 = n.val; omega)
  | ⟨1, _⟩ => rfl
  | ⟨2, _⟩ => rfl

theorem c9_at (n : Fin 50000) : val_main_v9 (F := Ideal) x1 (ix1 n) = x1 (ix3 n (0 : Fin 3) (2 : Fin 3)) := by
  rw [val_main_v9_apply, val_main_v8_apply]
  refine congrArg x1 (funext fun a => ?_)
  match a with
  | ⟨0, _⟩ => exact Fin.ext (by show n.val / 1 = n.val; omega)
  | ⟨1, _⟩ => rfl
  | ⟨2, _⟩ => rfl

theorem c11_at (n : Fin 50000) : val_main_v11 (F := Ideal) x1 (ix1 n) = x1 (ix3 n (1 : Fin 3) (0 : Fin 3)) := by
  rw [val_main_v11_apply, val_main_v10_apply]
  refine congrArg x1 (funext fun a => ?_)
  match a with
  | ⟨0, _⟩ => exact Fin.ext (by show n.val / 1 = n.val; omega)
  | ⟨1, _⟩ => rfl
  | ⟨2, _⟩ => rfl

theorem c13_at (n : Fin 50000) : val_main_v13 (F := Ideal) x1 (ix1 n) = x1 (ix3 n (1 : Fin 3) (1 : Fin 3)) := by
  rw [val_main_v13_apply, val_main_v12_apply]
  refine congrArg x1 (funext fun a => ?_)
  match a with
  | ⟨0, _⟩ => exact Fin.ext (by show n.val / 1 = n.val; omega)
  | ⟨1, _⟩ => rfl
  | ⟨2, _⟩ => rfl

theorem c15_at (n : Fin 50000) : val_main_v15 (F := Ideal) x1 (ix1 n) = x1 (ix3 n (1 : Fin 3) (2 : Fin 3)) := by
  rw [val_main_v15_apply, val_main_v14_apply]
  refine congrArg x1 (funext fun a => ?_)
  match a with
  | ⟨0, _⟩ => exact Fin.ext (by show n.val / 1 = n.val; omega)
  | ⟨1, _⟩ => rfl
  | ⟨2, _⟩ => rfl

theorem c17_at (n : Fin 50000) : val_main_v17 (F := Ideal) x1 (ix1 n) = x1 (ix3 n (2 : Fin 3) (0 : Fin 3)) := by
  rw [val_main_v17_apply, val_main_v16_apply]
  refine congrArg x1 (funext fun a => ?_)
  match a with
  | ⟨0, _⟩ => exact Fin.ext (by show n.val / 1 = n.val; omega)
  | ⟨1, _⟩ => rfl
  | ⟨2, _⟩ => rfl

theorem c19_at (n : Fin 50000) : val_main_v19 (F := Ideal) x1 (ix1 n) = x1 (ix3 n (2 : Fin 3) (1 : Fin 3)) := by
  rw [val_main_v19_apply, val_main_v18_apply]
  refine congrArg x1 (funext fun a => ?_)
  match a with
  | ⟨0, _⟩ => exact Fin.ext (by show n.val / 1 = n.val; omega)
  | ⟨1, _⟩ => rfl
  | ⟨2, _⟩ => rfl

theorem c21_at (n : Fin 50000) : val_main_v21 (F := Ideal) x1 (ix1 n) = x1 (ix3 n (2 : Fin 3) (2 : Fin 3)) := by
  rw [val_main_v21_apply, val_main_v20_apply]
  refine congrArg x1 (funext fun a => ?_)
  match a with
  | ⟨0, _⟩ => exact Fin.ext (by show n.val / 1 = n.val; omega)
  | ⟨1, _⟩ => rfl
  | ⟨2, _⟩ => rfl

theorem c78_at (n : Fin 50000) : val_main_v78 (F := Ideal) x1 (ix1 n) = x1 (ix3 n (0 : Fin 3) (0 : Fin 3)) := by
  rw [val_main_v78_apply, val_main_v77_apply]
  refine congrArg x1 (funext fun a => ?_)
  match a with
  | ⟨0, _⟩ => exact Fin.ext (by show n.val / 1 = n.val; omega)
  | ⟨1, _⟩ => rfl
  | ⟨2, _⟩ => rfl

theorem c80_at (n : Fin 50000) : val_main_v80 (F := Ideal) x1 (ix1 n) = x1 (ix3 n (1 : Fin 3) (1 : Fin 3)) := by
  rw [val_main_v80_apply, val_main_v79_apply]
  refine congrArg x1 (funext fun a => ?_)
  match a with
  | ⟨0, _⟩ => exact Fin.ext (by show n.val / 1 = n.val; omega)
  | ⟨1, _⟩ => rfl
  | ⟨2, _⟩ => rfl

theorem c82_at (n : Fin 50000) : val_main_v82 (F := Ideal) x1 (ix1 n) = x1 (ix3 n (2 : Fin 3) (2 : Fin 3)) := by
  rw [val_main_v82_apply, val_main_v81_apply]
  refine congrArg x1 (funext fun a => ?_)
  match a with
  | ⟨0, _⟩ => exact Fin.ext (by show n.val / 1 = n.val; omega)
  | ⟨1, _⟩ => rfl
  | ⟨2, _⟩ => rfl

/-- The neighbour of offsets `e`, `j`, `d` among the twenty-seven. -/
def kk (e j d : Fin 3) : Fin 27 := ⟨9 * e.val + 3 * j.val + d.val, by omega⟩
/-- Its three offset words. -/
def off (e j d : Fin 3) : Fin 3 → BitVec 32 := ![noff e, noff j, noff d]

theorem o131_at (a : Fin 3) : val_main_v131 (F := Ideal) (ix1 a) = noff a := by
  rw [val_main_v131_apply, val_main_v129_apply, val_main_v130_apply, val_main_c_apply]
  fin_cases a <;> rfl

theorem off_at (e j d a : Fin 3) : val_main_v139 (F := Ideal) (ix2 (kk e j d) a) = off e j d a := by
  rw [val_main_v139_apply]
  have he : idx_main_v139 (ix2 (kk e j d) a) = ix4 e j d a := by
    have h1 : (kk e j d).val = 9 * e.val + 3 * j.val + d.val := rfl
    funext b
    match b with
    | ⟨0, _⟩ => exact Fin.ext (by show ((kk e j d).val * 3 + a.val) / 27 = e.val; omega)
    | ⟨1, _⟩ => exact Fin.ext (by show ((kk e j d).val * 3 + a.val) / 9 % 3 = j.val; omega)
    | ⟨2, _⟩ => exact Fin.ext (by show ((kk e j d).val * 3 + a.val) / 3 % 3 = d.val; omega)
    | ⟨3, _⟩ => exact Fin.ext (by show ((kk e j d).val * 3 + a.val) % 3 = a.val; omega)
  rw [he]
  have h0 : val_main_v135 (F := Ideal) (ix4 e j d (0 : Fin 1)) = noff e := by
    rw [val_main_v135_apply, val_main_v132_apply, ← o131_at]
    exact congrArg _ (funext fun b => match b with | ⟨0, _⟩ => rfl)
  have h1 : val_main_v136 (F := Ideal) (ix4 e j d (0 : Fin 1)) = noff j := by
    rw [val_main_v136_apply, val_main_v133_apply, ← o131_at]
    exact congrArg _ (funext fun b => match b with | ⟨0, _⟩ => rfl)
  have h2 : val_main_v137 (F := Ideal) (ix4 e j d (0 : Fin 1)) = noff d := by
    rw [val_main_v137_apply, val_main_v134_apply, ← o131_at]
    exact congrArg _ (funext fun b => match b with | ⟨0, _⟩ => rfl)
  unfold val_main_v138
  generalize val_main_v135 (F := Ideal) = y0 at h0 ⊢
  generalize val_main_v136 (F := Ideal) = y1 at h1 ⊢
  generalize val_main_v137 (F := Ideal) = y2 at h2 ⊢
  fin_cases a
  · show concatenate _ _ _ _ (ix4 e j d (0 : Fin 3)) = noff e
    pointwise
    exact h0
  · show concatenate _ _ _ _ (ix4 e j d (1 : Fin 3)) = noff j
    pointwise
    exact h1
  · show concatenate _ _ _ _ (ix4 e j d (2 : Fin 3)) = noff d
    pointwise
    exact h2

theorem base_at (n : Fin 50000) (a : Fin 3) : val_main_v128 (F := Ideal) x0 (ix2 n a) = baseW (F := Ideal) (lo a) (x0 (ix2 n a)) := by
  rw [val_main_v128_apply, val_main_v127_apply, val_main_v126_apply, val_main_v124_apply, val_main_v125_apply,
    val_main_cst_10_apply, val_main_v123_apply, val_main_v122_apply, ← lo_at]
  have he : idx_main_v122 (idx_main_v123 (ix2 n a)) = ix1 a := funext fun b => match b with | ⟨0, _⟩ => rfl
  rw [he]
  rfl

/-- The voxel words of a point's neighbour. -/
def vR (n : Fin 50000) (e j d a : Fin 3) : BitVec 32 := IntOp.addi (baseW (F := Ideal) (lo a) (x0 (ix2 n a))) (off e j d a)

theorem vox_at (n : Fin 50000) (e j d a : Fin 3) : val_main_v144 (F := Ideal) x0 (ix3 n (kk e j d) a) = vR x0 n e j d a := by
  rw [val_main_v144_apply, val_main_v142_apply, val_main_v140_apply, val_main_v143_apply, val_main_v141_apply]
  have h1 : idx_main_v140 (idx_main_v142 (ix3 n (kk e j d) a)) = ix2 n a :=
    funext fun b => match b with | ⟨0, _⟩ => rfl | ⟨1, _⟩ => rfl
  have h2 : idx_main_v141 (idx_main_v143 (ix3 n (kk e j d) a)) = ix2 (kk e j d) a :=
    funext fun b => match b with | ⟨0, _⟩ => rfl | ⟨1, _⟩ => rfl
  rw [h1, h2, base_at, off_at]
  rfl

/-- The distance from a point to a voxel's centre along an axis. -/
def dW (l m : Ideal .f32) (v : BitVec 32) : Ideal .f32 :=
  FloatOps.subf (FloatOps.addf l (FloatOps.mulf (FloatOps.addf (FloatOps.sitofp .f32 v) (FloatOps.ofBits .f32 0x3F000000#32)) (FloatOps.ofBits .f32 0x3ECCCCCD#32))) m

theorem dist_at (n : Fin 50000) (e j d a : Fin 3) :
    val_main_v166 (F := Ideal) x0 (ix3 n (kk e j d) a) = dW (lo a) (x0 (ix2 n a)) (vR x0 n e j d a) := by
  rw [val_main_v166_apply, val_main_v163_apply, val_main_v162_apply, val_main_v161_apply, val_main_v165_apply, val_main_v164_apply,
    val_main_v160_apply, val_main_v159_apply, val_main_v158_apply, val_main_v157_apply, val_main_v156_apply, vox_at,
    val_main_cst_16_apply, val_main_cst_17_apply]
  have h1 : idx_main_v161 (idx_main_v162 (ix3 n (kk e j d) a)) = ix1 a := funext fun b => match b with | ⟨0, _⟩ => rfl
  have h2 : idx_main_v164 (idx_main_v165 (ix3 n (kk e j d) a)) = ix2 n a :=
    funext fun b => match b with | ⟨0, _⟩ => rfl | ⟨1, _⟩ => rfl
  rw [h1, h2, lo_at]
  rfl

theorem drop_at (i : S50000x27x3.Idx) : reducesTo_S50000x27x3_S50000x27_d2.drop i = ix2 (i 0) (i 1) := by
  funext b
  match b with
  | ⟨0, _⟩ => exact Fin.ext (Shape.ReducesTo.drop_apply_val_of_eq reducesTo_S50000x27x3_S50000x27_d2 i 0 0)
  | ⟨1, _⟩ => exact Fin.ext (Shape.ReducesTo.drop_apply_val_of_eq reducesTo_S50000x27x3_S50000x27_d2 i 1 1)

theorem bit_ext {a b : BitVec 1} (h : a = 1#1 ↔ b = 1#1) : a = b := by
  revert a b; decide

/-- An `and` over the three axes. -/
theorem and3 (x : S50000x27x3.Idx → BitVec 1) (init : S_.Idx → BitVec 1) (hi : init (Shape.Idx.first h_S_) = 1#1) (n : Fin 50000) (k : Fin 27) :
    Host.reduce IntOp.andi x init reducesTo_S50000x27x3_S50000x27_d2 h_S_ (ix2 n k) =
      IntOp.andi (IntOp.andi (x (ix3 n k (0 : Fin 3))) (x (ix3 n k (1 : Fin 3)))) (x (ix3 n k (2 : Fin 3))) := by
  apply bit_ext
  rw [IntOp.andi_eq_one, IntOp.andi_eq_one]
  constructor
  · intro h
    have hx := Host.reduce_andi_eq_one x init reducesTo_S50000x27x3_S50000x27_d2 h_S_ (ix2 n k) h
    exact ⟨⟨hx _ (drop_at _), hx _ (drop_at _)⟩, hx _ (drop_at _)⟩
  · rintro ⟨⟨h0, h1⟩, h2⟩
    rw [Host.reduce_eq_foldl]
    refine IntOp.foldl_andi_one x _ _ hi fun i hm => ?_
    rw [List.mem_filter] at hm
    have hd : reducesTo_S50000x27x3_S50000x27_d2.drop i = ix2 n k := by simpa using hm.2
    rw [drop_at] at hd
    have hn : i 0 = n := congrFun hd 0
    have hk : i 1 = k := congrFun hd 1
    have hi3 : i = ix3 n k (i 2) := by
      funext b
      match b with
      | ⟨0, _⟩ => exact hn
      | ⟨1, _⟩ => exact hk
      | ⟨2, _⟩ => rfl
    rw [hi3]
    have h3 : ∀ a : Fin 3, x (ix3 n k a) = 1#1 := by
      intro a; fin_cases a
      · exact h0
      · exact h1
      · exact h2
    exact h3 (i 2)

/-- Whether a voxel word is in the grid along an axis. -/
def inG (v : BitVec 32) (g : BitVec 32) : BitVec 1 := IntOp.andi (IntOp.cmpi .sge v 0#32) (IntOp.cmpi .slt v g)

theorem inb_at (n : Fin 50000) (e j d : Fin 3) :
    val_main_v155 (F := Ideal) x0 (ix2 n (kk e j d)) =
      IntOp.andi (IntOp.andi (inG (vR x0 n e j d 0) 200#32) (inG (vR x0 n e j d 1) 200#32)) (inG (vR x0 n e j d 2) 16#32) := by
  have h : ∀ a : Fin 3, val_main_v154 (F := Ideal) x0 (ix3 n (kk e j d) a) = inG (vR x0 n e j d a) (ext a) := by
    intro a
    rw [val_main_v154_apply, val_main_v150_apply, val_main_v153_apply, val_main_v152_apply, val_main_v151_apply, val_main_v149_apply, vox_at,
      val_main_c_14_apply]
    have h1 : idx_main_v151 (idx_main_v152 (ix3 n (kk e j d) a)) = ix1 a := funext fun b => match b with | ⟨0, _⟩ => rfl
    rw [h1, ext_at]
    rfl
  unfold val_main_v155
  rw [and3 _ _ rfl, h, h, h]
  rfl

/-- The radius along an axis. -/
theorem rad_at (n : Fin 50000) (a : Fin 3) :
    val_main_v89 (F := Ideal) x1 (ix2 n a) = (FloatOps.mulf (FloatOps.ofBits .f32 0x40400000#32) (FloatOps.sqrt (x1 (ix3 n a a) : Ideal .f32)) : Ideal .f32) := by
  have h0 : val_main_v83 (F := Ideal) x1 (ix2 n (0 : Fin 1)) = x1 (ix3 n (0 : Fin 3) (0 : Fin 3)) := by
    rw [val_main_v83_apply, ← c78_at x1]
    exact congrArg _ (funext fun b => match b with | ⟨0, _⟩ => rfl)
  have h1 : val_main_v84 (F := Ideal) x1 (ix2 n (0 : Fin 1)) = x1 (ix3 n (1 : Fin 3) (1 : Fin 3)) := by
    rw [val_main_v84_apply, ← c80_at x1]
    exact congrArg _ (funext fun b => match b with | ⟨0, _⟩ => rfl)
  have h2 : val_main_v85 (F := Ideal) x1 (ix2 n (0 : Fin 1)) = x1 (ix3 n (2 : Fin 3) (2 : Fin 3)) := by
    rw [val_main_v85_apply, ← c82_at x1]
    exact congrArg _ (funext fun b => match b with | ⟨0, _⟩ => rfl)
  rw [val_main_v89_apply, val_main_v88_apply, val_main_v87_apply, val_main_cst_2_apply]
  have hv : val_main_v86 (F := Ideal) x1 (ix2 n a) = x1 (ix3 n a a) := by
    unfold val_main_v86
    generalize val_main_v83 (F := Ideal) x1 = y0 at h0 ⊢
    generalize val_main_v84 (F := Ideal) x1 = y1 at h1 ⊢
    generalize val_main_v85 (F := Ideal) x1 = y2 at h2 ⊢
    fin_cases a
    · show concatenate _ _ _ _ (ix2 n (0 : Fin 3)) = x1 (ix3 n (0 : Fin 3) (0 : Fin 3))
      pointwise
      exact h0
    · show concatenate _ _ _ _ (ix2 n (1 : Fin 3)) = x1 (ix3 n (1 : Fin 3) (1 : Fin 3))
      pointwise
      exact h1
    · show concatenate _ _ _ _ (ix2 n (2 : Fin 3)) = x1 (ix3 n (2 : Fin 3) (2 : Fin 3))
      pointwise
      exact h2
  rw [hv]
  rfl

/-- Whether a distance is within the radius of a variance. -/
def near (x c : Ideal .f32) : BitVec 1 :=
  FloatOps.cmpf .ole (FloatOps.absf x) (FloatOps.mulf (FloatOps.ofBits .f32 0x40400000#32) (FloatOps.sqrt c))

theorem aabb_at (n : Fin 50000) (e j d : Fin 3) :
    val_main_v171 (F := Ideal) x0 x1 (ix2 n (kk e j d)) =
      IntOp.andi (IntOp.andi (near (dW (lo 0) (x0 (ix2 n (0 : Fin 3))) (vR x0 n e j d 0)) (x1 (ix3 n (0 : Fin 3) (0 : Fin 3))))
        (near (dW (lo 1) (x0 (ix2 n (1 : Fin 3))) (vR x0 n e j d 1)) (x1 (ix3 n (1 : Fin 3) (1 : Fin 3)))))
        (near (dW (lo 2) (x0 (ix2 n (2 : Fin 3))) (vR x0 n e j d 2)) (x1 (ix3 n (2 : Fin 3) (2 : Fin 3)))) := by
  have h : ∀ a : Fin 3, val_main_v170 (F := Ideal) x0 x1 (ix3 n (kk e j d) a) =
      near (dW (lo a) (x0 (ix2 n a)) (vR x0 n e j d a)) (x1 (ix3 n a a)) := by
    intro a
    rw [val_main_v170_apply, val_main_v167_apply, val_main_v169_apply, val_main_v168_apply, dist_at]
    have h1 : idx_main_v168 (idx_main_v169 (ix3 n (kk e j d) a)) = ix2 n a :=
      funext fun b => match b with | ⟨0, _⟩ => rfl | ⟨1, _⟩ => rfl
    rw [h1, rad_at]
    rfl
  unfold val_main_v171
  rw [and3 _ _ rfl, h, h, h]

end Cert.ReferenceIdeal.Splat
-- ==== Proof.RefWeights.lean ====
/-
  The reference's weights, and their equality with the kernel's.
-/
module

public import proofs.«01_k».proof.Proof.RefPoint

@[expose] public section

noncomputable section

namespace Cert.ReferenceIdeal.Splat

open Cert.ReferenceIdeal Cert.ReferenceIdeal.Gen Cert.ReferenceIdeal.Read
open Idealize.ShloMosaic
open Cert.KernelIdeal.Splat (baseW noff wS)

variable (x0 : (⟨S50000x3, .f32⟩ : BufTy).Contents (Elt Ideal)) (x1 : (⟨S50000x3x3, .f32⟩ : BufTy).Contents (Elt Ideal))
  (x2 : (⟨S50000, .f32⟩ : BufTy).Contents (Elt Ideal))

/-- A covariance of positive real variances and no others. -/
structure Diag (n : Fin 50000) (A E I : EReal) : Prop where
  h00 : x1 (ix3 n (0 : Fin 3) (0 : Fin 3)) = A
  h01 : x1 (ix3 n (0 : Fin 3) (1 : Fin 3)) = (0 : EReal)
  h02 : x1 (ix3 n (0 : Fin 3) (2 : Fin 3)) = (0 : EReal)
  h10 : x1 (ix3 n (1 : Fin 3) (0 : Fin 3)) = (0 : EReal)
  h11 : x1 (ix3 n (1 : Fin 3) (1 : Fin 3)) = E
  h12 : x1 (ix3 n (1 : Fin 3) (2 : Fin 3)) = (0 : EReal)
  h20 : x1 (ix3 n (2 : Fin 3) (0 : Fin 3)) = (0 : EReal)
  h21 : x1 (ix3 n (2 : Fin 3) (1 : Fin 3)) = (0 : EReal)
  h22 : x1 (ix3 n (2 : Fin 3) (2 : Fin 3)) = I

section
variable {x1} {n : Fin 50000} {A E I : EReal} (D : Diag x1 n A E I)
include D

theorem e5 : val_main_v5 (F := Ideal) x1 (ix1 n) = A := (c5_at x1 n).trans D.h00
theorem e7 : val_main_v7 (F := Ideal) x1 (ix1 n) = (0 : EReal) := (c7_at x1 n).trans D.h01
theorem e9 : val_main_v9 (F := Ideal) x1 (ix1 n) = (0 : EReal) := (c9_at x1 n).trans D.h02
theorem e11 : val_main_v11 (F := Ideal) x1 (ix1 n) = (0 : EReal) := (c11_at x1 n).trans D.h10
theorem e13 : val_main_v13 (F := Ideal) x1 (ix1 n) = E := (c13_at x1 n).trans D.h11
theorem e15 : val_main_v15 (F := Ideal) x1 (ix1 n) = (0 : EReal) := (c15_at x1 n).trans D.h12
theorem e17 : val_main_v17 (F := Ideal) x1 (ix1 n) = (0 : EReal) := (c17_at x1 n).trans D.h20
theorem e19 : val_main_v19 (F := Ideal) x1 (ix1 n) = (0 : EReal) := (c19_at x1 n).trans D.h21
theorem e21 : val_main_v21 (F := Ideal) x1 (ix1 n) = I := (c21_at x1 n).trans D.h22

theorem det_at : val_main_v35 (F := Ideal) x1 (ix1 n) = A * (E * I) := by
  simp only [val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_v23_apply, val_main_v22_apply, e5 D, e7 D, e9 D, e11 D, e13 D, e15 D, e17 D, e19 D, e21 D,
    Ideal.mulf_def, Ideal.subf_def, Ideal.addf_def, mul_zero, zero_mul, sub_zero, add_zero]

theorem col0 : val_main_v63 (F := Ideal) x1 (ix2 n (0 : Fin 1)) = E * I := by
  have he : idx_main_v63 (ix2 n (0 : Fin 1)) = ix1 n := funext fun b => match b with | ⟨0, _⟩ => rfl
  simp only [val_main_v63_apply, he, val_main_v38_apply, val_main_v37_apply, val_main_v36_apply,
    e5 D, e7 D, e9 D, e11 D, e13 D, e15 D, e17 D, e19 D, e21 D, Ideal.mulf_def, Ideal.subf_def, mul_zero, zero_mul, sub_zero]

theorem col1 : val_main_v64 (F := Ideal) x1 (ix2 n (0 : Fin 1)) = (0 : EReal) := by
  have he : idx_main_v64 (ix2 n (0 : Fin 1)) = ix1 n := funext fun b => match b with | ⟨0, _⟩ => rfl
  simp only [val_main_v64_apply, he, val_main_v41_apply, val_main_v40_apply, val_main_v39_apply,
    e5 D, e7 D, e9 D, e11 D, e13 D, e15 D, e17 D, e19 D, e21 D, Ideal.mulf_def, Ideal.subf_def, mul_zero, zero_mul, sub_zero]

theorem col2 : val_main_v65 (F := Ideal) x1 (ix2 n (0 : Fin 1)) = (0 : EReal) := by
  have he : idx_main_v65 (ix2 n (0 : Fin 1)) = ix1 n := funext fun b => match b with | ⟨0, _⟩ => rfl
  simp only [val_main_v65_apply, he, val_main_v44_apply, val_main_v43_apply, val_main_v42_apply,
    e5 D, e7 D, e9 D, e11 D, e13 D, e15 D, e17 D, e19 D, e21 D, Ideal.mulf_def, Ideal.subf_def, mul_zero, zero_mul, sub_zero]

theorem col3 : val_main_v66 (F := Ideal) x1 (ix2 n (0 : Fin 1)) = (0 : EReal) := by
  have he : idx_main_v66 (ix2 n (0 : Fin 1)) = ix1 n := funext fun b => match b with | ⟨0, _⟩ => rfl
  simp only [val_main_v66_apply, he, val_main_v47_apply, val_main_v46_apply, val_main_v45_apply,
    e5 D, e7 D, e9 D, e11 D, e13 D, e15 D, e17 D, e19 D, e21 D, Ideal.mulf_def, Ideal.subf_def, mul_zero, zero_mul, sub_zero]

theorem col4 : val_main_v67 (F := Ideal) x1 (ix2 n (0 : Fin 1)) = A * I := by
  have he : idx_main_v67 (ix2 n (0 : Fin 1)) = ix1 n := funext fun b => match b with | ⟨0, _⟩ => rfl
  simp only [val_main_v67_apply, he, val_main_v50_apply, val_main_v49_apply, val_main_v48_apply,
    e5 D, e7 D, e9 D, e11 D, e13 D, e15 D, e17 D, e19 D, e21 D, Ideal.mulf_def, Ideal.subf_def, mul_zero, zero_mul, sub_zero]

theorem col5 : val_main_v68 (F := Ideal) x1 (ix2 n (0 : Fin 1)) = (0 : EReal) := by
  have he : idx_main_v68 (ix2 n (0 : Fin 1)) = ix1 n := funext fun b => match b with | ⟨0, _⟩ => rfl
  simp only [val_main_v68_apply, he, val_main_v53_apply, val_main_v52_apply, val_main_v51_apply,
    e5 D, e7 D, e9 D, e11 D, e13 D, e15 D, e17 D, e19 D, e21 D, Ideal.mulf_def, Ideal.subf_def, mul_zero, zero_mul, sub_zero]

theorem col6 : val_main_v69 (F := Ideal) x1 (ix2 n (0 : Fin 1)) = (0 : EReal) := by
  have he : idx_main_v69 (ix2 n (0 : Fin 1)) = ix1 n := funext fun b => match b with | ⟨0, _⟩ => rfl
  simp only [val_main_v69_apply, he, val_main_v56_apply, val_main_v55_apply, val_main_v54_apply,
    e5 D, e7 D, e9 D, e11 D, e13 D, e15 D, e17 D, e19 D, e21 D, Ideal.mulf_def, Ideal.subf_def, mul_zero, zero_mul, sub_zero]

theorem col7 : val_main_v70 (F := Ideal) x1 (ix2 n (0 : Fin 1)) = (0 : EReal) := by
  have he : idx_main_v70 (ix2 n (0 : Fin 1)) = ix1 n := funext fun b => match b with | ⟨0, _⟩ => rfl
  simp only [val_main_v70_apply, he, val_main_v59_apply, val_main_v58_apply, val_main_v57_apply,
    e5 D, e7 D, e9 D, e11 D, e13 D, e15 D, e17 D, e19 D, e21 D, Ideal.mulf_def, Ideal.subf_def, mul_zero, zero_mul, sub_zero]

theorem col8 : val_main_v71 (F := Ideal) x1 (ix2 n (0 : Fin 1)) = A * E := by
  have he : idx_main_v71 (ix2 n (0 : Fin 1)) = ix1 n := funext fun b => match b with | ⟨0, _⟩ => rfl
  simp only [val_main_v71_apply, he, val_main_v62_apply, val_main_v61_apply, val_main_v60_apply,
    e5 D, e7 D, e9 D, e11 D, e13 D, e15 D, e17 D, e19 D, e21 D, Ideal.mulf_def, Ideal.subf_def, mul_zero, zero_mul, sub_zero]

theorem adj_at (q : Fin 9) : val_main_v72 (F := Ideal) x1 (ix2 n q) = (![E * I, 0, 0, 0, A * I, 0, 0, 0, A * E] : Fin 9 → EReal) q := by
  have h0 := col0 D
  have h1 := col1 D
  have h2 := col2 D
  have h3 := col3 D
  have h4 := col4 D
  have h5 := col5 D
  have h6 := col6 D
  have h7 := col7 D
  have h8 := col8 D
  unfold val_main_v72
  generalize val_main_v63 (F := Ideal) x1 = y0 at h0 ⊢
  generalize val_main_v64 (F := Ideal) x1 = y1 at h1 ⊢
  generalize val_main_v65 (F := Ideal) x1 = y2 at h2 ⊢
  generalize val_main_v66 (F := Ideal) x1 = y3 at h3 ⊢
  generalize val_main_v67 (F := Ideal) x1 = y4 at h4 ⊢
  generalize val_main_v68 (F := Ideal) x1 = y5 at h5 ⊢
  generalize val_main_v69 (F := Ideal) x1 = y6 at h6 ⊢
  generalize val_main_v70 (F := Ideal) x1 = y7 at h7 ⊢
  generalize val_main_v71 (F := Ideal) x1 = y8 at h8 ⊢
  fin_cases q
  · show concatenate _ _ _ _ (ix2 n (0 : Fin 9)) = _
    pointwise
    exact h0
  · show concatenate _ _ _ _ (ix2 n (1 : Fin 9)) = _
    pointwise
    exact h1
  · show concatenate _ _ _ _ (ix2 n (2 : Fin 9)) = _
    pointwise
    exact h2
  · show concatenate _ _ _ _ (ix2 n (3 : Fin 9)) = _
    pointwise
    exact h3
  · show concatenate _ _ _ _ (ix2 n (4 : Fin 9)) = _
    pointwise
    exact h4
  · show concatenate _ _ _ _ (ix2 n (5 : Fin 9)) = _
    pointwise
    exact h5
  · show concatenate _ _ _ _ (ix2 n (6 : Fin 9)) = _
    pointwise
    exact h6
  · show concatenate _ _ _ _ (ix2 n (7 : Fin 9)) = _
    pointwise
    exact h7
  · show concatenate _ _ _ _ (ix2 n (8 : Fin 9)) = _
    pointwise
    exact h8

theorem inv_at (hA : ∃ r : ℝ, 0 < r ∧ A = (r : EReal)) (hE : ∃ r : ℝ, 0 < r ∧ E = (r : EReal)) (hI : ∃ r : ℝ, 0 < r ∧ I = (r : EReal)) (a b : Fin 3) :
    val_main_v76 (F := Ideal) x1 (ix3 n a b) = if a = b then Ideal.div 1 ((![A, E, I] : Fin 3 → EReal) a) else (0 : EReal) := by
  obtain ⟨p, hp, rfl⟩ := hA
  obtain ⟨q, hq, rfl⟩ := hE
  obtain ⟨r, hr, rfl⟩ := hI
  rw [val_main_v76_apply, val_main_v75_apply, val_main_v74_apply, val_main_v73_apply]
  have h1 : idx_main_v74 (idx_main_v75 (ix3 n a b)) = ix1 n := funext fun b => match b with | ⟨0, _⟩ => rfl
  have h2 : idx_main_v73 (ix3 n a b) = ix2 n (⟨3 * a.val + b.val, by omega⟩ : Fin 9) := by
    funext c
    match c with
    | ⟨0, _⟩ => exact Fin.ext (by show ((n.val * 3 + a.val) * 3 + b.val) / 9 = n.val; omega)
    | ⟨1, _⟩ => exact Fin.ext (by show ((n.val * 3 + a.val) * 3 + b.val) % 9 = 3 * a.val + b.val; omega)
  rw [h1, h2, det_at D, adj_at D]
  have hd : ((p : EReal) * ((q : EReal) * (r : EReal))) = ((p * (q * r) : ℝ) : EReal) := by push_cast; rfl
  have hdn : (((p * (q * r) : ℝ) : EReal)) ≠ 0 := by
    have : p * (q * r) ≠ 0 := by positivity
    exact_mod_cast this
  have key : ∀ x : ℝ, Ideal.div ((x : ℝ) : EReal) ((p * (q * r) : ℝ) : EReal) = ((x * (p * (q * r))⁻¹ : ℝ) : EReal) := by
    intro x
    unfold Ideal.div
    rw [if_neg hdn, ← EReal.coe_inv, ← EReal.coe_mul]
  have key1 : ∀ x : ℝ, 0 < x → Ideal.div 1 (x : EReal) = ((x⁻¹ : ℝ) : EReal) := by
    intro x hx
    unfold Ideal.div
    rw [if_neg (by exact_mod_cast hx.ne'), ← EReal.coe_inv, one_mul]
  have hz : Ideal.div 0 ((p * (q * r) : ℝ) : EReal) = 0 := by
    unfold Ideal.div
    rw [if_neg hdn, zero_mul]
  show Ideal.div _ _ = _
  rw [hd]
  fin_cases a <;> fin_cases b
  · show Ideal.div ((q : EReal) * (r : EReal)) _ = Ideal.div 1 (p : EReal)
    rw [← EReal.coe_mul, key, key1 p hp]
    congr 1; field_simp
  · exact hz
  · exact hz
  · exact hz
  · show Ideal.div ((p : EReal) * (r : EReal)) _ = Ideal.div 1 (q : EReal)
    rw [← EReal.coe_mul, key, key1 q hq]
    congr 1; field_simp
  · exact hz
  · exact hz
  · exact hz
  · show Ideal.div ((p : EReal) * (q : EReal)) _ = Ideal.div 1 (r : EReal)
    rw [← EReal.coe_mul, key, key1 r hr]
    congr 1; field_simp

end

/-- The quadratic form is the sum over the axes. -/
theorem quad_at {n : Fin 50000} {A E I : EReal} (D : Diag x1 n A E I) (hA : ∃ r : ℝ, 0 < r ∧ A = (r : EReal)) (hE : ∃ r : ℝ, 0 < r ∧ E = (r : EReal))
    (hI : ∃ r : ℝ, 0 < r ∧ I = (r : EReal)) (e j d : Fin 3) (d0 d1 d2 : EReal)
    (h0 : val_main_v166 (F := Ideal) x0 (ix3 n (kk e j d) (0 : Fin 3)) = d0)
    (h1 : val_main_v166 (F := Ideal) x0 (ix3 n (kk e j d) (1 : Fin 3)) = d1)
    (h2 : val_main_v166 (F := Ideal) x0 (ix3 n (kk e j d) (2 : Fin 3)) = d2) :
    val_main_v173 (F := Ideal) x0 x1 (ix2 n (kk e j d)) = d0 * d0 * Ideal.div 1 A + d1 * d1 * Ideal.div 1 E + d2 * d2 * Ideal.div 1 I := by
  rw [val_main_v173_apply]
  have hl : ∀ k : Fin 3, lidx_main_v173 (ix2 n (kk e j d)) k = ix3 n (kk e j d) k := fun k =>
    funext fun b => match b with | ⟨0, _⟩ => rfl | ⟨1, _⟩ => rfl | ⟨2, _⟩ => rfl
  have hr : ∀ k : Fin 3, ridx_main_v173 (ix2 n (kk e j d)) k = ix3 n k (kk e j d) := fun k =>
    funext fun b => match b with | ⟨0, _⟩ => rfl | ⟨1, _⟩ => rfl | ⟨2, _⟩ => rfl
  have hin : ∀ k : Fin 3, val_main_v172 (F := Ideal) x0 x1 (ix3 n k (kk e j d)) =
      Ideal.div 1 ((![A, E, I] : Fin 3 → EReal) k) * (![d0, d1, d2] : Fin 3 → EReal) k := by
    intro k
    rw [val_main_v172_apply]
    have hl2 : ∀ i : Fin 3, lidx_main_v172 (ix3 n k (kk e j d)) i = ix3 n i k := fun i =>
      funext fun b => match b with | ⟨0, _⟩ => rfl | ⟨1, _⟩ => rfl | ⟨2, _⟩ => rfl
    have hr2 : ∀ i : Fin 3, ridx_main_v172 (ix3 n k (kk e j d)) i = ix3 n (kk e j d) i := fun i =>
      funext fun b => match b with | ⟨0, _⟩ => rfl | ⟨1, _⟩ => rfl | ⟨2, _⟩ => rfl
    have hds : ∀ i : Fin 3, val_main_v166 (F := Ideal) x0 (ix3 n (kk e j d) i) = (![d0, d1, d2] : Fin 3 → EReal) i := by
      intro i; fin_cases i
      · exact h0
      · exact h1
      · exact h2
    have hs : ∀ i : Fin 3, val_main_v76 (F := Ideal) x1 (lidx_main_v172 (ix3 n k (kk e j d)) i) * val_main_v166 (F := Ideal) x0 (ridx_main_v172 (ix3 n k (kk e j d)) i) =
        if i = k then Ideal.div 1 ((![A, E, I] : Fin 3 → EReal) k) * (![d0, d1, d2] : Fin 3 → EReal) k else (0 : EReal) := by
      intro i
      rw [hl2, hr2, hds, inv_at D hA hE hI]
      by_cases h : i = k
      · subst h
        rw [if_pos rfl, if_pos rfl]
      · rw [if_neg h, if_neg h]
        exact zero_mul _
    rw [Finset.sum_congr rfl fun i _ => hs i, Finset.sum_ite_eq' Finset.univ k, if_pos (Finset.mem_univ k)]
  rw [Fin.sum_univ_three, hl, hl, hl, hr, hr, hr, hin, hin, hin, h0, h1, h2]
  show d0 * (Ideal.div 1 A * d0) + d1 * (Ideal.div 1 E * d1) + d2 * (Ideal.div 1 I * d2) = _
  rw [mul_comm (Ideal.div 1 A) d0, mul_comm (Ideal.div 1 E) d1, mul_comm (Ideal.div 1 I) d2, ← mul_assoc, ← mul_assoc, ← mul_assoc]

/-- Whether a point is kept. -/
def keepB (m0 m1 m2 o : Ideal .f32) : BitVec 1 :=
  IntOp.andi (IntOp.andi (IntOp.andi (FloatOps.cmpf .ogt o (FloatOps.ofBits .f32 0x358637BD#32))
    (IntOp.andi (FloatOps.cmpf .oge m0 (FloatOps.ofBits .f32 0xC2200000#32)) (FloatOps.cmpf .ole m0 (FloatOps.ofBits .f32 0x42200000#32))))
    (IntOp.andi (FloatOps.cmpf .oge m1 (FloatOps.ofBits .f32 0xC2200000#32)) (FloatOps.cmpf .ole m1 (FloatOps.ofBits .f32 0x42200000#32))))
    (IntOp.andi (FloatOps.cmpf .oge m2 (FloatOps.ofBits .f32 0xBF800000#32)) (FloatOps.cmpf .ole m2 (FloatOps.ofBits .f32 0x40ACCCCD#32)))

theorem andi_regroup : ∀ o a b c d e f : BitVec 1,
    IntOp.andi (IntOp.andi (IntOp.andi (IntOp.andi (IntOp.andi (IntOp.andi o a) b) c) d) e) f =
      IntOp.andi (IntOp.andi (IntOp.andi o (IntOp.andi a b)) (IntOp.andi c d)) (IntOp.andi e f) := by decide

theorem m93_at (n : Fin 50000) : val_main_v93 (F := Ideal) x0 (ix1 n) = x0 (ix2 n (0 : Fin 3)) := by
  rw [val_main_v93_apply, val_main_v92_apply]
  refine congrArg x0 (funext fun a => ?_)
  match a with
  | ⟨0, _⟩ => exact Fin.ext (by show n.val / 1 = n.val; omega)
  | ⟨1, _⟩ => rfl

theorem m98_at (n : Fin 50000) : val_main_v98 (F := Ideal) x0 (ix1 n) = x0 (ix2 n (0 : Fin 3)) := by
  rw [val_main_v98_apply, val_main_v97_apply]
  refine congrArg x0 (funext fun a => ?_)
  match a with
  | ⟨0, _⟩ => exact Fin.ext (by show n.val / 1 = n.val; omega)
  | ⟨1, _⟩ => rfl

theorem m103_at (n : Fin 50000) : val_main_v103 (F := Ideal) x0 (ix1 n) = x0 (ix2 n (1 : Fin 3)) := by
  rw [val_main_v103_apply, val_main_v102_apply]
  refine congrArg x0 (funext fun a => ?_)
  match a with
  | ⟨0, _⟩ => exact Fin.ext (by show n.val / 1 = n.val; omega)
  | ⟨1, _⟩ => rfl

theorem m108_at (n : Fin 50000) : val_main_v108 (F := Ideal) x0 (ix1 n) = x0 (ix2 n (1 : Fin 3)) := by
  rw [val_main_v108_apply, val_main_v107_apply]
  refine congrArg x0 (funext fun a => ?_)
  match a with
  | ⟨0, _⟩ => exact Fin.ext (by show n.val / 1 = n.val; omega)
  | ⟨1, _⟩ => rfl

theorem m113_at (n : Fin 50000) : val_main_v113 (F := Ideal) x0 (ix1 n) = x0 (ix2 n (2 : Fin 3)) := by
  rw [val_main_v113_apply, val_main_v112_apply]
  refine congrArg x0 (funext fun a => ?_)
  match a with
  | ⟨0, _⟩ => exact Fin.ext (by show n.val / 1 = n.val; omega)
  | ⟨1, _⟩ => rfl

theorem m118_at (n : Fin 50000) : val_main_v118 (F := Ideal) x0 (ix1 n) = x0 (ix2 n (2 : Fin 3)) := by
  rw [val_main_v118_apply, val_main_v117_apply]
  refine congrArg x0 (funext fun a => ?_)
  match a with
  | ⟨0, _⟩ => exact Fin.ext (by show n.val / 1 = n.val; omega)
  | ⟨1, _⟩ => rfl

theorem keep_at (n : Fin 50000) :
    val_main_v121 (F := Ideal) x0 x2 (ix1 n) = keepB (x0 (ix2 n (0 : Fin 3))) (x0 (ix2 n (1 : Fin 3))) (x0 (ix2 n (2 : Fin 3))) (x2 (ix1 n)) := by
  rw [val_main_v121_apply, val_main_v116_apply, val_main_v111_apply, val_main_v106_apply, val_main_v101_apply, val_main_v96_apply,
    val_main_v91_apply, val_main_v95_apply, val_main_v100_apply, val_main_v105_apply, val_main_v110_apply, val_main_v115_apply, val_main_v120_apply,
    val_main_v90_apply, val_main_v94_apply, val_main_v99_apply, val_main_v104_apply, val_main_v109_apply, val_main_v114_apply, val_main_v119_apply,
    m93_at, m98_at, m103_at, m108_at, m113_at, m118_at, andi_regroup]
  rfl

/-- The weight of a point at a neighbour, in the kernel's grouping. -/
theorem wS_eq (m0 m1 m2 A E I o : Ideal .f32) (dx dy dz : BitVec 32) :
    wS (F := Ideal) m0 m1 m2 A E I o dx dy dz =
      Scalar.select (IntOp.andi (IntOp.andi
        (IntOp.andi (IntOp.andi (inG (IntOp.addi (baseW (F := Ideal) (lo 0) m0) dx) 200#32) (inG (IntOp.addi (baseW (F := Ideal) (lo 1) m1) dy) 200#32))
          (inG (IntOp.addi (baseW (F := Ideal) (lo 2) m2) dz) 16#32))
        (IntOp.andi (IntOp.andi (near (dW (lo 0) m0 (IntOp.addi (baseW (F := Ideal) (lo 0) m0) dx)) A) (near (dW (lo 1) m1 (IntOp.addi (baseW (F := Ideal) (lo 1) m1) dy)) E))
          (near (dW (lo 2) m2 (IntOp.addi (baseW (F := Ideal) (lo 2) m2) dz)) I)))
        (keepB m0 m1 m2 o))
      (FloatOps.mulf o (FloatOps.exp (FloatOps.mulf (FloatOps.ofBits .f32 0xBF000000#32)
        (FloatOps.addf (FloatOps.addf
          (FloatOps.mulf (FloatOps.mulf (dW (lo 0) m0 (IntOp.addi (baseW (F := Ideal) (lo 0) m0) dx)) (dW (lo 0) m0 (IntOp.addi (baseW (F := Ideal) (lo 0) m0) dx))) (FloatOps.divf (FloatOps.ofBits .f32 0x3F800000#32) A))
          (FloatOps.mulf (FloatOps.mulf (dW (lo 1) m1 (IntOp.addi (baseW (F := Ideal) (lo 1) m1) dy)) (dW (lo 1) m1 (IntOp.addi (baseW (F := Ideal) (lo 1) m1) dy))) (FloatOps.divf (FloatOps.ofBits .f32 0x3F800000#32) E)))
          (FloatOps.mulf (FloatOps.mulf (dW (lo 2) m2 (IntOp.addi (baseW (F := Ideal) (lo 2) m2) dz)) (dW (lo 2) m2 (IntOp.addi (baseW (F := Ideal) (lo 2) m2) dz))) (FloatOps.divf (FloatOps.ofBits .f32 0x3F800000#32) I))))))
      (FloatOps.ofBits .f32 0x00000000#32) := rfl

theorem one_f32 : (FloatOps.ofBits .f32 0x3F800000#32 : Ideal .f32) = (1 : EReal) := by
  show Ideal.ofBits .f32 0x3F800000#32 = 1
  simp [Ideal.ofBits, Ideal.ieee]
  rw [← EReal.coe_mul]
  norm_num

/-- The reference's weight is the kernel's. -/
theorem weight_at {n : Fin 50000} {A E I : EReal} (D : Diag x1 n A E I) (hA : ∃ r : ℝ, 0 < r ∧ A = (r : EReal)) (hE : ∃ r : ℝ, 0 < r ∧ E = (r : EReal))
    (hI : ∃ r : ℝ, 0 < r ∧ I = (r : EReal)) (e j d : Fin 3) :
    val_main_v184 (F := Ideal) x0 x1 x2 (ix2 n (kk e j d)) =
      wS (F := Ideal) (x0 (ix2 n (0 : Fin 3))) (x0 (ix2 n (1 : Fin 3))) (x0 (ix2 n (2 : Fin 3))) A E I (x2 (ix1 n)) (noff e) (noff j) (noff d) := by
  rw [wS_eq, val_main_v184_apply, val_main_v183_apply, val_main_v180_apply, inb_at, aabb_at, val_main_v182_apply, val_main_v181_apply,
    val_main_v179_apply, val_main_v178_apply, val_main_v174_apply, val_main_v177_apply, val_main_v176_apply, val_main_v175_apply,
    quad_at x0 x1 D hA hE hI e j d _ _ _ (dist_at x0 n e j d 0) (dist_at x0 n e j d 1) (dist_at x0 n e j d 2),
    val_main_call0_v1_apply, val_main_call0_v0_apply, D.h00, D.h11, D.h22, one_f32]
  have h1 : idx_main_v181 (idx_main_v182 (ix2 n (kk e j d))) = ix1 n := funext fun b => match b with | ⟨0, _⟩ => rfl
  have h2 : idx_main_v174 (idx_main_v178 (ix2 n (kk e j d))) = ix1 n := funext fun b => match b with | ⟨0, _⟩ => rfl
  rw [h1, h2, keep_at]
  rfl

/-- A bound of no finite radius admits no distance. -/
theorem near_bot {x c : Ideal .f32} (h : Ideal.sqrt (c : EReal) = ⊥) : near x c = 0#1 := by
  have h3 : ∃ r : ℝ, 0 < r ∧ (Ideal.ofBits .f32 0x40400000#32 : EReal) = (r : EReal) := by
    refine ⟨3, by norm_num, ?_⟩
    simp [Ideal.ofBits, Ideal.ieee]
    rw [← EReal.coe_mul]
    norm_num
  obtain ⟨r, hr, h3⟩ := h3
  have hb : (Ideal.ofBits .f32 0x40400000#32 : EReal) * Ideal.sqrt (c : EReal) = ⊥ := by
    rw [h, h3, EReal.coe_mul_bot_of_pos hr]
  have hx : ¬ max (x : EReal) (-x) ≤ ⊥ := by
    intro hc
    have h1 : (x : EReal) = ⊥ := le_bot_iff.1 ((le_max_left _ _).trans hc)
    have h2 : -(x : EReal) = ⊥ := le_bot_iff.1 ((le_max_right _ _).trans hc)
    rw [h1] at h2
    exact absurd h2 (by simp)
  show BitVec.ofBool (decide (max (x : EReal) (-x) ≤ (Ideal.ofBits .f32 0x40400000#32 : EReal) * Ideal.sqrt (c : EReal))) = 0#1
  rw [hb, decide_eq_false hx]
  rfl

/-- A variance that is neither zero nor infinite is a positive real, or has no square root. -/
theorem sqrt_cases {c : EReal} (h0 : c ≠ 0) (ht : c ≠ ⊤) : (∃ r : ℝ, 0 < r ∧ c = (r : EReal)) ∨ Ideal.sqrt c = ⊥ := by
  induction c using EReal.rec with
  | bot => right; rfl
  | top => exact absurd rfl ht
  | coe r =>
    rcases lt_trichotomy r 0 with h | h | h
    · right
      show (if r < 0 then (⊥ : EReal) else ((Real.sqrt r : ℝ) : EReal)) = ⊥
      exact if_pos h
    · exact absurd (by rw [h]; rfl) h0
    · exact Or.inl ⟨r, h, rfl⟩

theorem andi_zero {a b c k i : BitVec 1} (h : a = 0#1 ∨ b = 0#1 ∨ c = 0#1) : IntOp.andi (IntOp.andi i (IntOp.andi (IntOp.andi a b) c)) k = 0#1 := by
  revert a b c k i; decide

/-- Where a variance has no square root both weights are zero. -/
theorem weight_none {n : Fin 50000} {A E I : EReal} (D : Diag x1 n A E I)
    (h : Ideal.sqrt A = ⊥ ∨ Ideal.sqrt E = ⊥ ∨ Ideal.sqrt I = ⊥) (e j d : Fin 3) :
    val_main_v184 (F := Ideal) x0 x1 x2 (ix2 n (kk e j d)) =
      wS (F := Ideal) (x0 (ix2 n (0 : Fin 3))) (x0 (ix2 n (1 : Fin 3))) (x0 (ix2 n (2 : Fin 3))) A E I (x2 (ix1 n)) (noff e) (noff j) (noff d) := by
  rw [wS_eq, val_main_v184_apply, val_main_v183_apply, val_main_v180_apply, inb_at, aabb_at,
    val_main_call0_v1_apply, val_main_call0_v0_apply, D.h00, D.h11, D.h22]
  have hn (x y z : Ideal .f32) : near x A = 0#1 ∨ near y E = 0#1 ∨ near z I = 0#1 := by
    rcases h with h | h | h
    · exact Or.inl (near_bot h)
    · exact Or.inr (Or.inl (near_bot h))
    · exact Or.inr (Or.inr (near_bot h))
  rw [andi_zero (hn _ _ _), andi_zero (hn _ _ _)]
  rfl

/-- The reference's weight is the kernel's, at variances neither zero nor infinite. -/
theorem weight_any {n : Fin 50000} {A E I : EReal} (D : Diag x1 n A E I) (hA : A ≠ 0 ∧ A ≠ ⊤) (hE : E ≠ 0 ∧ E ≠ ⊤) (hI : I ≠ 0 ∧ I ≠ ⊤)
    (e j d : Fin 3) :
    val_main_v184 (F := Ideal) x0 x1 x2 (ix2 n (kk e j d)) =
      wS (F := Ideal) (x0 (ix2 n (0 : Fin 3))) (x0 (ix2 n (1 : Fin 3))) (x0 (ix2 n (2 : Fin 3))) A E I (x2 (ix1 n)) (noff e) (noff j) (noff d) := by
  rcases sqrt_cases hA.1 hA.2 with hA | hA
  · rcases sqrt_cases hE.1 hE.2 with hE | hE
    · rcases sqrt_cases hI.1 hI.2 with hI | hI
      · exact weight_at x0 x1 x2 D hA hE hI e j d
      · exact weight_none x0 x1 x2 D (Or.inr (Or.inr hI)) e j d
    · exact weight_none x0 x1 x2 D (Or.inr (Or.inl hE)) e j d
  · exact weight_none x0 x1 x2 D (Or.inl hA) e j d

end Cert.ReferenceIdeal.Splat
-- ==== Proof.Cells.lean ====
/-
  The cell a neighbour's weight goes to: the same on both sides wherever the weight is not zero.
-/
module

public import proofs.«01_k».proof.Proof.RefWeights

@[expose] public section

noncomputable section

namespace Cert.ReferenceIdeal.Splat

open Cert.ReferenceIdeal Cert.ReferenceIdeal.Gen Cert.ReferenceIdeal.Read
open Idealize.ShloMosaic
open Cert.KernelIdeal.Splat (baseW noff wS)
open Cert.Splat (clip199)

theorem neg40_f32 : Ideal.ofBits .f32 0xC2200000#32 = ((-40 : ℝ) : EReal) := by
  simp [Ideal.ofBits, Ideal.ieee]
  rw [← EReal.coe_mul]
  norm_num

theorem pos40_f32 : Ideal.ofBits .f32 0x42200000#32 = ((40 : ℝ) : EReal) := by
  simp [Ideal.ofBits, Ideal.ieee]
  rw [← EReal.coe_mul]
  norm_num

theorem neg1_f32 : Ideal.ofBits .f32 0xBF800000#32 = ((-1 : ℝ) : EReal) := by
  simp [Ideal.ofBits, Ideal.ieee]
  try rw [← EReal.coe_mul]
  norm_num

theorem step_f32 : Ideal.ofBits .f32 0x3ECCCCCD#32 = ((13421773 / 33554432 : ℝ) : EReal) := by
  simp [Ideal.ofBits, Ideal.ieee]
  try rw [← EReal.coe_mul]
  norm_num

theorem top_f32 : Ideal.ofBits .f32 0x40ACCCCD#32 = ((11324621 / 2097152 : ℝ) : EReal) := by
  simp [Ideal.ofBits, Ideal.ieee]
  try rw [← EReal.coe_mul]
  norm_num

/-- The base word of a coordinate between the ends. -/
theorem base_word (l h m : Ideal .f32) (a b : ℝ) (hl : l = ((a : ℝ) : EReal)) (hh : h = ((b : ℝ) : EReal)) (B : ℤ) (hB : B ≤ 1000)
    (h1 : (l : EReal) ≤ m) (h2 : (m : EReal) ≤ h) (h3 : (m : EReal) ≠ h ∨ b - a < (B + 1) * (13421773 / 33554432 : ℝ))
    (h4 : b - a ≤ (B + 1) * (13421773 / 33554432 : ℝ)) :
    ∃ t : ℤ, 0 ≤ t ∧ t ≤ B ∧ baseW (F := Ideal) l m = BitVec.ofInt 32 t := by
  subst hl hh
  have hm : ∃ r : ℝ, (m : EReal) = (r : EReal) := by
    induction m using EReal.rec with
    | bot => simp at h1
    | top => simp at h2
    | coe r => exact ⟨r, rfl⟩
  obtain ⟨r, hr⟩ := hm
  have hr' : m = ((r : ℝ) : EReal) := hr
  subst hr'
  have g1 : a ≤ r := by exact_mod_cast h1
  have g2 : r ≤ b := by exact_mod_cast h2
  have g3 : r - a < (B + 1) * (13421773 / 33554432 : ℝ) := by
    rcases h3 with h3 | h3
    · have : r ≠ b := by
        intro e; subst e; exact h3 rfl
      have : r < b := lt_of_le_of_ne g2 this
      linarith
    · linarith
  have hs : (0 : ℝ) < 13421773 / 33554432 := by norm_num
  have f0 : 0 ≤ (r - a) / (13421773 / 33554432 : ℝ) := div_nonneg (by linarith) hs.le
  have f1 : (r - a) / (13421773 / 33554432 : ℝ) < B + 1 := by rw [div_lt_iff₀ hs]; exact g3
  refine ⟨⌊(r - a) / (13421773 / 33554432 : ℝ)⌋, Int.floor_nonneg.2 f0, ?_, ?_⟩
  · have : ⌊(r - a) / (13421773 / 33554432 : ℝ)⌋ < B + 1 := by
      rw [Int.floor_lt]; push_cast; exact f1
    omega
  · have hlt : ⌊(r - a) / (13421773 / 33554432 : ℝ)⌋ < B + 1 := by
      rw [Int.floor_lt]; push_cast; exact f1
    have hge : 0 ≤ ⌊(r - a) / (13421773 / 33554432 : ℝ)⌋ := Int.floor_nonneg.2 f0
    unfold baseW
    have hd : (FloatOps.divf (FloatOps.subf ((r : ℝ) : EReal) ((a : ℝ) : EReal) : Ideal .f32) (FloatOps.ofBits .f32 0x3ECCCCCD#32) : Ideal .f32) =
        (((r - a) / (13421773 / 33554432 : ℝ) : ℝ) : EReal) := by
      show Ideal.div (((r : ℝ) : EReal) - ((a : ℝ) : EReal)) (Ideal.ofBits .f32 0x3ECCCCCD#32) = _
      rw [step_f32]
      unfold Ideal.div
      rw [if_neg (by exact_mod_cast hs.ne'), ← EReal.coe_inv, ← EReal.coe_sub, ← EReal.coe_mul]
      exact congrArg (fun q : ℝ => (q : EReal)) (div_eq_mul_inv _ _).symm
    rw [hd]
    show Ideal.fptosi 32 (((⌊(r - a) / (13421773 / 33554432 : ℝ)⌋ : ℤ) : ℝ) : EReal) = _
    unfold Ideal.fptosi
    congr 1
    show max _ (min _ (if 0 ≤ ((⌊(r - a) / (13421773 / 33554432 : ℝ)⌋ : ℤ) : ℝ) then ⌊((⌊(r - a) / (13421773 / 33554432 : ℝ)⌋ : ℤ) : ℝ)⌋ else _)) = _
    rw [if_pos (by exact_mod_cast hge), Int.floor_intCast]
    push_cast
    omega

theorem noff_eq (e : Fin 3) : noff e = BitVec.ofInt 32 ((e.val : ℤ) - 1) := by
  fin_cases e <;> rfl

theorem toInt_small (t : ℤ) (h0 : -1000000 ≤ t) (h1 : t ≤ 1000000) : (BitVec.ofInt 32 t).toInt = t := by
  rw [BitVec.toInt_ofInt]
  apply Int.bmod_eq_of_le <;> omega

theorem add_word (t : ℤ) (e : Fin 3) : IntOp.addi (BitVec.ofInt 32 t) (noff e) = BitVec.ofInt 32 (t + e.val - 1) := by
  rw [noff_eq]
  show BitVec.ofInt 32 t + BitVec.ofInt 32 ((e.val : ℤ) - 1) = _
  rw [← BitVec.ofInt_add]
  congr 1; omega

theorem inG_word (t : ℤ) (g : ℕ) (hg : g ≤ 1000) (h0 : -10 ≤ t) (h1 : t ≤ 1000) (h : inG (BitVec.ofInt 32 t) (BitVec.ofInt 32 (g : ℤ)) = 1#1) :
    0 ≤ t ∧ t < g := by
  unfold inG at h
  rw [IntOp.andi_eq_one] at h
  obtain ⟨ha, hb⟩ := h
  simp only [IntOp.cmpi] at ha hb
  have ha' : (0#32).sle (BitVec.ofInt 32 t) = true := by
    cases hc : (0#32).sle (BitVec.ofInt 32 t) with
    | true => rfl
    | false => rw [hc] at ha; exact absurd ha (by decide)
  have hb' : (BitVec.ofInt 32 t).slt (BitVec.ofInt 32 (g : ℤ)) = true := by
    cases hc : (BitVec.ofInt 32 t).slt (BitVec.ofInt 32 (g : ℤ)) with
    | true => rfl
    | false => rw [hc] at hb; exact absurd hb (by decide)
  rw [BitVec.sle_iff_toInt_le, toInt_small t (by omega) (by omega)] at ha'
  rw [BitVec.slt_iff_toInt_lt, toInt_small t (by omega) (by omega), toInt_small g (by omega) (by omega)] at hb'
  have hz : (0#32).toInt = 0 := rfl
  omega

/-- The voxel of a neighbour whose weight is not zero. -/
theorem support {m0 m1 m2 A E I o : Ideal .f32} {e j d : Fin 3} (hw : wS (F := Ideal) m0 m1 m2 A E I o (noff e) (noff j) (noff d) ≠ (0 : EReal))
    (hm : (m2 : EReal) ≠ Ideal.ofBits .f32 0x40ACCCCD#32) :
    ∃ x y z : ℤ, (0 ≤ x ∧ x ≤ 199) ∧ (0 ≤ y ∧ y ≤ 199) ∧ (0 ≤ z ∧ z ≤ 15) ∧
      (0 ≤ x + e.val - 1 ∧ x + e.val - 1 < 200) ∧ (0 ≤ y + j.val - 1 ∧ y + j.val - 1 < 200) ∧ (0 ≤ z + d.val - 1 ∧ z + d.val - 1 < 16) ∧
      baseW (F := Ideal) (lo 0) m0 = BitVec.ofInt 32 x ∧ baseW (F := Ideal) (lo 1) m1 = BitVec.ofInt 32 y ∧ baseW (F := Ideal) (lo 2) m2 = BitVec.ofInt 32 z := by
  rw [wS_eq] at hw
  have hz : (FloatOps.ofBits .f32 0x00000000#32 : Ideal .f32) = (0 : EReal) := by
    show Ideal.ofBits .f32 0x00000000#32 = 0
    simp [Ideal.ofBits, Ideal.ieee]
  rw [hz] at hw
  have hmask : ∀ (c : BitVec 1) (a : EReal), Scalar.select c a (0 : EReal) ≠ 0 → c = 1#1 := by
    intro c a h
    by_contra hc
    exact h (by unfold Scalar.select; simp [hc])
  have h1 := hmask _ _ hw
  rw [IntOp.andi_eq_one, IntOp.andi_eq_one, IntOp.andi_eq_one, IntOp.andi_eq_one] at h1
  obtain ⟨⟨⟨⟨hx, hy⟩, hzz⟩, -⟩, hk⟩ := h1
  unfold keepB at hk
  simp only [IntOp.andi_eq_one] at hk
  obtain ⟨⟨⟨-, ka, kb⟩, kc, kd⟩, ke, kf⟩ := hk
  have hge : ∀ (a b : Ideal .f32), FloatOps.cmpf .oge a b = 1#1 → (b : EReal) ≤ a := by
    intro a b h
    have h' : BitVec.ofBool (decide ((b : EReal) ≤ a)) = 1#1 := h
    by_contra hc
    rw [decide_eq_false hc] at h'
    exact absurd h' (by decide)
  have hle : ∀ (a b : Ideal .f32), FloatOps.cmpf .ole a b = 1#1 → (a : EReal) ≤ b := by
    intro a b h
    have h' : BitVec.ofBool (decide ((a : EReal) ≤ b)) = 1#1 := h
    by_contra hc
    rw [decide_eq_false hc] at h'
    exact absurd h' (by decide)
  obtain ⟨x, x0, x1, xe⟩ := base_word (lo 0) _ m0 (-40) 40 neg40_f32 pos40_f32 199 (by norm_num) (hge _ _ ka) (hle _ _ kb) (Or.inr (by norm_num)) (by norm_num)
  obtain ⟨y, y0, y1, ye⟩ := base_word (lo 1) _ m1 (-40) 40 neg40_f32 pos40_f32 199 (by norm_num) (hge _ _ kc) (hle _ _ kd) (Or.inr (by norm_num)) (by norm_num)
  obtain ⟨z, z0, z1, ze⟩ := base_word (lo 2) _ m2 (-1) (11324621 / 2097152) neg1_f32 top_f32 15 (by norm_num) (hge _ _ ke) (hle _ _ kf) (Or.inl hm) (by norm_num)
  rw [xe, add_word] at hx
  rw [ye, add_word] at hy
  rw [ze, add_word] at hzz
  have ix := inG_word _ 200 (by norm_num) (by omega) (by omega) hx
  have iy := inG_word _ 200 (by norm_num) (by omega) (by omega) hy
  have iz := inG_word _ 16 (by norm_num) (by omega) (by omega) hzz
  exact ⟨x, y, z, ⟨x0, x1⟩, ⟨y0, y1⟩, ⟨z0, z1⟩, ⟨ix.1, by have := ix.2; omega⟩, ⟨iy.1, by have := iy.2; omega⟩, ⟨iz.1, by have := iz.2; omega⟩, xe, ye, ze⟩

/-- A word that is in the grid is its own clip. -/
theorem clip_word (t : ℤ) (g : ℕ) (hg : 1 ≤ g) (hg2 : g ≤ 1000) (h0 : 0 ≤ t) (h1 : t < g) :
    IntOp.minsi (BitVec.ofInt 32 ((g : ℤ) - 1)) (IntOp.maxsi 0#32 (BitVec.ofInt 32 t)) = BitVec.ofInt 32 t := by
  have e1 : IntOp.maxsi 0#32 (BitVec.ofInt 32 t) = BitVec.ofInt 32 t := by
    unfold IntOp.maxsi
    rw [if_neg]
    rw [BitVec.slt_iff_toInt_lt, toInt_small t (by omega) (by omega)]
    have hz : (0#32).toInt = 0 := rfl
    omega
  rw [e1]
  unfold IntOp.minsi
  split
  · rename_i h
    rw [BitVec.slt_iff_toInt_lt, toInt_small t (by omega) (by omega), toInt_small _ (by omega) (by omega)] at h
    omega
  · rfl

variable (x0 : (⟨S50000x3, .f32⟩ : BufTy).Contents (Elt Ideal))

theorem clip_at (n : Fin 50000) (e j d a : Fin 3) :
    val_main_v187 (F := Ideal) x0 (ix3 n (kk e j d) a) = IntOp.minsi (IntOp.subi (ext a) 1#32) (IntOp.maxsi 0#32 (vR x0 n e j d a)) := by
  rw [val_main_v187_apply, val_main_call1_v4_apply, val_main_call1_v3_apply, val_main_call1_v2_apply, val_main_call1_v1_apply,
    val_main_call1_v0_apply, val_main_v186_apply, val_main_v185_apply, vox_at, val_main_c_21_apply, val_main_c_22_apply]
  have h1 : idx_main_call1_v3 (idx_main_call1_v4 (ix3 n (kk e j d) a)) = ix1 a := funext fun b => match b with | ⟨0, _⟩ => rfl
  rw [h1, ext_at]

theorem flat_at (n : Fin 50000) (e j d : Fin 3) :
    val_main_v199 (F := Ideal) x0 (ix2 n (kk e j d)) =
      IntOp.addi (IntOp.muli (IntOp.addi (IntOp.muli
        (IntOp.minsi (IntOp.subi (ext 0) 1#32) (IntOp.maxsi 0#32 (vR x0 n e j d 0))) 200#32)
        (IntOp.minsi (IntOp.subi (ext 1) 1#32) (IntOp.maxsi 0#32 (vR x0 n e j d 1)))) 16#32)
        (IntOp.minsi (IntOp.subi (ext 2) 1#32) (IntOp.maxsi 0#32 (vR x0 n e j d 2))) := by
  have hk := (kk e j d).isLt
  rw [val_main_v199_apply, val_main_v196_apply, val_main_v194_apply, val_main_v191_apply, val_main_v189_apply, val_main_v188_apply,
    val_main_v193_apply, val_main_v192_apply, val_main_v198_apply, val_main_v197_apply, val_main_v190_apply, val_main_v195_apply,
    val_main_c_23_apply, val_main_c_24_apply, ← clip_at, ← clip_at, ← clip_at]
  have h0 : idx_main_v188 (idx_main_v189 (ix2 n (kk e j d))) = ix3 n (kk e j d) (0 : Fin 3) := by
    funext b
    match b with
    | ⟨0, _⟩ => exact Fin.ext (by show (n.val * 27 + (kk e j d).val) / 27 = n.val; omega)
    | ⟨1, _⟩ => exact Fin.ext (by show (n.val * 27 + (kk e j d).val) / 1 % 27 = (kk e j d).val; omega)
    | ⟨2, _⟩ => rfl
  have h1 : idx_main_v192 (idx_main_v193 (ix2 n (kk e j d))) = ix3 n (kk e j d) (1 : Fin 3) := by
    funext b
    match b with
    | ⟨0, _⟩ => exact Fin.ext (by show (n.val * 27 + (kk e j d).val) / 27 = n.val; omega)
    | ⟨1, _⟩ => exact Fin.ext (by show (n.val * 27 + (kk e j d).val) / 1 % 27 = (kk e j d).val; omega)
    | ⟨2, _⟩ => rfl
  have h2 : idx_main_v197 (idx_main_v198 (ix2 n (kk e j d))) = ix3 n (kk e j d) (2 : Fin 3) := by
    funext b
    match b with
    | ⟨0, _⟩ => exact Fin.ext (by show (n.val * 27 + (kk e j d).val) / 27 = n.val; omega)
    | ⟨1, _⟩ => exact Fin.ext (by show (n.val * 27 + (kk e j d).val) / 1 % 27 = (kk e j d).val; omega)
    | ⟨2, _⟩ => rfl
  rw [h0, h1, h2]

theorem wrap_word (t : ℤ) (h0 : 0 ≤ t) (h1 : t < 640000) : (wrapW (BitVec.ofInt 32 t)).toInt = t := by
  unfold wrapW
  have : IntOp.cmpi .slt (BitVec.ofInt 32 t) 0#32 = 0#1 := by
    have hs : (BitVec.ofInt 32 t).slt 0#32 = false := by
      rw [Bool.eq_false_iff, ne_eq, BitVec.slt_iff_toInt_lt, toInt_small t (by omega) (by omega)]
      have hz : (0#32).toInt = 0 := rfl
      omega
    show BitVec.ofBool ((BitVec.ofInt 32 t).slt 0#32) = 0#1
    rw [hs]; rfl
  rw [this]
  show (BitVec.ofInt 32 t).toInt = t
  exact toInt_small t (by omega) (by omega)

/-- Both sides put a weight that is not zero into the same cell. -/
theorem cell_iff (n : Fin 50000) (e j d : Fin 3) {x y z : ℤ} (hx : 0 ≤ x ∧ x ≤ 199) (hy : 0 ≤ y ∧ y ≤ 199) (hz : 0 ≤ z ∧ z ≤ 15)
    (ix : 0 ≤ x + e.val - 1 ∧ x + e.val - 1 < 200) (iy : 0 ≤ y + j.val - 1 ∧ y + j.val - 1 < 200) (iz : 0 ≤ z + d.val - 1 ∧ z + d.val - 1 < 16)
    (ex : baseW (F := Ideal) (lo 0) (x0 (ix2 n (0 : Fin 3))) = BitVec.ofInt 32 x) (ey : baseW (F := Ideal) (lo 1) (x0 (ix2 n (1 : Fin 3))) = BitVec.ofInt 32 y)
    (ez : baseW (F := Ideal) (lo 2) (x0 (ix2 n (2 : Fin 3))) = BitVec.ofInt 32 z) (X Y : Fin 200) (Z : Fin 16) :
    (wrapW (val_main_v199 (F := Ideal) x0 (ix2 n (kk e j d)))).toInt = (((X.val * 200 + Y.val) * 16 + Z.val : ℕ) : ℤ) ↔
      ((X.val + 1) * 202 + (Y.val + 1) = clip199 (BitVec.ofInt 32 x) * 202 + clip199 (BitVec.ofInt 32 y) + 202 * e.val + j.val ∧
        BitVec.ofNat 32 Z.val = IntOp.addi (IntOp.subi (IntOp.minsi 15#32 (IntOp.maxsi 0#32 (BitVec.ofInt 32 z))) 1#32) (BitVec.ofNat 32 d.val)) := by
  have c0 : vR x0 n e j d 0 = BitVec.ofInt 32 (x + e.val - 1) := by
    show IntOp.addi (baseW (F := Ideal) (lo 0) (x0 (ix2 n (0 : Fin 3)))) (noff e) = _
    rw [ex, add_word]
  have c1 : vR x0 n e j d 1 = BitVec.ofInt 32 (y + j.val - 1) := by
    show IntOp.addi (baseW (F := Ideal) (lo 1) (x0 (ix2 n (1 : Fin 3)))) (noff j) = _
    rw [ey, add_word]
  have c2 : vR x0 n e j d 2 = BitVec.ofInt 32 (z + d.val - 1) := by
    show IntOp.addi (baseW (F := Ideal) (lo 2) (x0 (ix2 n (2 : Fin 3)))) (noff d) = _
    rw [ez, add_word]
  have s0 : IntOp.subi (ext 0) 1#32 = BitVec.ofInt 32 (((200 : ℕ) : ℤ) - 1) := rfl
  have s1 : IntOp.subi (ext 1) 1#32 = BitVec.ofInt 32 (((200 : ℕ) : ℤ) - 1) := rfl
  have s2 : IntOp.subi (ext 2) 1#32 = BitVec.ofInt 32 (((16 : ℕ) : ℤ) - 1) := rfl
  rw [flat_at, c0, c1, c2, s0, s1, s2, clip_word _ 200 (by norm_num) (by norm_num) ix.1 (by exact_mod_cast ix.2),
    clip_word _ 200 (by norm_num) (by norm_num) iy.1 (by exact_mod_cast iy.2), clip_word _ 16 (by norm_num) (by norm_num) iz.1 (by exact_mod_cast iz.2)]
  have hflat : IntOp.addi (IntOp.muli (IntOp.addi (IntOp.muli (BitVec.ofInt 32 (x + e.val - 1)) 200#32) (BitVec.ofInt 32 (y + j.val - 1))) 16#32) (BitVec.ofInt 32 (z + d.val - 1))
      = BitVec.ofInt 32 (((x + e.val - 1) * 200 + (y + j.val - 1)) * 16 + (z + d.val - 1)) := by
    show (BitVec.ofInt 32 (x + e.val - 1) * BitVec.ofInt 32 200 + BitVec.ofInt 32 (y + j.val - 1)) * BitVec.ofInt 32 16 + BitVec.ofInt 32 (z + d.val - 1) = _
    rw [← BitVec.ofInt_mul, ← BitVec.ofInt_add, ← BitVec.ofInt_mul, ← BitVec.ofInt_add]
  rw [hflat, wrap_word _ (by omega) (by omega)]
  have k1 : clip199 (BitVec.ofInt 32 x) = x.toNat := by unfold clip199; rw [toInt_small x (by omega) (by omega)]; omega
  have k2 : clip199 (BitVec.ofInt 32 y) = y.toNat := by unfold clip199; rw [toInt_small y (by omega) (by omega)]; omega
  have k3 : IntOp.minsi 15#32 (IntOp.maxsi 0#32 (BitVec.ofInt 32 z)) = BitVec.ofInt 32 z := clip_word z 16 (by norm_num) (by norm_num) hz.1 (by have := hz.2; omega)
  have k4 : IntOp.addi (IntOp.subi (BitVec.ofInt 32 z) 1#32) (BitVec.ofNat 32 d.val) = BitVec.ofInt 32 (z + d.val - 1) := by
    have : IntOp.subi (BitVec.ofInt 32 z) 1#32 = BitVec.ofInt 32 (z + -1) := by
      rw [BitVec.ofInt_add]
      show BitVec.ofInt 32 z - 1#32 = BitVec.ofInt 32 z + -1#32
      exact BitVec.sub_eq_add_neg _ _
    rw [this]
    show BitVec.ofInt 32 (z + -1) + BitVec.ofNat 32 d.val = _
    rw [← BitVec.ofInt_natCast, ← BitVec.ofInt_add]
    congr 1; omega
  have k5 : BitVec.ofNat 32 Z.val = BitVec.ofInt 32 (z + d.val - 1) ↔ (Z.val : ℤ) = z + d.val - 1 := by
    rw [← BitVec.ofInt_natCast]
    constructor
    · intro h
      have h' := congrArg BitVec.toInt h
      rwa [toInt_small _ (by omega) (by omega), toInt_small _ (by omega) (by omega)] at h'
    · intro h; rw [h]
  rw [k1, k2, k3, k4, k5]
  have := X.isLt; have := Y.isLt; have := Z.isLt
  push_cast
  omega

end Cert.ReferenceIdeal.Splat
-- ==== Proof.DensTrip.lean ====
/- The value of one trip of the density kernel's loop. -/
module

public import proofs.«01_k».proof.Proof.DensBody

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Cert.Splat

section Any

variable {F : FTy → Type} [FloatOps F]

/-- A column's share of a row: the word of each of three neighbouring columns, where it is the row's column. -/
def zsum (z0 zc : BitVec 32) (a0 a1 a2 : F .f32) : F .f32 :=
  FloatOps.addf (FloatOps.addf (FloatOps.addf (FloatOps.ofBits .f32 0#32)
    (Scalar.select (IntOp.cmpi .eq zc (Scalar.addi (Scalar.subi z0 1#32) 0#32)) a0 (FloatOps.ofBits .f32 0#32)))
    (Scalar.select (IntOp.cmpi .eq zc (Scalar.addi (Scalar.subi z0 1#32) 1#32)) a1 (FloatOps.ofBits .f32 0#32)))
    (Scalar.select (IntOp.cmpi .eq zc (Scalar.addi (Scalar.subi z0 1#32) 2#32)) a2 (FloatOps.ofBits .f32 0#32))

/-- A box row's share: the value of each of three neighbouring rows, where it is the box's row. -/
def jsum (rs rc : BitVec 32) (b0 b1 b2 : F .f32) : F .f32 :=
  FloatOps.addf (FloatOps.addf (FloatOps.addf (FloatOps.ofBits .f32 0#32)
    (Scalar.select (IntOp.cmpi .eq rc (Scalar.addi (Scalar.subi rs (floor8 rs)) 0#32)) b0 (FloatOps.ofBits .f32 0#32)))
    (Scalar.select (IntOp.cmpi .eq rc (Scalar.addi (Scalar.subi rs (floor8 rs)) 1#32)) b1 (FloatOps.ofBits .f32 0#32)))
    (Scalar.select (IntOp.cmpi .eq rc (Scalar.addi (Scalar.subi rs (floor8 rs)) 2#32)) b2 (FloatOps.ofBits .f32 0#32))

theorem iv_toNat (k : ℕ) (hk : k < 512) : (Scalar.indexCast (Scf.iv 0#32 1#32 k)).toNat = k := by
  have h : Affine.IsInt (Scf.iv 0#32 1#32 k) k :=
    Affine.iv (Affine.ofNat (e := 0) 0 (by omega)) (Affine.ofNat (e := 1) 1 (by omega)) k (by omega)
  exact_mod_cast Affine.toNat_of (Affine.indexCast h) (by omega)

/-- One word of a block's weights, as a trip reads it. -/
theorem wread (c : Dev nD) (arg3 : Memref sig .tc .vmem S512x32 .f32) (fw : Buf (Elt F) (arg3.view.loc (c : Thread nD τ)))
    (k : Fin k0_t1_loop.trips) (q : Fin 32) (off : Fin 2 → ℕ) (inb : ∀ a, off a + S1x1.size a ≤ S512x32.size a)
    (hoff : off = ![(Scalar.indexCast (Scf.iv 0#32 1#32 k.val)).toNat, q.val]) :
    View.readAt (Elt F) arg3.view (Rect.unit (s := S512x32) off S1x1.size inb).toLoadRect fw (ix2 0 0)
      = arg3.view.read (Elt F) fw (ix2 ⟨k.val, k.isLt⟩ q) := by
  subst hoff
  rw [View.readAt_apply]
  refine congrArg (arg3.view.read (Elt F) fw) (funext fun a => Fin.ext ?_)
  have hk := iv_toNat k.val k.isLt
  fin_cases a
  · show (Scalar.indexCast (Scf.iv 0#32 1#32 k.val)).toNat + 1 * 0 = k.val
    omega
  · rfl

section Pure

variable (v2014 : IVec S3x16 32) (v2015 : IVec S16x16 32) (z0 rb : BitVec 32)
  (a00 a01 a02 a10 a11 a12 a20 a21 a22 : Vec F S1x1 .f32) (a : Vec F S1x1 .i32)

theorem wz0_0 (z : Fin 16) : k0_pay5 v2014 (extractAt ![0, 0] a inpos_S1x1_p0_0) (k0_pay3 v2014 a a00 a10 a20) (k0_pay4 a01 a11 a21) (Scalar.subi (extractAt ![0, 0] a inpos_S1x1_p0_0) 1#32) a02 a12 a22 (ix2 0 z)
    = zsum (extractAt ![0, 0] a inpos_S1x1_p0_0) (v2014 (ix2 0 z)) (a00 (ix2 0 0)) (a01 (ix2 0 0)) (a02 (ix2 0 0)) := by
  unfold k0_pay5 k0_pay3 k0_pay4 zsum
  pointwise
  try rfl

theorem wz0_1 (z : Fin 16) : k0_pay5 v2014 (extractAt ![0, 0] a inpos_S1x1_p0_0) (k0_pay3 v2014 a a00 a10 a20) (k0_pay4 a01 a11 a21) (Scalar.subi (extractAt ![0, 0] a inpos_S1x1_p0_0) 1#32) a02 a12 a22 (ix2 1 z)
    = zsum (extractAt ![0, 0] a inpos_S1x1_p0_0) (v2014 (ix2 1 z)) (a10 (ix2 0 0)) (a11 (ix2 0 0)) (a12 (ix2 0 0)) := by
  unfold k0_pay5 k0_pay3 k0_pay4 zsum
  pointwise
  try rfl

theorem wz0_2 (z : Fin 16) : k0_pay5 v2014 (extractAt ![0, 0] a inpos_S1x1_p0_0) (k0_pay3 v2014 a a00 a10 a20) (k0_pay4 a01 a11 a21) (Scalar.subi (extractAt ![0, 0] a inpos_S1x1_p0_0) 1#32) a02 a12 a22 (ix2 2 z)
    = zsum (extractAt ![0, 0] a inpos_S1x1_p0_0) (v2014 (ix2 2 z)) (a20 (ix2 0 0)) (a21 (ix2 0 0)) (a22 (ix2 0 0)) := by
  unfold k0_pay5 k0_pay3 k0_pay4 zsum
  pointwise
  try rfl

theorem wz1_0 (z : Fin 16) : k0_pay12 v2014 z0 (k0_pay9 v2014 z0 k0_pay7 (k0_pay8 a00) a10 a20 a01 a11 a21) (k0_pay10 a02) (k0_pay11 a12) a22 (ix2 0 z)
    = zsum z0 (v2014 (ix2 0 z)) (a00 (ix2 0 0)) (a01 (ix2 0 0)) (a02 (ix2 0 0)) := by
  unfold k0_pay12 k0_pay9 k0_pay7 k0_pay8 k0_pay10 k0_pay11 zsum
  pointwise
  try rfl

theorem wz1_1 (z : Fin 16) : k0_pay12 v2014 z0 (k0_pay9 v2014 z0 k0_pay7 (k0_pay8 a00) a10 a20 a01 a11 a21) (k0_pay10 a02) (k0_pay11 a12) a22 (ix2 1 z)
    = zsum z0 (v2014 (ix2 1 z)) (a10 (ix2 0 0)) (a11 (ix2 0 0)) (a12 (ix2 0 0)) := by
  unfold k0_pay12 k0_pay9 k0_pay7 k0_pay8 k0_pay10 k0_pay11 zsum
  pointwise
  try rfl

theorem wz1_2 (z : Fin 16) : k0_pay12 v2014 z0 (k0_pay9 v2014 z0 k0_pay7 (k0_pay8 a00) a10 a20 a01 a11 a21) (k0_pay10 a02) (k0_pay11 a12) a22 (ix2 2 z)
    = zsum z0 (v2014 (ix2 2 z)) (a20 (ix2 0 0)) (a21 (ix2 0 0)) (a22 (ix2 0 0)) := by
  unfold k0_pay12 k0_pay9 k0_pay7 k0_pay8 k0_pay10 k0_pay11 zsum
  pointwise
  try rfl

theorem wz2_0 (z : Fin 16) : k0_pay23 (k0_pay20 v2014 z0 k0_pay17 (k0_pay18 a00 a10 a20) (k0_pay19 v2014 z0) (FloatOps.ofBits .f32 0#32) a01 a11 a21) (k0_pay21 v2014 z0) (FloatOps.ofBits .f32 0#32) (k0_pay22 a02 a12 a22) (ix2 0 z)
    = zsum z0 (v2014 (ix2 0 z)) (a00 (ix2 0 0)) (a01 (ix2 0 0)) (a02 (ix2 0 0)) := by
  unfold k0_pay23 k0_pay20 k0_pay17 k0_pay18 k0_pay19 k0_pay21 k0_pay22 zsum
  pointwise
  try rfl

theorem wz2_1 (z : Fin 16) : k0_pay23 (k0_pay20 v2014 z0 k0_pay17 (k0_pay18 a00 a10 a20) (k0_pay19 v2014 z0) (FloatOps.ofBits .f32 0#32) a01 a11 a21) (k0_pay21 v2014 z0) (FloatOps.ofBits .f32 0#32) (k0_pay22 a02 a12 a22) (ix2 1 z)
    = zsum z0 (v2014 (ix2 1 z)) (a10 (ix2 0 0)) (a11 (ix2 0 0)) (a12 (ix2 0 0)) := by
  unfold k0_pay23 k0_pay20 k0_pay17 k0_pay18 k0_pay19 k0_pay21 k0_pay22 zsum
  pointwise
  try rfl

theorem wz2_2 (z : Fin 16) : k0_pay23 (k0_pay20 v2014 z0 k0_pay17 (k0_pay18 a00 a10 a20) (k0_pay19 v2014 z0) (FloatOps.ofBits .f32 0#32) a01 a11 a21) (k0_pay21 v2014 z0) (FloatOps.ofBits .f32 0#32) (k0_pay22 a02 a12 a22) (ix2 2 z)
    = zsum z0 (v2014 (ix2 2 z)) (a20 (ix2 0 0)) (a21 (ix2 0 0)) (a22 (ix2 0 0)) := by
  unfold k0_pay23 k0_pay20 k0_pay17 k0_pay18 k0_pay19 k0_pay21 k0_pay22 zsum
  pointwise
  try rfl

theorem upd0 (w : FVec F S3x16 .f32) (ld : Vec F S16x16 .f32) (p z : Fin 16) :
    k0_pay6 v2015 w (Scalar.addi rb 0#32) (Scalar.divsi (Scalar.addi rb 0#32) 8#32)
      (Scalar.cmpi .ne (Scalar.subi (Scalar.extui (Scalar.cmpi .sgt (Scalar.addi rb 0#32) 0#32)) (Scalar.extui (Scalar.cmpi .slt (Scalar.addi rb 0#32) 0#32)))
        (Scalar.subi (Scalar.extui (Scalar.cmpi .sgt 8#32 0#32)) (Scalar.extui (Scalar.cmpi .slt 8#32 0#32))))
      (Scalar.remsi (Scalar.addi rb 0#32) 8#32) (0#32) ld (ix2 p z)
    = FloatOps.addf (ld (ix2 p z)) (jsum (Scalar.addi rb 0#32) (v2015 (ix2 p z)) (w (ix2 0 z)) (w (ix2 1 z)) (w (ix2 2 z))) := by
  unfold k0_pay6 jsum
  pointwise
  try rfl

theorem upd1 (w4 : FVec F S3x16 .f32) (c5 c6 : F .f32) (ld : Vec F S16x16 .f32) (p z : Fin 16) :
    k0_pay16 v2015 (k0_pay12 v2014 z0 w4 c5 c6 a22) (Scalar.subi (Scalar.addi rb 202#32) (floor8 (Scalar.addi rb 202#32))) k0_pay13
      (k0_pay14 v2015 rb) (FloatOps.ofBits .f32 0#32) (k0_pay15 v2014 z0 w4 c5 c6 a22) ld (ix2 p z)
    = FloatOps.addf (ld (ix2 p z)) (jsum (Scalar.addi rb 202#32) (v2015 (ix2 p z)) (k0_pay12 v2014 z0 w4 c5 c6 a22 (ix2 0 z))
        (k0_pay12 v2014 z0 w4 c5 c6 a22 (ix2 1 z)) (k0_pay12 v2014 z0 w4 c5 c6 a22 (ix2 2 z))) := by
  unfold k0_pay16 k0_pay13 k0_pay14 k0_pay15 jsum
  pointwise
  try rfl

theorem upd2 (x : FVec F S3x16 .f32) (y : IVec S3x16 1) (q : F .f32) (t : FVec F S3x16 .f32) (ld : Vec F S16x16 .f32) (p z : Fin 16) :
    k0_pay2 (k0_pay23 x y q t) (k0_pay24 v2015 rb x y q t) (k0_pay25 v2015 rb) ld (ix2 p z)
    = FloatOps.addf (ld (ix2 p z)) (jsum (Scalar.addi rb 404#32) (v2015 (ix2 p z)) (k0_pay23 x y q t (ix2 0 z))
        (k0_pay23 x y q t (ix2 1 z)) (k0_pay23 x y q t (ix2 2 z))) := by
  unfold k0_pay2 k0_pay24 k0_pay25 jsum
  pointwise
  try rfl

end Pure

variable (c : Dev nD) (arg2 : Memref sig .tc .vmem S40816x16 .f32) (arg3 : Memref sig .tc .vmem S512x32 .f32)
  (arg4 : Memref sig .tc .vmem S512x8 .i32) (v2014 : IVec S3x16 32) (v2015 : IVec S16x16 32)
  (fw : Buf (Elt F) (arg3.view.loc (c : Thread nD τ))) (fi : Buf (Elt F) (arg4.view.loc (c : Thread nD τ)))
  (k : Fin k0_t1_loop.trips)

/-- The weight a trip reads at lane `q`. -/
abbrev wAt (q : Fin 32) : F .f32 := arg3.view.read (Elt F) fw (ix2 ⟨k.val, k.isLt⟩ q)

theorem row0_0 (z : Fin 16) : densTrip.sl.r_2 c arg3 arg4 v2014 fw fi k (ix2 0 z)
    = zsum (densTrip.sl.v2022 c arg4 fi k) (v2014 (ix2 0 z)) (wAt c arg3 fw k 0) (wAt c arg3 fw k 1) (wAt c arg3 fw k 2) := by
  have h0 := wread c arg3 fw k 0 (k0_off3 k) (k0_off3_inb k) rfl
  have h1 := wread c arg3 fw k 1 (k0_off6 k) (k0_off6_inb k) rfl
  have h2 := wread c arg3 fw k 2 (k0_off9 k) (k0_off9_inb k) rfl
  dsimp only [wAt]
  rw [← h0, ← h1, ← h2]
  exact wz0_0 v2014 (View.readAt (Elt F) arg3.view (Rect.unit (s := S512x32) (k0_off3 k) S1x1.size (k0_off3_inb k)).toLoadRect fw) (View.readAt (Elt F) arg3.view (Rect.unit (s := S512x32) (k0_off6 k) S1x1.size (k0_off6_inb k)).toLoadRect fw) (View.readAt (Elt F) arg3.view (Rect.unit (s := S512x32) (k0_off9 k) S1x1.size (k0_off9_inb k)).toLoadRect fw) (View.readAt (Elt F) arg3.view (Rect.unit (s := S512x32) (k0_off4 k) S1x1.size (k0_off4_inb k)).toLoadRect fw) (View.readAt (Elt F) arg3.view (Rect.unit (s := S512x32) (k0_off7 k) S1x1.size (k0_off7_inb k)).toLoadRect fw) (View.readAt (Elt F) arg3.view (Rect.unit (s := S512x32) (k0_off10 k) S1x1.size (k0_off10_inb k)).toLoadRect fw) (View.readAt (Elt F) arg3.view (Rect.unit (s := S512x32) (k0_off5 k) S1x1.size (k0_off5_inb k)).toLoadRect fw) (View.readAt (Elt F) arg3.view (Rect.unit (s := S512x32) (k0_off8 k) S1x1.size (k0_off8_inb k)).toLoadRect fw) (View.readAt (Elt F) arg3.view (Rect.unit (s := S512x32) (k0_off11 k) S1x1.size (k0_off11_inb k)).toLoadRect fw) (View.readAt (Elt F) arg4.view (Rect.unit (s := S512x8) (k0_off2 k) S1x1.size (k0_off2_inb k)).toLoadRect fi) z

theorem row0_1 (z : Fin 16) : densTrip.sl.r_2 c arg3 arg4 v2014 fw fi k (ix2 1 z)
    = zsum (densTrip.sl.v2022 c arg4 fi k) (v2014 (ix2 1 z)) (wAt c arg3 fw k 3) (wAt c arg3 fw k 4) (wAt c arg3 fw k 5) := by
  have h0 := wread c arg3 fw k 3 (k0_off4 k) (k0_off4_inb k) rfl
  have h1 := wread c arg3 fw k 4 (k0_off7 k) (k0_off7_inb k) rfl
  have h2 := wread c arg3 fw k 5 (k0_off10 k) (k0_off10_inb k) rfl
  dsimp only [wAt]
  rw [← h0, ← h1, ← h2]
  exact wz0_1 v2014 (View.readAt (Elt F) arg3.view (Rect.unit (s := S512x32) (k0_off3 k) S1x1.size (k0_off3_inb k)).toLoadRect fw) (View.readAt (Elt F) arg3.view (Rect.unit (s := S512x32) (k0_off6 k) S1x1.size (k0_off6_inb k)).toLoadRect fw) (View.readAt (Elt F) arg3.view (Rect.unit (s := S512x32) (k0_off9 k) S1x1.size (k0_off9_inb k)).toLoadRect fw) (View.readAt (Elt F) arg3.view (Rect.unit (s := S512x32) (k0_off4 k) S1x1.size (k0_off4_inb k)).toLoadRect fw) (View.readAt (Elt F) arg3.view (Rect.unit (s := S512x32) (k0_off7 k) S1x1.size (k0_off7_inb k)).toLoadRect fw) (View.readAt (Elt F) arg3.view (Rect.unit (s := S512x32) (k0_off10 k) S1x1.size (k0_off10_inb k)).toLoadRect fw) (View.readAt (Elt F) arg3.view (Rect.unit (s := S512x32) (k0_off5 k) S1x1.size (k0_off5_inb k)).toLoadRect fw) (View.readAt (Elt F) arg3.view (Rect.unit (s := S512x32) (k0_off8 k) S1x1.size (k0_off8_inb k)).toLoadRect fw) (View.readAt (Elt F) arg3.view (Rect.unit (s := S512x32) (k0_off11 k) S1x1.size (k0_off11_inb k)).toLoadRect fw) (View.readAt (Elt F) arg4.view (Rect.unit (s := S512x8) (k0_off2 k) S1x1.size (k0_off2_inb k)).toLoadRect fi) z

theorem row0_2 (z : Fin 16) : densTrip.sl.r_2 c arg3 arg4 v2014 fw fi k (ix2 2 z)
    = zsum (densTrip.sl.v2022 c arg4 fi k) (v2014 (ix2 2 z)) (wAt c arg3 fw k 6) (wAt c arg3 fw k 7) (wAt c arg3 fw k 8) := by
  have h0 := wread c arg3 fw k 6 (k0_off5 k) (k0_off5_inb k) rfl
  have h1 := wread c arg3 fw k 7 (k0_off8 k) (k0_off8_inb k) rfl
  have h2 := wread c arg3 fw k 8 (k0_off11 k) (k0_off11_inb k) rfl
  dsimp only [wAt]
  rw [← h0, ← h1, ← h2]
  exact wz0_2 v2014 (View.readAt (Elt F) arg3.view (Rect.unit (s := S512x32) (k0_off3 k) S1x1.size (k0_off3_inb k)).toLoadRect fw) (View.readAt (Elt F) arg3.view (Rect.unit (s := S512x32) (k0_off6 k) S1x1.size (k0_off6_inb k)).toLoadRect fw) (View.readAt (Elt F) arg3.view (Rect.unit (s := S512x32) (k0_off9 k) S1x1.size (k0_off9_inb k)).toLoadRect fw) (View.readAt (Elt F) arg3.view (Rect.unit (s := S512x32) (k0_off4 k) S1x1.size (k0_off4_inb k)).toLoadRect fw) (View.readAt (Elt F) arg3.view (Rect.unit (s := S512x32) (k0_off7 k) S1x1.size (k0_off7_inb k)).toLoadRect fw) (View.readAt (Elt F) arg3.view (Rect.unit (s := S512x32) (k0_off10 k) S1x1.size (k0_off10_inb k)).toLoadRect fw) (View.readAt (Elt F) arg3.view (Rect.unit (s := S512x32) (k0_off5 k) S1x1.size (k0_off5_inb k)).toLoadRect fw) (View.readAt (Elt F) arg3.view (Rect.unit (s := S512x32) (k0_off8 k) S1x1.size (k0_off8_inb k)).toLoadRect fw) (View.readAt (Elt F) arg3.view (Rect.unit (s := S512x32) (k0_off11 k) S1x1.size (k0_off11_inb k)).toLoadRect fw) (View.readAt (Elt F) arg4.view (Rect.unit (s := S512x8) (k0_off2 k) S1x1.size (k0_off2_inb k)).toLoadRect fi) z

theorem box0_at (ld : Vec F S16x16 .f32) (p z : Fin 16) :
    k0_pay6 v2015 (densTrip.sl.r_2 c arg3 arg4 v2014 fw fi k) (densTrip.sl.v2093 c arg4 fi k) (densTrip.sl.v2094 c arg4 fi k) (densTrip.sl.v2105 c arg4 fi k) (densTrip.sl.v2106 c arg4 fi k) (0#32) ld (ix2 p z)
      = FloatOps.addf (ld (ix2 p z)) (jsum (Scalar.addi (densRow c arg4 fi k) 0#32) (v2015 (ix2 p z))
          (densTrip.sl.r_2 c arg3 arg4 v2014 fw fi k (ix2 0 z)) (densTrip.sl.r_2 c arg3 arg4 v2014 fw fi k (ix2 1 z)) (densTrip.sl.r_2 c arg3 arg4 v2014 fw fi k (ix2 2 z))) := by
  exact upd0 v2015 (densRow c arg4 fi k) _ ld p z

theorem row1_0 (z : Fin 16) : densTrip.sl.r_7 c arg3 arg4 v2014 fw fi k (ix2 0 z)
    = zsum (densTrip.sl.v2022 c arg4 fi k) (v2014 (ix2 0 z)) (wAt c arg3 fw k 9) (wAt c arg3 fw k 10) (wAt c arg3 fw k 11) := by
  have h0 := wread c arg3 fw k 9 (k0_off13 k) (k0_off13_inb k) rfl
  have h1 := wread c arg3 fw k 10 (k0_off16 k) (k0_off16_inb k) rfl
  have h2 := wread c arg3 fw k 11 (k0_off19 k) (k0_off19_inb k) rfl
  dsimp only [wAt]
  rw [← h0, ← h1, ← h2]
  exact wz1_0 v2014 (densTrip.sl.v2022 c arg4 fi k) (View.readAt (Elt F) arg3.view (Rect.unit (s := S512x32) (k0_off13 k) S1x1.size (k0_off13_inb k)).toLoadRect fw) (View.readAt (Elt F) arg3.view (Rect.unit (s := S512x32) (k0_off16 k) S1x1.size (k0_off16_inb k)).toLoadRect fw) (View.readAt (Elt F) arg3.view (Rect.unit (s := S512x32) (k0_off19 k) S1x1.size (k0_off19_inb k)).toLoadRect fw) (View.readAt (Elt F) arg3.view (Rect.unit (s := S512x32) (k0_off14 k) S1x1.size (k0_off14_inb k)).toLoadRect fw) (View.readAt (Elt F) arg3.view (Rect.unit (s := S512x32) (k0_off17 k) S1x1.size (k0_off17_inb k)).toLoadRect fw) (View.readAt (Elt F) arg3.view (Rect.unit (s := S512x32) (k0_off20 k) S1x1.size (k0_off20_inb k)).toLoadRect fw) (View.readAt (Elt F) arg3.view (Rect.unit (s := S512x32) (k0_off15 k) S1x1.size (k0_off15_inb k)).toLoadRect fw) (View.readAt (Elt F) arg3.view (Rect.unit (s := S512x32) (k0_off18 k) S1x1.size (k0_off18_inb k)).toLoadRect fw) (View.readAt (Elt F) arg3.view (Rect.unit (s := S512x32) (k0_off21 k) S1x1.size (k0_off21_inb k)).toLoadRect fw) z

theorem row1_1 (z : Fin 16) : densTrip.sl.r_7 c arg3 arg4 v2014 fw fi k (ix2 1 z)
    = zsum (densTrip.sl.v2022 c arg4 fi k) (v2014 (ix2 1 z)) (wAt c arg3 fw k 12) (wAt c arg3 fw k 13) (wAt c arg3 fw k 14) := by
  have h0 := wread c arg3 fw k 12 (k0_off14 k) (k0_off14_inb k) rfl
  have h1 := wread c arg3 fw k 13 (k0_off17 k) (k0_off17_inb k) rfl
  have h2 := wread c arg3 fw k 14 (k0_off20 k) (k0_off20_inb k) rfl
  dsimp only [wAt]
  rw [← h0, ← h1, ← h2]
  exact wz1_1 v2014 (densTrip.sl.v2022 c arg4 fi k) (View.readAt (Elt F) arg3.view (Rect.unit (s := S512x32) (k0_off13 k) S1x1.size (k0_off13_inb k)).toLoadRect fw) (View.readAt (Elt F) arg3.view (Rect.unit (s := S512x32) (k0_off16 k) S1x1.size (k0_off16_inb k)).toLoadRect fw) (View.readAt (Elt F) arg3.view (Rect.unit (s := S512x32) (k0_off19 k) S1x1.size (k0_off19_inb k)).toLoadRect fw) (View.readAt (Elt F) arg3.view (Rect.unit (s := S512x32) (k0_off14 k) S1x1.size (k0_off14_inb k)).toLoadRect fw) (View.readAt (Elt F) arg3.view (Rect.unit (s := S512x32) (k0_off17 k) S1x1.size (k0_off17_inb k)).toLoadRect fw) (View.readAt (Elt F) arg3.view (Rect.unit (s := S512x32) (k0_off20 k) S1x1.size (k0_off20_inb k)).toLoadRect fw) (View.readAt (Elt F) arg3.view (Rect.unit (s := S512x32) (k0_off15 k) S1x1.size (k0_off15_inb k)).toLoadRect fw) (View.readAt (Elt F) arg3.view (Rect.unit (s := S512x32) (k0_off18 k) S1x1.size (k0_off18_inb k)).toLoadRect fw) (View.readAt (Elt F) arg3.view (Rect.unit (s := S512x32) (k0_off21 k) S1x1.size (k0_off21_inb k)).toLoadRect fw) z

theorem row1_2 (z : Fin 16) : densTrip.sl.r_7 c arg3 arg4 v2014 fw fi k (ix2 2 z)
    = zsum (densTrip.sl.v2022 c arg4 fi k) (v2014 (ix2 2 z)) (wAt c arg3 fw k 15) (wAt c arg3 fw k 16) (wAt c arg3 fw k 17) := by
  have h0 := wread c arg3 fw k 15 (k0_off15 k) (k0_off15_inb k) rfl
  have h1 := wread c arg3 fw k 16 (k0_off18 k) (k0_off18_inb k) rfl
  have h2 := wread c arg3 fw k 17 (k0_off21 k) (k0_off21_inb k) rfl
  dsimp only [wAt]
  rw [← h0, ← h1, ← h2]
  exact wz1_2 v2014 (densTrip.sl.v2022 c arg4 fi k) (View.readAt (Elt F) arg3.view (Rect.unit (s := S512x32) (k0_off13 k) S1x1.size (k0_off13_inb k)).toLoadRect fw) (View.readAt (Elt F) arg3.view (Rect.unit (s := S512x32) (k0_off16 k) S1x1.size (k0_off16_inb k)).toLoadRect fw) (View.readAt (Elt F) arg3.view (Rect.unit (s := S512x32) (k0_off19 k) S1x1.size (k0_off19_inb k)).toLoadRect fw) (View.readAt (Elt F) arg3.view (Rect.unit (s := S512x32) (k0_off14 k) S1x1.size (k0_off14_inb k)).toLoadRect fw) (View.readAt (Elt F) arg3.view (Rect.unit (s := S512x32) (k0_off17 k) S1x1.size (k0_off17_inb k)).toLoadRect fw) (View.readAt (Elt F) arg3.view (Rect.unit (s := S512x32) (k0_off20 k) S1x1.size (k0_off20_inb k)).toLoadRect fw) (View.readAt (Elt F) arg3.view (Rect.unit (s := S512x32) (k0_off15 k) S1x1.size (k0_off15_inb k)).toLoadRect fw) (View.readAt (Elt F) arg3.view (Rect.unit (s := S512x32) (k0_off18 k) S1x1.size (k0_off18_inb k)).toLoadRect fw) (View.readAt (Elt F) arg3.view (Rect.unit (s := S512x32) (k0_off21 k) S1x1.size (k0_off21_inb k)).toLoadRect fw) z

theorem box1_at (ld : Vec F S16x16 .f32) (p z : Fin 16) :
    k0_pay16 v2015 (densTrip.sl.r_7 c arg3 arg4 v2014 fw fi k) (densTrip.sl.v2236 c arg4 fi k) k0_pay13 (densTrip.sl.r_8 c arg4 v2015 fi k) densTrip.sl.cst_638 (densTrip.sl.r_9 c arg3 arg4 v2014 fw fi k) ld (ix2 p z)
      = FloatOps.addf (ld (ix2 p z)) (jsum (Scalar.addi (densRow c arg4 fi k) 202#32) (v2015 (ix2 p z))
          (densTrip.sl.r_7 c arg3 arg4 v2014 fw fi k (ix2 0 z)) (densTrip.sl.r_7 c arg3 arg4 v2014 fw fi k (ix2 1 z)) (densTrip.sl.r_7 c arg3 arg4 v2014 fw fi k (ix2 2 z))) := by
  unfold densTrip.sl.r_7 densTrip.sl.r_8 densTrip.sl.r_9
  exact upd1 v2014 v2015 (densTrip.sl.v2022 c arg4 fi k) (densRow c arg4 fi k)
    (View.readAt (Elt F) arg3.view (Rect.unit (s := S512x32) (k0_off21 k) S1x1.size (k0_off21_inb k)).toLoadRect fw) (densTrip.sl.r_4 c arg3 arg4 v2014 fw fi k) (densTrip.sl.r_5 c arg3 fw k) (densTrip.sl.r_6 c arg3 fw k) ld p z

theorem row2_0 (z : Fin 16) : densTrip.sl.r_15 c arg3 arg4 v2014 fw fi k (ix2 0 z)
    = zsum (densTrip.sl.v2022 c arg4 fi k) (v2014 (ix2 0 z)) (wAt c arg3 fw k 18) (wAt c arg3 fw k 19) (wAt c arg3 fw k 20) := by
  have h0 := wread c arg3 fw k 18 (k0_off22 k) (k0_off22_inb k) rfl
  have h1 := wread c arg3 fw k 19 (k0_off25 k) (k0_off25_inb k) rfl
  have h2 := wread c arg3 fw k 20 (k0_off28 k) (k0_off28_inb k) rfl
  dsimp only [wAt]
  rw [← h0, ← h1, ← h2]
  exact wz2_0 v2014 (densTrip.sl.v2022 c arg4 fi k) (View.readAt (Elt F) arg3.view (Rect.unit (s := S512x32) (k0_off22 k) S1x1.size (k0_off22_inb k)).toLoadRect fw) (View.readAt (Elt F) arg3.view (Rect.unit (s := S512x32) (k0_off25 k) S1x1.size (k0_off25_inb k)).toLoadRect fw) (View.readAt (Elt F) arg3.view (Rect.unit (s := S512x32) (k0_off28 k) S1x1.size (k0_off28_inb k)).toLoadRect fw) (View.readAt (Elt F) arg3.view (Rect.unit (s := S512x32) (k0_off23 k) S1x1.size (k0_off23_inb k)).toLoadRect fw) (View.readAt (Elt F) arg3.view (Rect.unit (s := S512x32) (k0_off26 k) S1x1.size (k0_off26_inb k)).toLoadRect fw) (View.readAt (Elt F) arg3.view (Rect.unit (s := S512x32) (k0_off29 k) S1x1.size (k0_off29_inb k)).toLoadRect fw) (View.readAt (Elt F) arg3.view (Rect.unit (s := S512x32) (k0_off24 k) S1x1.size (k0_off24_inb k)).toLoadRect fw) (View.readAt (Elt F) arg3.view (Rect.unit (s := S512x32) (k0_off27 k) S1x1.size (k0_off27_inb k)).toLoadRect fw) (View.readAt (Elt F) arg3.view (Rect.unit (s := S512x32) (k0_off30 k) S1x1.size (k0_off30_inb k)).toLoadRect fw) z

theorem row2_1 (z : Fin 16) : densTrip.sl.r_15 c arg3 arg4 v2014 fw fi k (ix2 1 z)
    = zsum (densTrip.sl.v2022 c arg4 fi k) (v2014 (ix2 1 z)) (wAt c arg3 fw k 21) (wAt c arg3 fw k 22) (wAt c arg3 fw k 23) := by
  have h0 := wread c arg3 fw k 21 (k0_off23 k) (k0_off23_inb k) rfl
  have h1 := wread c arg3 fw k 22 (k0_off26 k) (k0_off26_inb k) rfl
  have h2 := wread c arg3 fw k 23 (k0_off29 k) (k0_off29_inb k) rfl
  dsimp only [wAt]
  rw [← h0, ← h1, ← h2]
  exact wz2_1 v2014 (densTrip.sl.v2022 c arg4 fi k) (View.readAt (Elt F) arg3.view (Rect.unit (s := S512x32) (k0_off22 k) S1x1.size (k0_off22_inb k)).toLoadRect fw) (View.readAt (Elt F) arg3.view (Rect.unit (s := S512x32) (k0_off25 k) S1x1.size (k0_off25_inb k)).toLoadRect fw) (View.readAt (Elt F) arg3.view (Rect.unit (s := S512x32) (k0_off28 k) S1x1.size (k0_off28_inb k)).toLoadRect fw) (View.readAt (Elt F) arg3.view (Rect.unit (s := S512x32) (k0_off23 k) S1x1.size (k0_off23_inb k)).toLoadRect fw) (View.readAt (Elt F) arg3.view (Rect.unit (s := S512x32) (k0_off26 k) S1x1.size (k0_off26_inb k)).toLoadRect fw) (View.readAt (Elt F) arg3.view (Rect.unit (s := S512x32) (k0_off29 k) S1x1.size (k0_off29_inb k)).toLoadRect fw) (View.readAt (Elt F) arg3.view (Rect.unit (s := S512x32) (k0_off24 k) S1x1.size (k0_off24_inb k)).toLoadRect fw) (View.readAt (Elt F) arg3.view (Rect.unit (s := S512x32) (k0_off27 k) S1x1.size (k0_off27_inb k)).toLoadRect fw) (View.readAt (Elt F) arg3.view (Rect.unit (s := S512x32) (k0_off30 k) S1x1.size (k0_off30_inb k)).toLoadRect fw) z

theorem row2_2 (z : Fin 16) : densTrip.sl.r_15 c arg3 arg4 v2014 fw fi k (ix2 2 z)
    = zsum (densTrip.sl.v2022 c arg4 fi k) (v2014 (ix2 2 z)) (wAt c arg3 fw k 24) (wAt c arg3 fw k 25) (wAt c arg3 fw k 26) := by
  have h0 := wread c arg3 fw k 24 (k0_off24 k) (k0_off24_inb k) rfl
  have h1 := wread c arg3 fw k 25 (k0_off27 k) (k0_off27_inb k) rfl
  have h2 := wread c arg3 fw k 26 (k0_off30 k) (k0_off30_inb k) rfl
  dsimp only [wAt]
  rw [← h0, ← h1, ← h2]
  exact wz2_2 v2014 (densTrip.sl.v2022 c arg4 fi k) (View.readAt (Elt F) arg3.view (Rect.unit (s := S512x32) (k0_off22 k) S1x1.size (k0_off22_inb k)).toLoadRect fw) (View.readAt (Elt F) arg3.view (Rect.unit (s := S512x32) (k0_off25 k) S1x1.size (k0_off25_inb k)).toLoadRect fw) (View.readAt (Elt F) arg3.view (Rect.unit (s := S512x32) (k0_off28 k) S1x1.size (k0_off28_inb k)).toLoadRect fw) (View.readAt (Elt F) arg3.view (Rect.unit (s := S512x32) (k0_off23 k) S1x1.size (k0_off23_inb k)).toLoadRect fw) (View.readAt (Elt F) arg3.view (Rect.unit (s := S512x32) (k0_off26 k) S1x1.size (k0_off26_inb k)).toLoadRect fw) (View.readAt (Elt F) arg3.view (Rect.unit (s := S512x32) (k0_off29 k) S1x1.size (k0_off29_inb k)).toLoadRect fw) (View.readAt (Elt F) arg3.view (Rect.unit (s := S512x32) (k0_off24 k) S1x1.size (k0_off24_inb k)).toLoadRect fw) (View.readAt (Elt F) arg3.view (Rect.unit (s := S512x32) (k0_off27 k) S1x1.size (k0_off27_inb k)).toLoadRect fw) (View.readAt (Elt F) arg3.view (Rect.unit (s := S512x32) (k0_off30 k) S1x1.size (k0_off30_inb k)).toLoadRect fw) z

theorem box2_at (ld : Vec F S16x16 .f32) (p z : Fin 16) :
    k0_pay2 (densTrip.sl.r_15 c arg3 arg4 v2014 fw fi k) (densTrip.sl.r_16 c arg3 arg4 v2014 v2015 fw fi k) (densTrip.sl.r_17 c arg4 v2015 fi k) ld (ix2 p z)
      = FloatOps.addf (ld (ix2 p z)) (jsum (Scalar.addi (densRow c arg4 fi k) 404#32) (v2015 (ix2 p z))
          (densTrip.sl.r_15 c arg3 arg4 v2014 fw fi k (ix2 0 z)) (densTrip.sl.r_15 c arg3 arg4 v2014 fw fi k (ix2 1 z)) (densTrip.sl.r_15 c arg3 arg4 v2014 fw fi k (ix2 2 z))) := by
  exact upd2 v2015 (densRow c arg4 fi k) _ _ _ _ ld p z

end Any

end Cert.KernelIdeal.Splat
-- ==== Proof.DensSum.lean ====
/- The trips of the density kernel's loop at the extended reals: each adds its Gaussian's boxes. -/
module

public import proofs.«01_k».proof.Proof.DensTrip
public import Idealize.ShloMosaic.PureOps.Ideal

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Cert.Splat

/-- What a Gaussian adds in a row's column: its three words there. -/
def zhits (z0 : BitVec 32) (z : ℕ) (a : Fin 3 → EReal) : EReal :=
  ∑ d : Fin 3, if BitVec.ofNat 32 z = Scalar.addi (Scalar.subi z0 1#32) (BitVec.ofNat 32 d.val) then a d else 0

/-- What a Gaussian at row `n` and column word `z0` adds at row `r`, column `z`. -/
def spread (w : Fin 32 → EReal) (n : ℕ) (z0 : BitVec 32) (r z : ℕ) : EReal :=
  ∑ e : Fin 3, ∑ j : Fin 3, if r = n + 202 * e.val + j.val then zhits z0 z (fun d => w ⟨9 * e.val + 3 * j.val + d.val, by omega⟩) else 0

theorem zero_f32 : (FloatOps.ofBits (F := Ideal) .f32 0#32) = (0 : EReal) := by
  simp [Ideal.ofBits, Ideal.ieee, -EReal.coe_mul]

theorem select_eq {α : Type} (x y : BitVec 32) (a b : α) : Scalar.select (IntOp.cmpi .eq x y) a b = if x = y then a else b := by
  unfold Scalar.select IntOp.cmpi
  by_cases h : x = y
  · subst h; simp
  · simp [h, beq_eq_false_iff_ne.mpr h]

theorem zsum_eq (z0 : BitVec 32) (z : ℕ) (a : Fin 3 → EReal) :
    zsum (F := Ideal) z0 (BitVec.ofNat 32 z) (a 0) (a 1) (a 2) = zhits z0 z a := by
  unfold zsum zhits
  rw [Fin.sum_univ_three]
  simp only [select_eq, Ideal.addf_def]
  rw [zero_f32, zero_add]
  rfl

theorem word_eq_iff {x y : BitVec 32} {a b : ℤ} (hx : Affine.IsInt x a) (hy : Affine.IsInt y b) : x = y ↔ a = b := by
  unfold Affine.IsInt at hx hy
  rw [← BitVec.toInt_inj, hx, hy]

theorem jsum_eq {rs : BitVec 32} {n : ℕ} (h : Affine.IsInt rs n) (hn : n < 2 ^ 19) (p : ℕ) (hp : p < 16) (b0 b1 b2 : EReal) :
    jsum (F := Ideal) rs (BitVec.ofNat 32 p) b0 b1 b2
      = (if n / 8 * 8 + p = n then b0 else 0) + (if n / 8 * 8 + p = n + 1 then b1 else 0) + (if n / 8 * 8 + p = n + 2 then b2 else 0) := by
  have hs : Affine.IsInt (Scalar.subi rs (floor8 rs)) ((n - n / 8 * 8 : ℕ) : ℤ) :=
    Affine.subi h (floor8_isInt h (by omega)) (by have := Nat.div_mul_le_self n 8; push_cast [this]; omega)
  have hp' : Affine.IsInt (BitVec.ofNat 32 p) (p : ℤ) := Affine.ofNat p (by omega)
  have key : ∀ m : ℕ, m < 3 → ((BitVec.ofNat 32 p = Scalar.addi (Scalar.subi rs (floor8 rs)) (BitVec.ofNat 32 m)) ↔ n / 8 * 8 + p = n + m) := by
    intro m hm
    rw [word_eq_iff hp' (add_isInt hs (by omega) m (by omega))]
    have := Nat.div_mul_le_self n 8
    omega
  unfold jsum
  simp only [select_eq, Ideal.addf_def]
  rw [zero_f32, zero_add]
  have k0 := key 0 (by omega)
  have k1 := key 1 (by omega)
  have k2 := key 2 (by omega)
  rw [if_congr k0 rfl rfl, if_congr k1 rfl rfl, if_congr k2 rfl rfl]
  rfl

section Trip

variable (c : Dev nD) (arg2 : Memref sig .tc .vmem S40816x16 .f32)

/-- A box added to the accumulator, read at a row and a column. -/
theorem box_read (f : Buf (Elt Ideal) (arg2.view.loc (c : Thread nD τ))) (L : List (View.Piece (Elt Ideal) S40816x16 .f32))
    (rs : BitVec 32) (n : ℕ) (h : Affine.IsInt rs n) (hn : n < 2 ^ 19) (off : Fin 2 → ℕ) (hoff : off = ![n / 8 * 8, 0])
    (inb : ∀ a, off a + S16x16.size a ≤ S40816x16.size a) (w : FVec Ideal S16x16 .f32) (b0 b1 b2 : Fin 16 → EReal)
    (hw : ∀ p z : Fin 16, w (ix2 p z) = FloatOps.addf (View.readAt (Elt Ideal) arg2.view (Rect.unit (s := S40816x16) off S16x16.size inb).toLoadRect
        (arg2.view.writes (Elt Ideal) f L) (ix2 p z)) (jsum rs (BitVec.ofNat 32 p.val) (b0 z) (b1 z) (b2 z)))
    (r : Fin 40816) (z : Fin 16) :
    arg2.view.read (Elt Ideal) (arg2.view.writes (Elt Ideal) f (⟨Rect.unit (s := S40816x16) off S16x16.size inb, w⟩ :: L)) (ix2 r z)
      = arg2.view.read (Elt Ideal) (arg2.view.writes (Elt Ideal) f L) (ix2 r z)
        + ((if r.val = n then b0 z else 0) + (if r.val = n + 1 then b1 z else 0) + (if r.val = n + 2 then b2 z else 0)) := by
  subst hoff
  rw [View.read_writes_cons_rows (o := n / 8 * 8) (W := 16) arg2.view f inb w L (ix2 r z) rfl rfl rfl]
  split
  · rename_i hr
    have hr1 : n / 8 * 8 ≤ r.val := hr.1
    have hr2 : r.val < n / 8 * 8 + 16 := hr.2
    have hi : (Rect.unitLocal (s := S40816x16) (off := ![n / 8 * 8, 0]) (size := S16x16.size) (ix2 r z) (Rect.unit_rows_mem (ix2 r z) rfl rfl hr))
        = ix2 (⟨r.val - n / 8 * 8, by omega⟩ : Fin 16) z := by
      funext a; apply Fin.ext; fin_cases a <;> rfl
    have e := (congrArg w hi).trans (hw ⟨r.val - n / 8 * 8, by omega⟩ z)
    refine e.trans ?_
    rw [View.readAt_apply, jsum_eq h hn (r.val - n / 8 * 8) (by omega), Ideal.addf_def]
    have hidx : (Rect.unit (s := S40816x16) ![n / 8 * 8, 0] S16x16.size inb).toLoadRect.idx (ix2 ⟨r.val - n / 8 * 8, by omega⟩ z) = ix2 r z := by
      funext a; apply Fin.ext; fin_cases a
      · show n / 8 * 8 + 1 * (r.val - n / 8 * 8) = r.val
        omega
      · show 0 + 1 * z.val = z.val
        omega
    refine congrArg₂ (· + ·) (congrArg (View.read (Elt Ideal) arg2.view (arg2.view.writes (Elt Ideal) f L)) hidx) ?_
    have e0 : n / 8 * 8 + (r.val - n / 8 * 8) = r.val := by omega
    simp only [e0]
  · rename_i hr
    have hr' : ¬ (n / 8 * 8 ≤ r.val ∧ r.val < n / 8 * 8 + 16) := hr
    rw [if_neg (by omega), if_neg (by omega), if_neg (by omega)]
    simp

variable (i : grid0.Coords) (arg1 : Memref sig .tc .vmem S1x8x512 .f32) (harg1 : arg1.IsWhole) (harg2 : arg2.IsWhole) (arg3 : Memref sig .tc .vmem S512x32 .f32) (harg3 : arg3.IsWhole) (arg4 : Memref sig .tc .vmem S512x8 .i32) (harg4 : arg4.IsWhole) (v2014 : IVec S3x16 32) (v2015 : IVec S16x16 32)
  (fw : Buf (Elt Ideal) (arg3.view.loc (c : Thread nD τ))) (fi : Buf (Elt Ideal) (arg4.view.loc (c : Thread nD τ)))
  (k : Fin k0_t1_loop.trips)

/-- One trip adds its Gaussian's boxes. -/
theorem trip_read (hrow : k0_chk1 (densRow c arg4 fi k)) (f : Buf (Elt Ideal) (arg2.view.loc (c : Thread nD τ)))
    (n : ℕ) (hn : Affine.IsInt (densRow c arg4 fi k) n) (hb : n ≤ 40397)
    (h14 : ∀ (j : Fin 3) (z : Fin 16), v2014 (ix2 j z) = BitVec.ofNat 32 z.val) (h15 : ∀ p z : Fin 16, v2015 (ix2 p z) = BitVec.ofNat 32 p.val)
    (r : Fin 40816) (z : Fin 16) :
    arg2.view.read (Elt Ideal) (arg2.view.writes (Elt Ideal) f ((densTrip c i arg1 harg1 arg2 harg2 arg3 harg3 arg4 harg4 v2014 v2015 fw fi k hrow).1 f)) (ix2 r z)
      = arg2.view.read (Elt Ideal) f (ix2 r z) + spread (fun q => wAt c arg3 fw k q) n (densTrip.sl.v2022 c arg4 fi k) r.val z.val := by
  have o0 : k0_off12 (densTrip.sl.v2019 c arg4 fi k) 0#32 = ![(n + 0) / 8 * 8, 0] := off12_eq hn hb 0 (by omega)
  have o1 : k0_off12 (densTrip.sl.v2019 c arg4 fi k) 202#32 = ![(n + 202) / 8 * 8, 0] := off12_eq hn hb 202 (by omega)
  have o2 : k0_off12 (densTrip.sl.v2019 c arg4 fi k) 404#32 = ![(n + 404) / 8 * 8, 0] := off12_eq hn hb 404 (by omega)
  unfold densTrip
  dsimp only
  refine (box_read c arg2 f _ _ (n + 404) (add_isInt hn (by omega) 404 (by omega)) (by omega) _ o2 _ _
    (fun z => densTrip.sl.r_15 c arg3 arg4 v2014 fw fi k (ix2 0 z)) (fun z => densTrip.sl.r_15 c arg3 arg4 v2014 fw fi k (ix2 1 z))
    (fun z => densTrip.sl.r_15 c arg3 arg4 v2014 fw fi k (ix2 2 z)) (fun p z => (box2_at c arg3 arg4 v2014 v2015 fw fi k _ p z).trans (by rw [h15])) r z).trans ?_
  unfold densTrip.sl.HA_2
  refine (congrArg (· + _) (box_read c arg2 f _ _ (n + 202) (add_isInt hn (by omega) 202 (by omega)) (by omega) _ o1 _ _
    (fun z => densTrip.sl.r_7 c arg3 arg4 v2014 fw fi k (ix2 0 z)) (fun z => densTrip.sl.r_7 c arg3 arg4 v2014 fw fi k (ix2 1 z))
    (fun z => densTrip.sl.r_7 c arg3 arg4 v2014 fw fi k (ix2 2 z)) (fun p z => (box1_at c arg3 arg4 v2014 v2015 fw fi k _ p z).trans (by rw [h15])) r z)).trans ?_
  unfold densTrip.sl.HA_1
  refine (congrArg (fun x => x + _ + _) (box_read c arg2 f [] _ (n + 0) (add_isInt hn (by omega) 0 (by omega)) (by omega) _ o0 _ _
    (fun z => densTrip.sl.r_2 c arg3 arg4 v2014 fw fi k (ix2 0 z)) (fun z => densTrip.sl.r_2 c arg3 arg4 v2014 fw fi k (ix2 1 z))
    (fun z => densTrip.sl.r_2 c arg3 arg4 v2014 fw fi k (ix2 2 z)) (fun p z => (box0_at c arg3 arg4 v2014 v2015 fw fi k _ p z).trans (by rw [h15]; rfl)) r z)).trans ?_
  simp only [row0_0, row0_1, row0_2, row1_0, row1_1, row1_2, row2_0, row2_1, row2_2, h14]
  unfold spread
  simp only [Fin.sum_univ_three, ← zsum_eq]
  show _ + (_ + _ + _) + (_ + _ + _) + (_ + _ + _) = _ + (_ + _ + _ + (_ + _ + _) + (_ + _ + _))
  rw [add_assoc, add_assoc, add_assoc (_ + _ + _) (_ + _ + _) (_ + _ + _)]
  rfl

/-- The trips so far add their Gaussians' boxes. -/
theorem fold_read (hrow : ∀ k, k0_chk1 (densRow c arg4 fi k)) (f : Buf (Elt Ideal) (arg2.view.loc (c : Thread nD τ)))
    (row : Fin 512 → ℕ) (col : Fin 512 → BitVec 32) (w : Fin 512 → Fin 32 → EReal)
    (hn : ∀ k : Fin k0_t1_loop.trips, Affine.IsInt (densRow c arg4 fi k) (row ⟨k.val, k.isLt⟩)) (hb : ∀ k, row k ≤ 40397)
    (hz : ∀ k : Fin k0_t1_loop.trips, densTrip.sl.v2022 c arg4 fi k = col ⟨k.val, k.isLt⟩)
    (hw : ∀ (k : Fin k0_t1_loop.trips) q, wAt c arg3 fw k q = w ⟨k.val, k.isLt⟩ q)
    (h14 : ∀ (j : Fin 3) (z : Fin 16), v2014 (ix2 j z) = BitVec.ofNat 32 z.val) (h15 : ∀ p z : Fin 16, v2015 (ix2 p z) = BitVec.ofNat 32 p.val)
    (r : Fin 40816) (z : Fin 16) :
    arg2.view.read (Elt Ideal) (densFold c i arg1 harg1 arg2 harg2 arg3 harg3 arg4 harg4 v2014 v2015 fw fi hrow f k0_t1_loop.trips) (ix2 r z)
      = arg2.view.read (Elt Ideal) f (ix2 r z) + ∑ k : Fin 512, spread (w k) (row k) (col k) r.val z.val := by
  have h : ∀ N : ℕ, (hN : N ≤ 512) → arg2.view.read (Elt Ideal) (densFold c i arg1 harg1 arg2 harg2 arg3 harg3 arg4 harg4 v2014 v2015 fw fi hrow f N) (ix2 r z)
      = arg2.view.read (Elt Ideal) f (ix2 r z) + ∑ k : Fin N, spread (w ⟨k.val, by omega⟩) (row ⟨k.val, by omega⟩) (col ⟨k.val, by omega⟩) r.val z.val := by
    intro N
    induction N with
    | zero => intro _; simp [densFold]
    | succ N ih =>
      intro hN
      have e := densFold_succ c i arg1 harg1 arg2 harg2 arg3 harg3 arg4 harg4 v2014 v2015 fw fi hrow f ⟨N, hN⟩
      dsimp only at e
      rw [e, trip_read c arg2 i arg1 harg1 harg2 arg3 harg3 arg4 harg4 v2014 v2015 fw fi ⟨N, hN⟩ _ _ _ (hn _) (hb _) h14 h15 r z,
        ih (by omega), Fin.sum_univ_castSucc, add_assoc]
      refine congrArg₂ (· + ·) rfl (congrArg₂ (· + ·) rfl ?_)
      rw [hz]
      simp only [hw]
      rfl
  exact h 512 le_rfl

end Trip

end Cert.KernelIdeal.Splat
-- ==== Proof.DensValue.lean ====
/- What the density kernel's body leaves: the records' boxes, added to what was there. -/
module

public import proofs.«01_k».proof.Proof.DensSum
public import proofs.«01_k».proof.Proof.DensWeights

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Cert.Splat

/-- What a record adds at row `r`, column `z`. -/
def hit (p : Fin 8 → EReal) (r z : ℕ) : EReal :=
  ∑ e : Fin 3, ∑ j : Fin 3, if r = rowOf (F := Ideal) p + 202 * e.val + j.val then
    zhits (colOf (F := Ideal) p) z (fun d => wP (F := Ideal) p e j d) else 0

theorem rowOf_le (p : Fin 8 → EReal) : rowOf (F := Ideal) p ≤ 40397 := by
  unfold rowOf
  have h1 := clip199_le (bX (F := Ideal) p)
  have h2 := clip199_le (bY (F := Ideal) p)
  omega

/-- The records of a block. -/
def recs (c : Dev nD) (arg1 : Memref sig .tc .vmem S1x8x512 .f32) (x : Buf (Elt Ideal) (arg1.view.loc (c : Thread nD τ)))
    (k : Fin 512) : Fin 8 → EReal := fun ch => arg1.view.read (Elt Ideal) x (ix3 0 ch k)

theorem spread_eq (c : Dev nD) (arg1 : Memref sig .tc .vmem S1x8x512 .f32) (x : Buf (Elt Ideal) (arg1.view.loc (c : Thread nD τ)))
    (k : Fin 512) (r z : ℕ) :
    spread (fun q => blockW (F := Ideal) c arg1 x (ix2 k q)) (rowOf (F := Ideal) (recs c arg1 x k)) (colOf (F := Ideal) (recs c arg1 x k)) r z
      = hit (recs c arg1 x k) r z := by
  unfold spread hit
  simp only [blockW_at]
  rfl

section Word
variable {F : FTy → Type} [FloatOps F]

/-- The column word of a trip. -/
theorem densCol_full (c : Dev nD) (arg4 : Memref sig .tc .vmem S512x8 .i32) (f : Buf (Elt F) (arg4.view.loc (c : Thread nD τ)))
    (w : IVec S512x8 32) (k : Fin k0_t1_loop.trips) :
    densTrip.sl.v2022 (F := F) c arg4 (arg4.view.writes (Elt F) f [⟨Rect.unit ![0, 0] S512x8.size inb_S512x8_S512x8_0_0, w⟩]) k
      = w (ix2 ⟨k.val, k.isLt⟩ 1) := by
  unfold densTrip.sl.v2022 extractAt
  rw [View.readAt_apply, View.read_writes_full]
  refine congrArg w (funext fun a => Fin.ext ?_)
  have hk := iv_toNat k.val k.isLt
  fin_cases a
  · show (Scalar.indexCast (Scf.iv 0#32 1#32 k.val)).toNat + 1 * 0 = k.val
    omega
  · rfl

end Word

section Body
variable (c : Dev nD) (i : grid0.Coords) (arg1 : Memref sig .tc .vmem S1x8x512 .f32) (harg1 : arg1.IsWhole)
    (arg2 : Memref sig .tc .vmem S40816x16 .f32) (harg2 : arg2.IsWhole)
    (arg3 : Memref sig .tc .vmem S512x32 .f32) (harg3 : arg3.IsWhole) (arg4 : Memref sig .tc .vmem S512x8 .i32) (harg4 : arg4.IsWhole)
    (x : Buf (Elt Ideal) (arg1.view.loc (c : Thread nD τ)))

theorem block_read (v2014 : IVec S3x16 32) (v2015 : IVec S16x16 32)
    (h14 : ∀ (j : Fin 3) (z : Fin 16), v2014 (ix2 j z) = BitVec.ofNat 32 z.val) (h15 : ∀ p z : Fin 16, v2015 (ix2 p z) = BitVec.ofNat 32 p.val)
    (f3 : Buf (Elt Ideal) (arg3.view.loc (c : Thread nD τ))) (f4 : Buf (Elt Ideal) (arg4.view.loc (c : Thread nD τ)))
    (hrow : ∀ k, k0_chk1 (densRow (F := Ideal) c arg4
      (arg4.view.writes (Elt Ideal) f4 [⟨Rect.unit ![0, 0] S512x8.size inb_S512x8_S512x8_0_0, blockI (F := Ideal) c arg1 x⟩]) k))
    (f : Buf (Elt Ideal) (arg2.view.loc (c : Thread nD τ))) (r : Fin 40816) (z : Fin 16) :
    arg2.view.read (Elt Ideal) (densFold c i arg1 harg1 arg2 harg2 arg3 harg3 arg4 harg4 v2014 v2015
        (arg3.view.writes (Elt Ideal) f3 [⟨Rect.unit ![0, 0] S512x32.size inb_S512x32_S512x32_0_0, blockW (F := Ideal) c arg1 x⟩])
        (arg4.view.writes (Elt Ideal) f4 [⟨Rect.unit ![0, 0] S512x8.size inb_S512x8_S512x8_0_0, blockI (F := Ideal) c arg1 x⟩])
        hrow f k0_t1_loop.trips) (ix2 r z)
      = arg2.view.read (Elt Ideal) f (ix2 r z) + ∑ k : Fin 512, hit (recs c arg1 x k) r.val z.val := by
  refine (fold_read c arg2 i arg1 harg1 harg2 arg3 harg3 arg4 harg4 v2014 v2015 _ _ hrow f
    (fun k => rowOf (F := Ideal) (recs c arg1 x k)) (fun k => colOf (F := Ideal) (recs c arg1 x k))
    (fun k q => blockW (F := Ideal) c arg1 x (ix2 k q)) ?_ (fun k => rowOf_le _) ?_ ?_ h14 h15 r z).trans ?_
  · intro k
    rw [densRow_full]
    exact blockI_row c arg1 x _
  · intro k
    rw [densCol_full]
    exact blockI_col c arg1 x _
  · intro k q
    exact congrFun (View.read_writes_full _ _ _ _ _) _
  · simp only [spread_eq]

theorem iota14 (j : Fin 3) (z : Fin 16) : (iota .tc S3x16 32 [1] iota_S3x16_d1_w32) (ix2 j z) = BitVec.ofNat 32 z.val := by
  unfold iota
  refine congrArg (BitVec.ofNat 32) ?_
  simp

theorem iota15 (p z : Fin 16) : (iota .tc S16x16 32 [0] iota_S16x16_d0_w32) (ix2 p z) = BitVec.ofNat 32 p.val := by
  unfold iota
  refine congrArg (BitVec.ofNat 32) ?_
  simp

theorem densBody0_read (h0 : Scalar.cmpi .ne (Scalar.extui (Scalar.cmpi .eq (BitVec.ofNat 32 (i 0).val) 0#32)) 0#32 = 1#1)
    (r : Fin 40816) (z : Fin 16) :
    arg2.view.read (Elt Ideal) (densBody0 (F := Ideal) c i arg1 harg1 arg2 harg2 arg3 harg3 arg4 harg4 h0 x).1 (ix2 r z)
      = ∑ k : Fin 512, hit (recs c arg1 x k) r.val z.val := by
  unfold densBody0
  dsimp only
  refine (block_read c i arg1 harg1 arg2 harg2 arg3 harg3 arg4 harg4 x _ _ iota14 iota15 _ _ _ _ r z).trans ?_
  have h : arg2.view.read (Elt Ideal) (arg2.view.writes (Elt Ideal) arg2.view.junk (densBody0.sl.HA_1 (F := Ideal))) (ix2 r z) = (0 : EReal) := by
    unfold densBody0.sl.HA_1
    refine (congrFun (View.read_writes_full _ _ _ _ _) _).trans ?_
    exact zero_f32
  rw [h, zero_add]

theorem densBodyS_read (h0 : ¬ Scalar.cmpi .ne (Scalar.extui (Scalar.cmpi .eq (BitVec.ofNat 32 (i 0).val) 0#32)) 0#32 = 1#1)
    (f2 : Buf (Elt Ideal) (arg2.view.loc (c : Thread nD τ))) (r : Fin 40816) (z : Fin 16) :
    arg2.view.read (Elt Ideal) ((densBodyS (F := Ideal) c i arg1 harg1 arg2 harg2 arg3 harg3 arg4 harg4 h0 x).1 f2) (ix2 r z)
      = arg2.view.read (Elt Ideal) f2 (ix2 r z) + ∑ k : Fin 512, hit (recs c arg1 x k) r.val z.val := by
  unfold densBodyS
  dsimp only
  exact block_read c i arg1 harg1 arg2 harg2 arg3 harg3 arg4 harg4 x _ _ iota14 iota15 _ _ _ _ r z

end Body

end Cert.KernelIdeal.Splat
-- ==== Proof.FeatsTrip.lean ====
/- The value of one trip of the feature kernel's loop. -/
module

public import proofs.«01_k».proof.Proof.DensTrip
public import proofs.«01_k».proof.Proof.FeatsBody
public import Idealize.ShloMosaic.Lib.Pointwise

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Cert.Splat

variable {F : FTy → Type} [FloatOps F]

/-- One word of a block's weights, as a trip reads it. -/
theorem wreadF (c : Dev nD) (arg4 : Memref sig .tc .vmem S512x32 .f32) (fw : Buf (Elt F) (arg4.view.loc (c : Thread nD τ)))
    (k : Fin k1_t1_loop.trips) (q : Fin 32) (off : Fin 2 → ℕ) (inb : ∀ a, off a + S1x1.size a ≤ S512x32.size a)
    (hoff : off = ![(Scalar.indexCast (Scf.iv 0#32 1#32 k.val)).toNat, q.val]) :
    View.readAt (Elt F) arg4.view (Rect.unit (s := S512x32) off S1x1.size inb).toLoadRect fw (ix2 0 0)
      = arg4.view.read (Elt F) fw (ix2 ⟨k.val, k.isLt⟩ q) := by
  subst hoff
  rw [View.readAt_apply]
  refine congrArg (arg4.view.read (Elt F) fw) (funext fun a => Fin.ext ?_)
  have hk := iv_toNat k.val k.isLt
  fin_cases a
  · show (Scalar.indexCast (Scf.iv 0#32 1#32 k.val)).toNat + 1 * 0 = k.val
    omega
  · rfl

section Pure

variable (v2038 : IVec S3x256 32) (v2040 : IVec S16x256 32) (z0 rb : BitVec 32)
  (a00 a01 a02 a10 a11 a12 a20 a21 a22 : Vec F S1x1 .f32)

theorem fz0_0 (l : Fin 256) : k1_pay9 v2038 z0 (k1_pay6 v2038 z0 k1_pay3 (k1_pay4 a00) (k1_pay5 a10) a20 a01 a11 a21) (k1_pay7 a02) (k1_pay8 a12) a22 (ix2 0 l)
    = zsum z0 (v2038 (ix2 0 l)) (a00 (ix2 0 0)) (a01 (ix2 0 0)) (a02 (ix2 0 0)) := by
  unfold k1_pay9 k1_pay6 k1_pay3 k1_pay4 k1_pay5 k1_pay7 k1_pay8 zsum
  pointwise
  try rfl

theorem fz0_1 (l : Fin 256) : k1_pay9 v2038 z0 (k1_pay6 v2038 z0 k1_pay3 (k1_pay4 a00) (k1_pay5 a10) a20 a01 a11 a21) (k1_pay7 a02) (k1_pay8 a12) a22 (ix2 1 l)
    = zsum z0 (v2038 (ix2 1 l)) (a10 (ix2 0 0)) (a11 (ix2 0 0)) (a12 (ix2 0 0)) := by
  unfold k1_pay9 k1_pay6 k1_pay3 k1_pay4 k1_pay5 k1_pay7 k1_pay8 zsum
  pointwise
  try rfl

theorem fz0_2 (l : Fin 256) : k1_pay9 v2038 z0 (k1_pay6 v2038 z0 k1_pay3 (k1_pay4 a00) (k1_pay5 a10) a20 a01 a11 a21) (k1_pay7 a02) (k1_pay8 a12) a22 (ix2 2 l)
    = zsum z0 (v2038 (ix2 2 l)) (a20 (ix2 0 0)) (a21 (ix2 0 0)) (a22 (ix2 0 0)) := by
  unfold k1_pay9 k1_pay6 k1_pay3 k1_pay4 k1_pay5 k1_pay7 k1_pay8 zsum
  pointwise
  try rfl

theorem fz1_0 (l : Fin 256) : k1_pay19 (k1_pay15 v2038 z0 k1_pay12 (k1_pay13 v2038 z0) (FloatOps.ofBits .f32 0#32) (k1_pay14 a00 a10 a20) a01 a11 a21) (k1_pay16 v2038 z0) (k1_pay17 a02 a12 a22) k1_pay18 (ix2 0 l)
    = zsum z0 (v2038 (ix2 0 l)) (a00 (ix2 0 0)) (a01 (ix2 0 0)) (a02 (ix2 0 0)) := by
  unfold k1_pay19 k1_pay15 k1_pay12 k1_pay13 k1_pay14 k1_pay16 k1_pay17 k1_pay18 zsum
  pointwise
  try rfl

theorem fz1_1 (l : Fin 256) : k1_pay19 (k1_pay15 v2038 z0 k1_pay12 (k1_pay13 v2038 z0) (FloatOps.ofBits .f32 0#32) (k1_pay14 a00 a10 a20) a01 a11 a21) (k1_pay16 v2038 z0) (k1_pay17 a02 a12 a22) k1_pay18 (ix2 1 l)
    = zsum z0 (v2038 (ix2 1 l)) (a10 (ix2 0 0)) (a11 (ix2 0 0)) (a12 (ix2 0 0)) := by
  unfold k1_pay19 k1_pay15 k1_pay12 k1_pay13 k1_pay14 k1_pay16 k1_pay17 k1_pay18 zsum
  pointwise
  try rfl

theorem fz1_2 (l : Fin 256) : k1_pay19 (k1_pay15 v2038 z0 k1_pay12 (k1_pay13 v2038 z0) (FloatOps.ofBits .f32 0#32) (k1_pay14 a00 a10 a20) a01 a11 a21) (k1_pay16 v2038 z0) (k1_pay17 a02 a12 a22) k1_pay18 (ix2 2 l)
    = zsum z0 (v2038 (ix2 2 l)) (a20 (ix2 0 0)) (a21 (ix2 0 0)) (a22 (ix2 0 0)) := by
  unfold k1_pay19 k1_pay15 k1_pay12 k1_pay13 k1_pay14 k1_pay16 k1_pay17 k1_pay18 zsum
  pointwise
  try rfl

theorem fz2_0 (l : Fin 256) : k1_pay28 v2038 z0 (k1_pay24 v2038 z0 a00 a10 a20) (k1_pay25 a01) (k1_pay26 a11) (k1_pay27 a21) a02 a12 a22 (ix2 0 l)
    = zsum z0 (v2038 (ix2 0 l)) (a00 (ix2 0 0)) (a01 (ix2 0 0)) (a02 (ix2 0 0)) := by
  unfold k1_pay28 k1_pay24 k1_pay25 k1_pay26 k1_pay27 zsum
  pointwise
  try rfl

theorem fz2_1 (l : Fin 256) : k1_pay28 v2038 z0 (k1_pay24 v2038 z0 a00 a10 a20) (k1_pay25 a01) (k1_pay26 a11) (k1_pay27 a21) a02 a12 a22 (ix2 1 l)
    = zsum z0 (v2038 (ix2 1 l)) (a10 (ix2 0 0)) (a11 (ix2 0 0)) (a12 (ix2 0 0)) := by
  unfold k1_pay28 k1_pay24 k1_pay25 k1_pay26 k1_pay27 zsum
  pointwise
  try rfl

theorem fz2_2 (l : Fin 256) : k1_pay28 v2038 z0 (k1_pay24 v2038 z0 a00 a10 a20) (k1_pay25 a01) (k1_pay26 a11) (k1_pay27 a21) a02 a12 a22 (ix2 2 l)
    = zsum z0 (v2038 (ix2 2 l)) (a20 (ix2 0 0)) (a21 (ix2 0 0)) (a22 (ix2 0 0)) := by
  unfold k1_pay28 k1_pay24 k1_pay25 k1_pay26 k1_pay27 zsum
  pointwise
  try rfl

variable (fr : FVec F S1x256 .f32)

theorem fupd0 (w4 : FVec F S3x256 .f32) (c5 c6 : F .f32) (ld : Vec F S16x256 .f32) (p : Fin 16) (l : Fin 256) :
    k1_pay11 v2040 fr (k1_pay9 v2038 z0 w4 c5 c6 a22) (Scalar.subi (Scalar.addi rb 0#32) (floor8 (Scalar.addi rb 0#32)))
      (k1_pay10 v2038 v2040 rb z0 w4 c5 c6 a22) ld (ix2 p l)
    = FloatOps.addf (ld (ix2 p l)) (FloatOps.mulf (jsum (Scalar.addi rb 0#32) (v2040 (ix2 p l)) (k1_pay9 v2038 z0 w4 c5 c6 a22 (ix2 0 l))
        (k1_pay9 v2038 z0 w4 c5 c6 a22 (ix2 1 l)) (k1_pay9 v2038 z0 w4 c5 c6 a22 (ix2 2 l))) (fr (ix2 0 l))) := by
  unfold k1_pay11 k1_pay10 jsum
  pointwise
  try rfl

theorem fupd1 (A : FVec F S3x256 .f32) (B : IVec S3x256 1) (C D : FVec F S3x256 .f32) (ld : Vec F S16x256 .f32) (p : Fin 16) (l : Fin 256) :
    k1_pay23 fr (k1_pay20 v2040 rb A B C D) (k1_pay21 v2040 rb) (k1_pay22 A B C D) ld (ix2 p l)
    = FloatOps.addf (ld (ix2 p l)) (FloatOps.mulf (jsum (Scalar.addi rb 202#32) (v2040 (ix2 p l)) (k1_pay19 A B C D (ix2 0 l))
        (k1_pay19 A B C D (ix2 1 l)) (k1_pay19 A B C D (ix2 2 l))) (fr (ix2 0 l))) := by
  unfold k1_pay23 k1_pay20 k1_pay21 k1_pay22 jsum
  pointwise
  try rfl

theorem fupd2 (w : FVec F S3x256 .f32) (ld : Vec F S16x256 .f32) (p : Fin 16) (l : Fin 256) :
    k1_pay29 v2040 fr w (Scalar.addi rb 404#32) (8#32) (Scalar.divsi (Scalar.addi rb 404#32) 8#32)
      (Scalar.subi (Scalar.extui (Scalar.cmpi .sgt (Scalar.addi rb 404#32) 0#32)) (Scalar.extui (Scalar.cmpi .slt (Scalar.addi rb 404#32) 0#32)))
      (1#32) ld (ix2 p l)
    = FloatOps.addf (ld (ix2 p l)) (FloatOps.mulf (jsum (Scalar.addi rb 404#32) (v2040 (ix2 p l)) (w (ix2 0 l)) (w (ix2 1 l)) (w (ix2 2 l)))
        (fr (ix2 0 l))) := by
  unfold k1_pay29 jsum
  pointwise
  try rfl

end Pure

variable (c : Dev nD) (arg2 : Memref sig .tc .vmem S512x256 .f32) (arg3 : Memref sig .tc .vmem S40816x256 .f32)
  (arg4 : Memref sig .tc .vmem S512x32 .f32) (arg5 : Memref sig .tc .vmem S512x8 .i32)
  (v2016 : IVec S3x256 32) (v2030 v2034 : IVec S3x256 1) (v2039 : IVec S8x256 32) (v2040 : IVec S16x256 32)
  (ft : Buf (Elt F) (arg2.view.loc (c : Thread nD τ)))
  (fw : Buf (Elt F) (arg4.view.loc (c : Thread nD τ))) (fi : Buf (Elt F) (arg5.view.loc (c : Thread nD τ)))
  (k : Fin k1_t1_loop.trips)

/-- The weight a trip reads at lane `q`. -/
abbrev wAtF (q : Fin 32) : F .f32 := arg4.view.read (Elt F) fw (ix2 ⟨k.val, k.isLt⟩ q)

/-- The middle box's rows. -/
abbrev midF : FVec F S3x256 .f32 :=
  k1_pay19 (featsTrip.sl.r_11 c arg4 arg5 v2016 v2030 v2034 fw fi k) (featsTrip.sl.r_12 c arg5 v2016 v2030 v2034 fi k)
    (featsTrip.sl.r_13 c arg4 fw k) k1_pay18

theorem frow0_0 (l : Fin 256) : featsTrip.sl.r_7 c arg4 arg5 v2016 v2030 v2034 fw fi k (ix2 0 l)
    = zsum (featsTrip.sl.v2047 c arg5 fi k) (k1_pay1 v2016 v2030 v2034 (ix2 0 l)) (wAtF c arg4 fw k 0) (wAtF c arg4 fw k 1) (wAtF c arg4 fw k 2) := by
  have h0 := wreadF c arg4 fw k 0 (k1_off4 k) (k1_off4_inb k) rfl
  have h1 := wreadF c arg4 fw k 1 (k1_off7 k) (k1_off7_inb k) rfl
  have h2 := wreadF c arg4 fw k 2 (k1_off10 k) (k1_off10_inb k) rfl
  dsimp only [wAtF]
  rw [← h0, ← h1, ← h2]
  exact fz0_0 (k1_pay1 v2016 v2030 v2034) (featsTrip.sl.v2047 c arg5 fi k) (View.readAt (Elt F) arg4.view (Rect.unit (s := S512x32) (k1_off4 k) S1x1.size (k1_off4_inb k)).toLoadRect fw) (View.readAt (Elt F) arg4.view (Rect.unit (s := S512x32) (k1_off7 k) S1x1.size (k1_off7_inb k)).toLoadRect fw) (View.readAt (Elt F) arg4.view (Rect.unit (s := S512x32) (k1_off10 k) S1x1.size (k1_off10_inb k)).toLoadRect fw) (View.readAt (Elt F) arg4.view (Rect.unit (s := S512x32) (k1_off5 k) S1x1.size (k1_off5_inb k)).toLoadRect fw) (View.readAt (Elt F) arg4.view (Rect.unit (s := S512x32) (k1_off8 k) S1x1.size (k1_off8_inb k)).toLoadRect fw) (View.readAt (Elt F) arg4.view (Rect.unit (s := S512x32) (k1_off11 k) S1x1.size (k1_off11_inb k)).toLoadRect fw) (View.readAt (Elt F) arg4.view (Rect.unit (s := S512x32) (k1_off6 k) S1x1.size (k1_off6_inb k)).toLoadRect fw) (View.readAt (Elt F) arg4.view (Rect.unit (s := S512x32) (k1_off9 k) S1x1.size (k1_off9_inb k)).toLoadRect fw) (View.readAt (Elt F) arg4.view (Rect.unit (s := S512x32) (k1_off12 k) S1x1.size (k1_off12_inb k)).toLoadRect fw) l

theorem frow0_1 (l : Fin 256) : featsTrip.sl.r_7 c arg4 arg5 v2016 v2030 v2034 fw fi k (ix2 1 l)
    = zsum (featsTrip.sl.v2047 c arg5 fi k) (k1_pay1 v2016 v2030 v2034 (ix2 1 l)) (wAtF c arg4 fw k 3) (wAtF c arg4 fw k 4) (wAtF c arg4 fw k 5) := by
  have h0 := wreadF c arg4 fw k 3 (k1_off5 k) (k1_off5_inb k) rfl
  have h1 := wreadF c arg4 fw k 4 (k1_off8 k) (k1_off8_inb k) rfl
  have h2 := wreadF c arg4 fw k 5 (k1_off11 k) (k1_off11_inb k) rfl
  dsimp only [wAtF]
  rw [← h0, ← h1, ← h2]
  exact fz0_1 (k1_pay1 v2016 v2030 v2034) (featsTrip.sl.v2047 c arg5 fi k) (View.readAt (Elt F) arg4.view (Rect.unit (s := S512x32) (k1_off4 k) S1x1.size (k1_off4_inb k)).toLoadRect fw) (View.readAt (Elt F) arg4.view (Rect.unit (s := S512x32) (k1_off7 k) S1x1.size (k1_off7_inb k)).toLoadRect fw) (View.readAt (Elt F) arg4.view (Rect.unit (s := S512x32) (k1_off10 k) S1x1.size (k1_off10_inb k)).toLoadRect fw) (View.readAt (Elt F) arg4.view (Rect.unit (s := S512x32) (k1_off5 k) S1x1.size (k1_off5_inb k)).toLoadRect fw) (View.readAt (Elt F) arg4.view (Rect.unit (s := S512x32) (k1_off8 k) S1x1.size (k1_off8_inb k)).toLoadRect fw) (View.readAt (Elt F) arg4.view (Rect.unit (s := S512x32) (k1_off11 k) S1x1.size (k1_off11_inb k)).toLoadRect fw) (View.readAt (Elt F) arg4.view (Rect.unit (s := S512x32) (k1_off6 k) S1x1.size (k1_off6_inb k)).toLoadRect fw) (View.readAt (Elt F) arg4.view (Rect.unit (s := S512x32) (k1_off9 k) S1x1.size (k1_off9_inb k)).toLoadRect fw) (View.readAt (Elt F) arg4.view (Rect.unit (s := S512x32) (k1_off12 k) S1x1.size (k1_off12_inb k)).toLoadRect fw) l

theorem frow0_2 (l : Fin 256) : featsTrip.sl.r_7 c arg4 arg5 v2016 v2030 v2034 fw fi k (ix2 2 l)
    = zsum (featsTrip.sl.v2047 c arg5 fi k) (k1_pay1 v2016 v2030 v2034 (ix2 2 l)) (wAtF c arg4 fw k 6) (wAtF c arg4 fw k 7) (wAtF c arg4 fw k 8) := by
  have h0 := wreadF c arg4 fw k 6 (k1_off6 k) (k1_off6_inb k) rfl
  have h1 := wreadF c arg4 fw k 7 (k1_off9 k) (k1_off9_inb k) rfl
  have h2 := wreadF c arg4 fw k 8 (k1_off12 k) (k1_off12_inb k) rfl
  dsimp only [wAtF]
  rw [← h0, ← h1, ← h2]
  exact fz0_2 (k1_pay1 v2016 v2030 v2034) (featsTrip.sl.v2047 c arg5 fi k) (View.readAt (Elt F) arg4.view (Rect.unit (s := S512x32) (k1_off4 k) S1x1.size (k1_off4_inb k)).toLoadRect fw) (View.readAt (Elt F) arg4.view (Rect.unit (s := S512x32) (k1_off7 k) S1x1.size (k1_off7_inb k)).toLoadRect fw) (View.readAt (Elt F) arg4.view (Rect.unit (s := S512x32) (k1_off10 k) S1x1.size (k1_off10_inb k)).toLoadRect fw) (View.readAt (Elt F) arg4.view (Rect.unit (s := S512x32) (k1_off5 k) S1x1.size (k1_off5_inb k)).toLoadRect fw) (View.readAt (Elt F) arg4.view (Rect.unit (s := S512x32) (k1_off8 k) S1x1.size (k1_off8_inb k)).toLoadRect fw) (View.readAt (Elt F) arg4.view (Rect.unit (s := S512x32) (k1_off11 k) S1x1.size (k1_off11_inb k)).toLoadRect fw) (View.readAt (Elt F) arg4.view (Rect.unit (s := S512x32) (k1_off6 k) S1x1.size (k1_off6_inb k)).toLoadRect fw) (View.readAt (Elt F) arg4.view (Rect.unit (s := S512x32) (k1_off9 k) S1x1.size (k1_off9_inb k)).toLoadRect fw) (View.readAt (Elt F) arg4.view (Rect.unit (s := S512x32) (k1_off12 k) S1x1.size (k1_off12_inb k)).toLoadRect fw) l

theorem fbox0_at (ld : Vec F S16x256 .f32) (p : Fin 16) (l : Fin 256) :
    k1_pay11 v2040 (featsTrip.sl.r c arg2 v2039 ft k) (featsTrip.sl.r_7 c arg4 arg5 v2016 v2030 v2034 fw fi k) (featsTrip.sl.v2165 c arg5 fi k) (featsTrip.sl.r_8 c arg4 arg5 v2016 v2030 v2034 v2040 fw fi k) ld (ix2 p l)
      = FloatOps.addf (ld (ix2 p l)) (FloatOps.mulf (jsum (Scalar.addi (featsRow c arg5 fi k) 0#32) (v2040 (ix2 p l))
          (featsTrip.sl.r_7 c arg4 arg5 v2016 v2030 v2034 fw fi k (ix2 0 l)) (featsTrip.sl.r_7 c arg4 arg5 v2016 v2030 v2034 fw fi k (ix2 1 l)) (featsTrip.sl.r_7 c arg4 arg5 v2016 v2030 v2034 fw fi k (ix2 2 l))) (featsTrip.sl.r c arg2 v2039 ft k (ix2 0 l))) := by
  unfold featsTrip.sl.r_7 featsTrip.sl.r_8
  exact fupd0 (k1_pay1 v2016 v2030 v2034) v2040 (featsTrip.sl.v2047 c arg5 fi k) (featsRow c arg5 fi k) (View.readAt (Elt F) arg4.view (Rect.unit (s := S512x32) (k1_off12 k) S1x1.size (k1_off12_inb k)).toLoadRect fw) (featsTrip.sl.r c arg2 v2039 ft k) (featsTrip.sl.r_3 c arg4 arg5 v2016 v2030 v2034 fw fi k) (featsTrip.sl.r_4 c arg4 fw k) (featsTrip.sl.r_5 c arg4 fw k) ld p l

theorem frow1_0 (l : Fin 256) : midF c arg4 arg5 v2016 v2030 v2034 fw fi k (ix2 0 l)
    = zsum (featsTrip.sl.v2047 c arg5 fi k) (k1_pay1 v2016 v2030 v2034 (ix2 0 l)) (wAtF c arg4 fw k 9) (wAtF c arg4 fw k 10) (wAtF c arg4 fw k 11) := by
  have h0 := wreadF c arg4 fw k 9 (k1_off14 k) (k1_off14_inb k) rfl
  have h1 := wreadF c arg4 fw k 10 (k1_off17 k) (k1_off17_inb k) rfl
  have h2 := wreadF c arg4 fw k 11 (k1_off20 k) (k1_off20_inb k) rfl
  dsimp only [wAtF]
  rw [← h0, ← h1, ← h2]
  exact fz1_0 (k1_pay1 v2016 v2030 v2034) (featsTrip.sl.v2047 c arg5 fi k) (View.readAt (Elt F) arg4.view (Rect.unit (s := S512x32) (k1_off14 k) S1x1.size (k1_off14_inb k)).toLoadRect fw) (View.readAt (Elt F) arg4.view (Rect.unit (s := S512x32) (k1_off17 k) S1x1.size (k1_off17_inb k)).toLoadRect fw) (View.readAt (Elt F) arg4.view (Rect.unit (s := S512x32) (k1_off20 k) S1x1.size (k1_off20_inb k)).toLoadRect fw) (View.readAt (Elt F) arg4.view (Rect.unit (s := S512x32) (k1_off15 k) S1x1.size (k1_off15_inb k)).toLoadRect fw) (View.readAt (Elt F) arg4.view (Rect.unit (s := S512x32) (k1_off18 k) S1x1.size (k1_off18_inb k)).toLoadRect fw) (View.readAt (Elt F) arg4.view (Rect.unit (s := S512x32) (k1_off21 k) S1x1.size (k1_off21_inb k)).toLoadRect fw) (View.readAt (Elt F) arg4.view (Rect.unit (s := S512x32) (k1_off16 k) S1x1.size (k1_off16_inb k)).toLoadRect fw) (View.readAt (Elt F) arg4.view (Rect.unit (s := S512x32) (k1_off19 k) S1x1.size (k1_off19_inb k)).toLoadRect fw) (View.readAt (Elt F) arg4.view (Rect.unit (s := S512x32) (k1_off22 k) S1x1.size (k1_off22_inb k)).toLoadRect fw) l

theorem frow1_1 (l : Fin 256) : midF c arg4 arg5 v2016 v2030 v2034 fw fi k (ix2 1 l)
    = zsum (featsTrip.sl.v2047 c arg5 fi k) (k1_pay1 v2016 v2030 v2034 (ix2 1 l)) (wAtF c arg4 fw k 12) (wAtF c arg4 fw k 13) (wAtF c arg4 fw k 14) := by
  have h0 := wreadF c arg4 fw k 12 (k1_off15 k) (k1_off15_inb k) rfl
  have h1 := wreadF c arg4 fw k 13 (k1_off18 k) (k1_off18_inb k) rfl
  have h2 := wreadF c arg4 fw k 14 (k1_off21 k) (k1_off21_inb k) rfl
  dsimp only [wAtF]
  rw [← h0, ← h1, ← h2]
  exact fz1_1 (k1_pay1 v2016 v2030 v2034) (featsTrip.sl.v2047 c arg5 fi k) (View.readAt (Elt F) arg4.view (Rect.unit (s := S512x32) (k1_off14 k) S1x1.size (k1_off14_inb k)).toLoadRect fw) (View.readAt (Elt F) arg4.view (Rect.unit (s := S512x32) (k1_off17 k) S1x1.size (k1_off17_inb k)).toLoadRect fw) (View.readAt (Elt F) arg4.view (Rect.unit (s := S512x32) (k1_off20 k) S1x1.size (k1_off20_inb k)).toLoadRect fw) (View.readAt (Elt F) arg4.view (Rect.unit (s := S512x32) (k1_off15 k) S1x1.size (k1_off15_inb k)).toLoadRect fw) (View.readAt (Elt F) arg4.view (Rect.unit (s := S512x32) (k1_off18 k) S1x1.size (k1_off18_inb k)).toLoadRect fw) (View.readAt (Elt F) arg4.view (Rect.unit (s := S512x32) (k1_off21 k) S1x1.size (k1_off21_inb k)).toLoadRect fw) (View.readAt (Elt F) arg4.view (Rect.unit (s := S512x32) (k1_off16 k) S1x1.size (k1_off16_inb k)).toLoadRect fw) (View.readAt (Elt F) arg4.view (Rect.unit (s := S512x32) (k1_off19 k) S1x1.size (k1_off19_inb k)).toLoadRect fw) (View.readAt (Elt F) arg4.view (Rect.unit (s := S512x32) (k1_off22 k) S1x1.size (k1_off22_inb k)).toLoadRect fw) l

theorem frow1_2 (l : Fin 256) : midF c arg4 arg5 v2016 v2030 v2034 fw fi k (ix2 2 l)
    = zsum (featsTrip.sl.v2047 c arg5 fi k) (k1_pay1 v2016 v2030 v2034 (ix2 2 l)) (wAtF c arg4 fw k 15) (wAtF c arg4 fw k 16) (wAtF c arg4 fw k 17) := by
  have h0 := wreadF c arg4 fw k 15 (k1_off16 k) (k1_off16_inb k) rfl
  have h1 := wreadF c arg4 fw k 16 (k1_off19 k) (k1_off19_inb k) rfl
  have h2 := wreadF c arg4 fw k 17 (k1_off22 k) (k1_off22_inb k) rfl
  dsimp only [wAtF]
  rw [← h0, ← h1, ← h2]
  exact fz1_2 (k1_pay1 v2016 v2030 v2034) (featsTrip.sl.v2047 c arg5 fi k) (View.readAt (Elt F) arg4.view (Rect.unit (s := S512x32) (k1_off14 k) S1x1.size (k1_off14_inb k)).toLoadRect fw) (View.readAt (Elt F) arg4.view (Rect.unit (s := S512x32) (k1_off17 k) S1x1.size (k1_off17_inb k)).toLoadRect fw) (View.readAt (Elt F) arg4.view (Rect.unit (s := S512x32) (k1_off20 k) S1x1.size (k1_off20_inb k)).toLoadRect fw) (View.readAt (Elt F) arg4.view (Rect.unit (s := S512x32) (k1_off15 k) S1x1.size (k1_off15_inb k)).toLoadRect fw) (View.readAt (Elt F) arg4.view (Rect.unit (s := S512x32) (k1_off18 k) S1x1.size (k1_off18_inb k)).toLoadRect fw) (View.readAt (Elt F) arg4.view (Rect.unit (s := S512x32) (k1_off21 k) S1x1.size (k1_off21_inb k)).toLoadRect fw) (View.readAt (Elt F) arg4.view (Rect.unit (s := S512x32) (k1_off16 k) S1x1.size (k1_off16_inb k)).toLoadRect fw) (View.readAt (Elt F) arg4.view (Rect.unit (s := S512x32) (k1_off19 k) S1x1.size (k1_off19_inb k)).toLoadRect fw) (View.readAt (Elt F) arg4.view (Rect.unit (s := S512x32) (k1_off22 k) S1x1.size (k1_off22_inb k)).toLoadRect fw) l

theorem fbox1_at (ld : Vec F S16x256 .f32) (p : Fin 16) (l : Fin 256) :
    k1_pay23 (featsTrip.sl.r c arg2 v2039 ft k) (featsTrip.sl.r_14 c arg4 arg5 v2016 v2030 v2034 v2040 fw fi k) (featsTrip.sl.r_15 c arg5 v2040 fi k) (featsTrip.sl.r_16 c arg4 arg5 v2016 v2030 v2034 fw fi k) ld (ix2 p l)
      = FloatOps.addf (ld (ix2 p l)) (FloatOps.mulf (jsum (Scalar.addi (featsRow c arg5 fi k) 202#32) (v2040 (ix2 p l))
          (midF c arg4 arg5 v2016 v2030 v2034 fw fi k (ix2 0 l)) (midF c arg4 arg5 v2016 v2030 v2034 fw fi k (ix2 1 l)) (midF c arg4 arg5 v2016 v2030 v2034 fw fi k (ix2 2 l))) (featsTrip.sl.r c arg2 v2039 ft k (ix2 0 l))) := by
  exact fupd1 v2040 (featsRow c arg5 fi k) (featsTrip.sl.r c arg2 v2039 ft k) _ _ _ _ ld p l

theorem frow2_0 (l : Fin 256) : featsTrip.sl.r_21 c arg4 arg5 v2016 v2030 v2034 fw fi k (ix2 0 l)
    = zsum (featsTrip.sl.v2047 c arg5 fi k) (k1_pay1 v2016 v2030 v2034 (ix2 0 l)) (wAtF c arg4 fw k 18) (wAtF c arg4 fw k 19) (wAtF c arg4 fw k 20) := by
  have h0 := wreadF c arg4 fw k 18 (k1_off23 k) (k1_off23_inb k) rfl
  have h1 := wreadF c arg4 fw k 19 (k1_off26 k) (k1_off26_inb k) rfl
  have h2 := wreadF c arg4 fw k 20 (k1_off29 k) (k1_off29_inb k) rfl
  dsimp only [wAtF]
  rw [← h0, ← h1, ← h2]
  exact fz2_0 (k1_pay1 v2016 v2030 v2034) (featsTrip.sl.v2047 c arg5 fi k) (View.readAt (Elt F) arg4.view (Rect.unit (s := S512x32) (k1_off23 k) S1x1.size (k1_off23_inb k)).toLoadRect fw) (View.readAt (Elt F) arg4.view (Rect.unit (s := S512x32) (k1_off26 k) S1x1.size (k1_off26_inb k)).toLoadRect fw) (View.readAt (Elt F) arg4.view (Rect.unit (s := S512x32) (k1_off29 k) S1x1.size (k1_off29_inb k)).toLoadRect fw) (View.readAt (Elt F) arg4.view (Rect.unit (s := S512x32) (k1_off24 k) S1x1.size (k1_off24_inb k)).toLoadRect fw) (View.readAt (Elt F) arg4.view (Rect.unit (s := S512x32) (k1_off27 k) S1x1.size (k1_off27_inb k)).toLoadRect fw) (View.readAt (Elt F) arg4.view (Rect.unit (s := S512x32) (k1_off30 k) S1x1.size (k1_off30_inb k)).toLoadRect fw) (View.readAt (Elt F) arg4.view (Rect.unit (s := S512x32) (k1_off25 k) S1x1.size (k1_off25_inb k)).toLoadRect fw) (View.readAt (Elt F) arg4.view (Rect.unit (s := S512x32) (k1_off28 k) S1x1.size (k1_off28_inb k)).toLoadRect fw) (View.readAt (Elt F) arg4.view (Rect.unit (s := S512x32) (k1_off31 k) S1x1.size (k1_off31_inb k)).toLoadRect fw) l

theorem frow2_1 (l : Fin 256) : featsTrip.sl.r_21 c arg4 arg5 v2016 v2030 v2034 fw fi k (ix2 1 l)
    = zsum (featsTrip.sl.v2047 c arg5 fi k) (k1_pay1 v2016 v2030 v2034 (ix2 1 l)) (wAtF c arg4 fw k 21) (wAtF c arg4 fw k 22) (wAtF c arg4 fw k 23) := by
  have h0 := wreadF c arg4 fw k 21 (k1_off24 k) (k1_off24_inb k) rfl
  have h1 := wreadF c arg4 fw k 22 (k1_off27 k) (k1_off27_inb k) rfl
  have h2 := wreadF c arg4 fw k 23 (k1_off30 k) (k1_off30_inb k) rfl
  dsimp only [wAtF]
  rw [← h0, ← h1, ← h2]
  exact fz2_1 (k1_pay1 v2016 v2030 v2034) (featsTrip.sl.v2047 c arg5 fi k) (View.readAt (Elt F) arg4.view (Rect.unit (s := S512x32) (k1_off23 k) S1x1.size (k1_off23_inb k)).toLoadRect fw) (View.readAt (Elt F) arg4.view (Rect.unit (s := S512x32) (k1_off26 k) S1x1.size (k1_off26_inb k)).toLoadRect fw) (View.readAt (Elt F) arg4.view (Rect.unit (s := S512x32) (k1_off29 k) S1x1.size (k1_off29_inb k)).toLoadRect fw) (View.readAt (Elt F) arg4.view (Rect.unit (s := S512x32) (k1_off24 k) S1x1.size (k1_off24_inb k)).toLoadRect fw) (View.readAt (Elt F) arg4.view (Rect.unit (s := S512x32) (k1_off27 k) S1x1.size (k1_off27_inb k)).toLoadRect fw) (View.readAt (Elt F) arg4.view (Rect.unit (s := S512x32) (k1_off30 k) S1x1.size (k1_off30_inb k)).toLoadRect fw) (View.readAt (Elt F) arg4.view (Rect.unit (s := S512x32) (k1_off25 k) S1x1.size (k1_off25_inb k)).toLoadRect fw) (View.readAt (Elt F) arg4.view (Rect.unit (s := S512x32) (k1_off28 k) S1x1.size (k1_off28_inb k)).toLoadRect fw) (View.readAt (Elt F) arg4.view (Rect.unit (s := S512x32) (k1_off31 k) S1x1.size (k1_off31_inb k)).toLoadRect fw) l

theorem frow2_2 (l : Fin 256) : featsTrip.sl.r_21 c arg4 arg5 v2016 v2030 v2034 fw fi k (ix2 2 l)
    = zsum (featsTrip.sl.v2047 c arg5 fi k) (k1_pay1 v2016 v2030 v2034 (ix2 2 l)) (wAtF c arg4 fw k 24) (wAtF c arg4 fw k 25) (wAtF c arg4 fw k 26) := by
  have h0 := wreadF c arg4 fw k 24 (k1_off25 k) (k1_off25_inb k) rfl
  have h1 := wreadF c arg4 fw k 25 (k1_off28 k) (k1_off28_inb k) rfl
  have h2 := wreadF c arg4 fw k 26 (k1_off31 k) (k1_off31_inb k) rfl
  dsimp only [wAtF]
  rw [← h0, ← h1, ← h2]
  exact fz2_2 (k1_pay1 v2016 v2030 v2034) (featsTrip.sl.v2047 c arg5 fi k) (View.readAt (Elt F) arg4.view (Rect.unit (s := S512x32) (k1_off23 k) S1x1.size (k1_off23_inb k)).toLoadRect fw) (View.readAt (Elt F) arg4.view (Rect.unit (s := S512x32) (k1_off26 k) S1x1.size (k1_off26_inb k)).toLoadRect fw) (View.readAt (Elt F) arg4.view (Rect.unit (s := S512x32) (k1_off29 k) S1x1.size (k1_off29_inb k)).toLoadRect fw) (View.readAt (Elt F) arg4.view (Rect.unit (s := S512x32) (k1_off24 k) S1x1.size (k1_off24_inb k)).toLoadRect fw) (View.readAt (Elt F) arg4.view (Rect.unit (s := S512x32) (k1_off27 k) S1x1.size (k1_off27_inb k)).toLoadRect fw) (View.readAt (Elt F) arg4.view (Rect.unit (s := S512x32) (k1_off30 k) S1x1.size (k1_off30_inb k)).toLoadRect fw) (View.readAt (Elt F) arg4.view (Rect.unit (s := S512x32) (k1_off25 k) S1x1.size (k1_off25_inb k)).toLoadRect fw) (View.readAt (Elt F) arg4.view (Rect.unit (s := S512x32) (k1_off28 k) S1x1.size (k1_off28_inb k)).toLoadRect fw) (View.readAt (Elt F) arg4.view (Rect.unit (s := S512x32) (k1_off31 k) S1x1.size (k1_off31_inb k)).toLoadRect fw) l

theorem fbox2_at (ld : Vec F S16x256 .f32) (p : Fin 16) (l : Fin 256) :
    k1_pay29 v2040 (featsTrip.sl.r c arg2 v2039 ft k) (featsTrip.sl.r_21 c arg4 arg5 v2016 v2030 v2034 fw fi k) (featsTrip.sl.v2398 c arg5 fi k) (8#32) (featsTrip.sl.v2399 c arg5 fi k) (featsTrip.sl.v2404 c arg5 fi k) (1#32) ld (ix2 p l)
      = FloatOps.addf (ld (ix2 p l)) (FloatOps.mulf (jsum (Scalar.addi (featsRow c arg5 fi k) 404#32) (v2040 (ix2 p l))
          (featsTrip.sl.r_21 c arg4 arg5 v2016 v2030 v2034 fw fi k (ix2 0 l)) (featsTrip.sl.r_21 c arg4 arg5 v2016 v2030 v2034 fw fi k (ix2 1 l)) (featsTrip.sl.r_21 c arg4 arg5 v2016 v2030 v2034 fw fi k (ix2 2 l))) (featsTrip.sl.r c arg2 v2039 ft k (ix2 0 l))) := by
  exact fupd2 v2040 (featsRow c arg5 fi k) (featsTrip.sl.r c arg2 v2039 ft k) _ ld p l

end Cert.KernelIdeal.Splat
-- ==== Proof.FeatsSum.lean ====
/- The trips of the feature kernel's loop at the extended reals: each adds its Gaussian's boxes, times its features. -/
module

public import proofs.«01_k».proof.Proof.FeatsTrip
public import proofs.«01_k».proof.Proof.DensSum
public import Idealize.ShloMosaic.PureOps.Ideal.Laws

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Cert.Splat

/-- What a Gaussian at row `n` and column word `z0`, of feature `f`, adds at row `r`, column `z`. -/
def spreadF (w : Fin 32 → EReal) (f : EReal) (n : ℕ) (z0 : BitVec 32) (r z : ℕ) : EReal :=
  ∑ e : Fin 3, ∑ j : Fin 3, if r = n + 202 * e.val + j.val then
    zhits z0 z (fun d => w ⟨9 * e.val + 3 * j.val + d.val, by omega⟩) * f else 0

/-- One row of eight, picked out by a sum. -/
theorem pick8 (a : ℕ) (ha : a < 8) (v : Fin 8 → EReal) :
    (∑ i : Fin 8, if i.val = a then v i else 0) = v ⟨a, ha⟩ := by
  rw [Finset.sum_eq_single (⟨a, ha⟩ : Fin 8)]
  · simp
  · intro b _ hb
    rw [if_neg (fun h => hb (Fin.ext h))]
  · intro h; exact absurd (Finset.mem_univ _) h

/-- The features' row of a trip's Gaussian, from the eight rows read. -/
theorem fr_pure (v2039 : IVec S8x256 32) (h39 : ∀ (i : Fin 8) (l : Fin 256), v2039 (ix2 i l) = BitVec.ofNat 32 i.val)
    (k : Fin k1_t1_loop.trips) (v : Vec Ideal S8x256 .f32) (l : Fin 256) :
    k1_pay2 (F := Ideal) v2039 0#32 1#32 k v (ix2 0 l) = v (ix2 (⟨k.val % 8, Nat.mod_lt _ (by omega)⟩ : Fin 8) l) := by
  have hk : k.val < 512 := k.isLt
  have hiv : Affine.IsInt (Scf.iv 0#32 1#32 k.val) (k.val : ℤ) :=
    Affine.iv (Affine.ofNat (e := 0) 0 (by omega)) (Affine.ofNat (e := 1) 1 (by omega)) k.val (by omega)
  have hs : Affine.IsInt (Scalar.subi (Scf.iv 0#32 1#32 k.val) (floor8 (Scf.iv 0#32 1#32 k.val))) ((k.val % 8 : ℕ) : ℤ) := by
    exact Affine.subi (e := ((k.val % 8 : ℕ) : ℤ)) hiv (floor8_isInt hiv (by omega)) (by omega)
  have e : k1_pay2 (F := Ideal) v2039 0#32 1#32 k v (ix2 0 l)
      = ∑ i : Fin 8, Scalar.select (IntOp.cmpi .eq (v2039 (ix2 i l)) (Scalar.subi (Scf.iv 0#32 1#32 k.val) (floor8 (Scf.iv 0#32 1#32 k.val))))
          (v (ix2 i l)) (FloatOps.ofBits (F := Ideal) .f32 0#32) := by
    unfold k1_pay2
    pointwise
    rfl
  rw [e, ← pick8 (k.val % 8) (Nat.mod_lt _ (by omega)) (fun i => v (ix2 i l))]
  refine Finset.sum_congr rfl fun i _ => ?_
  rw [select_eq, h39, zero_f32]
  refine if_congr ?_ rfl rfl
  rw [word_eq_iff (Affine.ofNat (e := (i.val : ℤ)) i.val (by omega)) hs]
  omega

section Trip

variable (c : Dev nD) (arg3 : Memref sig .tc .vmem S40816x256 .f32)

/-- A box added to the accumulator, read at a row and a column. -/
theorem fbox_read (f : Buf (Elt Ideal) (arg3.view.loc (c : Thread nD τ))) (L : List (View.Piece (Elt Ideal) S40816x256 .f32))
    (rs : BitVec 32) (n : ℕ) (h : Affine.IsInt rs n) (hn : n < 2 ^ 19) (off : Fin 2 → ℕ) (hoff : off = ![n / 8 * 8, 0])
    (inb : ∀ a, off a + S16x256.size a ≤ S40816x256.size a) (w : FVec Ideal S16x256 .f32) (b0 b1 b2 fr : Fin 256 → EReal)
    (hw : ∀ (p : Fin 16) (z : Fin 256), w (ix2 p z) = FloatOps.addf (View.readAt (Elt Ideal) arg3.view (Rect.unit (s := S40816x256) off S16x256.size inb).toLoadRect
        (arg3.view.writes (Elt Ideal) f L) (ix2 p z)) (FloatOps.mulf (jsum rs (BitVec.ofNat 32 p.val) (b0 z) (b1 z) (b2 z)) (fr z)))
    (r : Fin 40816) (z : Fin 256) :
    arg3.view.read (Elt Ideal) (arg3.view.writes (Elt Ideal) f (⟨Rect.unit (s := S40816x256) off S16x256.size inb, w⟩ :: L)) (ix2 r z)
      = arg3.view.read (Elt Ideal) (arg3.view.writes (Elt Ideal) f L) (ix2 r z)
        + ((if r.val = n then b0 z * fr z else 0) + (if r.val = n + 1 then b1 z * fr z else 0) + (if r.val = n + 2 then b2 z * fr z else 0)) := by
  subst hoff
  rw [View.read_writes_cons_rows (o := n / 8 * 8) (W := 16) arg3.view f inb w L (ix2 r z) rfl rfl rfl]
  split
  · rename_i hr
    have hr1 : n / 8 * 8 ≤ r.val := hr.1
    have hr2 : r.val < n / 8 * 8 + 16 := hr.2
    have hi : (Rect.unitLocal (s := S40816x256) (off := ![n / 8 * 8, 0]) (size := S16x256.size) (ix2 r z) (Rect.unit_rows_mem (ix2 r z) rfl rfl hr))
        = ix2 (⟨r.val - n / 8 * 8, by omega⟩ : Fin 16) z := by
      funext a; apply Fin.ext; fin_cases a <;> rfl
    have e := (congrArg w hi).trans (hw ⟨r.val - n / 8 * 8, by omega⟩ z)
    refine e.trans ?_
    rw [View.readAt_apply, jsum_eq h hn (r.val - n / 8 * 8) (by omega), Ideal.addf_def, Ideal.mulf_def]
    have hidx : (Rect.unit (s := S40816x256) ![n / 8 * 8, 0] S16x256.size inb).toLoadRect.idx (ix2 ⟨r.val - n / 8 * 8, by omega⟩ z) = ix2 r z := by
      funext a; apply Fin.ext; fin_cases a
      · show n / 8 * 8 + 1 * (r.val - n / 8 * 8) = r.val
        omega
      · show 0 + 1 * z.val = z.val
        omega
    refine congrArg₂ (· + ·) (congrArg (View.read (Elt Ideal) arg3.view (arg3.view.writes (Elt Ideal) f L)) hidx) ?_
    have e0 : n / 8 * 8 + (r.val - n / 8 * 8) = r.val := by omega
    simp only [e0]
    by_cases h0 : r.val = n
    · rw [if_pos h0, if_neg (by omega), if_neg (by omega), if_pos h0, if_neg (by omega), if_neg (by omega)]
      simp only [add_zero]
    · by_cases h1 : r.val = n + 1
      · rw [if_neg h0, if_pos h1, if_neg (by omega), if_neg h0, if_pos h1, if_neg (by omega)]
        simp only [add_zero, zero_add]
      · by_cases h2 : r.val = n + 2
        · rw [if_neg h0, if_neg h1, if_pos h2, if_neg h0, if_neg h1, if_pos h2]
          simp only [zero_add]
        · rw [if_neg h0, if_neg h1, if_neg h2, if_neg h0, if_neg h1, if_neg h2]
          simp only [add_zero, zero_mul]
  · rename_i hr
    have hr' : ¬ (n / 8 * 8 ≤ r.val ∧ r.val < n / 8 * 8 + 16) := hr
    rw [if_neg (by omega), if_neg (by omega), if_neg (by omega)]
    simp

variable (i : grid1.Coords) (arg1 : Memref sig .tc .vmem S1x8x512 .f32) (harg1 : arg1.IsWhole)
  (arg2 : Memref sig .tc .vmem S512x256 .f32) (harg2 : arg2.IsWhole) (harg3 : arg3.IsWhole)
  (arg4 : Memref sig .tc .vmem S512x32 .f32) (harg4 : arg4.IsWhole) (arg5 : Memref sig .tc .vmem S512x8 .i32) (harg5 : arg5.IsWhole)
  (v2016 : IVec S3x256 32) (v2030 v2034 : IVec S3x256 1) (v2039 : IVec S8x256 32) (v2040 : IVec S16x256 32)
  (ft : Buf (Elt Ideal) (arg2.view.loc (c : Thread nD τ)))
  (fw : Buf (Elt Ideal) (arg4.view.loc (c : Thread nD τ))) (fi : Buf (Elt Ideal) (arg5.view.loc (c : Thread nD τ)))
  (k : Fin k1_t1_loop.trips)

/-- The features' row of a trip. -/
theorem fr_read (h39 : ∀ (i : Fin 8) (l : Fin 256), v2039 (ix2 i l) = BitVec.ofNat 32 i.val) (l : Fin 256) :
    featsTrip.sl.r (F := Ideal) c arg2 v2039 ft k (ix2 0 l) = arg2.view.read (Elt Ideal) ft (ix2 ⟨k.val, k.isLt⟩ l) := by
  unfold featsTrip.sl.r
  rw [fr_pure _ h39, View.readAt_apply]
  refine congrArg (arg2.view.read (Elt Ideal) ft) (funext fun a => Fin.ext ?_)
  have hk : k.val < 512 := k.isLt
  have hiv : Affine.IsInt (Scf.iv 0#32 1#32 k.val) (k.val : ℤ) :=
    Affine.iv (Affine.ofNat (e := 0) 0 (by omega)) (Affine.ofNat (e := 1) 1 (by omega)) k.val (by omega)
  have h8 : k1_off3 k = ![k.val / 8 * 8, 0] := by
    have h := floor8_toNat hiv (by omega)
    unfold k1_off3
    funext a
    fin_cases a
    · exact h
    · rfl
  fin_cases a
  · show k1_off3 k 0 + 1 * (k.val % 8) = k.val
    rw [h8]
    show k.val / 8 * 8 + 1 * (k.val % 8) = k.val
    omega
  · show k1_off3 k 1 + 1 * l.val = l.val
    rw [h8]
    show 0 + 1 * l.val = l.val
    omega

/-- One trip adds its Gaussian's boxes, times its features. -/
theorem ftrip_read (hrow : k1_chk1 (featsRow c arg5 fi k)) (f : Buf (Elt Ideal) (arg3.view.loc (c : Thread nD τ)))
    (n : ℕ) (hn : Affine.IsInt (featsRow c arg5 fi k) n) (hb : n ≤ 40397)
    (h38 : ∀ (j : Fin 3) (l : Fin 256), k1_pay1 v2016 v2030 v2034 (ix2 j l) = BitVec.ofNat 32 (l.val / 16))
    (h39 : ∀ (i : Fin 8) (l : Fin 256), v2039 (ix2 i l) = BitVec.ofNat 32 i.val)
    (h40 : ∀ (p : Fin 16) (l : Fin 256), v2040 (ix2 p l) = BitVec.ofNat 32 p.val)
    (r : Fin 40816) (l : Fin 256) :
    arg3.view.read (Elt Ideal) (arg3.view.writes (Elt Ideal) f ((featsTrip c i arg1 harg1 arg2 harg2 arg3 harg3 arg4 harg4 arg5 harg5
        v2016 v2030 v2034 v2039 v2040 ft fw fi k hrow).1 f)) (ix2 r l)
      = arg3.view.read (Elt Ideal) f (ix2 r l) + spreadF (fun q => wAtF c arg4 fw k q) (arg2.view.read (Elt Ideal) ft (ix2 ⟨k.val, k.isLt⟩ l)) n
          (featsTrip.sl.v2047 c arg5 fi k) r.val (l.val / 16) := by
  have o0 : k1_off13 (featsTrip.sl.v2044 c arg5 fi k) 0#32 = ![(n + 0) / 8 * 8, 0] := foff_eq hn hb 0 (by omega)
  have o1 : k1_off13 (featsTrip.sl.v2044 c arg5 fi k) 202#32 = ![(n + 202) / 8 * 8, 0] := foff_eq hn hb 202 (by omega)
  have o2 : k1_off13 (featsTrip.sl.v2044 c arg5 fi k) 404#32 = ![(n + 404) / 8 * 8, 0] := foff_eq hn hb 404 (by omega)
  unfold featsTrip
  dsimp only
  unfold featsTrip.sl.r_22
  refine (fbox_read c arg3 f _ _ (n + 404) (add_isInt hn (by omega) 404 (by omega)) (by omega) _ o2 _ _
    (fun z => featsTrip.sl.r_21 c arg4 arg5 v2016 v2030 v2034 fw fi k (ix2 0 z)) (fun z => featsTrip.sl.r_21 c arg4 arg5 v2016 v2030 v2034 fw fi k (ix2 1 z))
    (fun z => featsTrip.sl.r_21 c arg4 arg5 v2016 v2030 v2034 fw fi k (ix2 2 z)) (fun z => featsTrip.sl.r c arg2 v2039 ft k (ix2 0 z))
    (fun p z => (fbox2_at c arg2 arg4 arg5 v2016 v2030 v2034 v2039 v2040 ft fw fi k _ p z).trans (by rw [h40])) r l).trans ?_
  unfold featsTrip.sl.HA_2
  refine (congrArg (· + _) (fbox_read c arg3 f _ _ (n + 202) (add_isInt hn (by omega) 202 (by omega)) (by omega) _ o1 _ _
    (fun z => midF c arg4 arg5 v2016 v2030 v2034 fw fi k (ix2 0 z)) (fun z => midF c arg4 arg5 v2016 v2030 v2034 fw fi k (ix2 1 z))
    (fun z => midF c arg4 arg5 v2016 v2030 v2034 fw fi k (ix2 2 z)) (fun z => featsTrip.sl.r c arg2 v2039 ft k (ix2 0 z))
    (fun p z => (fbox1_at c arg2 arg4 arg5 v2016 v2030 v2034 v2039 v2040 ft fw fi k _ p z).trans (by rw [h40])) r l)).trans ?_
  unfold featsTrip.sl.HA_1
  refine (congrArg (fun x => x + _ + _) (fbox_read c arg3 f [] _ (n + 0) (add_isInt hn (by omega) 0 (by omega)) (by omega) _ o0 _ _
    (fun z => featsTrip.sl.r_7 c arg4 arg5 v2016 v2030 v2034 fw fi k (ix2 0 z)) (fun z => featsTrip.sl.r_7 c arg4 arg5 v2016 v2030 v2034 fw fi k (ix2 1 z))
    (fun z => featsTrip.sl.r_7 c arg4 arg5 v2016 v2030 v2034 fw fi k (ix2 2 z)) (fun z => featsTrip.sl.r c arg2 v2039 ft k (ix2 0 z))
    (fun p z => (fbox0_at c arg2 arg4 arg5 v2016 v2030 v2034 v2039 v2040 ft fw fi k _ p z).trans (by rw [h40]; rfl)) r l)).trans ?_
  simp only [frow0_0, frow0_1, frow0_2, frow1_0, frow1_1, frow1_2, frow2_0, frow2_1, frow2_2, h38, fr_read c arg2 v2039 ft k h39]
  unfold spreadF
  simp only [Fin.sum_univ_three, ← zsum_eq]
  show _ + (_ + _ + _) + (_ + _ + _) + (_ + _ + _) = _ + (_ + _ + _ + (_ + _ + _) + (_ + _ + _))
  rw [add_assoc, add_assoc, add_assoc (_ + _ + _) (_ + _ + _) (_ + _ + _)]
  rfl

/-- The trips so far add their Gaussians' boxes. -/
theorem ffold_read (hrow : ∀ k, k1_chk1 (featsRow c arg5 fi k)) (f : Buf (Elt Ideal) (arg3.view.loc (c : Thread nD τ)))
    (row : Fin 512 → ℕ) (col : Fin 512 → BitVec 32) (w : Fin 512 → Fin 32 → EReal) (fe : Fin 512 → Fin 256 → EReal)
    (hn : ∀ k : Fin k1_t1_loop.trips, Affine.IsInt (featsRow c arg5 fi k) (row ⟨k.val, k.isLt⟩)) (hb : ∀ k, row k ≤ 40397)
    (hz : ∀ k : Fin k1_t1_loop.trips, featsTrip.sl.v2047 c arg5 fi k = col ⟨k.val, k.isLt⟩)
    (hw : ∀ (k : Fin k1_t1_loop.trips) q, wAtF c arg4 fw k q = w ⟨k.val, k.isLt⟩ q)
    (hf : ∀ k l, arg2.view.read (Elt Ideal) ft (ix2 k l) = fe k l)
    (h38 : ∀ (j : Fin 3) (l : Fin 256), k1_pay1 v2016 v2030 v2034 (ix2 j l) = BitVec.ofNat 32 (l.val / 16))
    (h39 : ∀ (i : Fin 8) (l : Fin 256), v2039 (ix2 i l) = BitVec.ofNat 32 i.val)
    (h40 : ∀ (p : Fin 16) (l : Fin 256), v2040 (ix2 p l) = BitVec.ofNat 32 p.val)
    (r : Fin 40816) (l : Fin 256) :
    arg3.view.read (Elt Ideal) (featsFold c i arg1 harg1 arg2 harg2 arg3 harg3 arg4 harg4 arg5 harg5 v2016 v2030 v2034 v2039 v2040 ft fw fi hrow f
        k1_t1_loop.trips) (ix2 r l)
      = arg3.view.read (Elt Ideal) f (ix2 r l) + ∑ k : Fin 512, spreadF (w k) (fe k l) (row k) (col k) r.val (l.val / 16) := by
  have h : ∀ N : ℕ, (hN : N ≤ 512) → arg3.view.read (Elt Ideal) (featsFold c i arg1 harg1 arg2 harg2 arg3 harg3 arg4 harg4 arg5 harg5 v2016 v2030 v2034 v2039 v2040 ft fw fi hrow f N) (ix2 r l)
      = arg3.view.read (Elt Ideal) f (ix2 r l) + ∑ k : Fin N, spreadF (w ⟨k.val, by omega⟩) (fe ⟨k.val, by omega⟩ l) (row ⟨k.val, by omega⟩) (col ⟨k.val, by omega⟩) r.val (l.val / 16) := by
    intro N
    induction N with
    | zero => intro _; simp [featsFold]
    | succ N ih =>
      intro hN
      have e := featsFold_succ c i arg1 harg1 arg2 harg2 arg3 harg3 arg4 harg4 arg5 harg5 v2016 v2030 v2034 v2039 v2040 ft fw fi hrow f ⟨N, hN⟩
      dsimp only at e
      rw [e, ftrip_read c arg3 i arg1 harg1 arg2 harg2 harg3 arg4 harg4 arg5 harg5 v2016 v2030 v2034 v2039 v2040 ft fw fi ⟨N, hN⟩ _ _ _ (hn _) (hb _) h38 h39 h40 r l,
        ih (by omega), Fin.sum_univ_castSucc, add_assoc]
      refine congrArg₂ (· + ·) rfl (congrArg₂ (· + ·) rfl ?_)
      rw [hz, hf]
      simp only [hw]
      rfl
  exact h 512 le_rfl

end Trip

end Cert.KernelIdeal.Splat
-- ==== Proof.DensArray.lean ====
/- The array of densities after its launch: at each place, the sum over the records. -/
module

public import proofs.«01_k».proof.Proof.DensValue
public import proofs.«01_k».proof.Proof.DensRegion
public import Idealize.ShloMosaic.Lib.Pipeline.ValueKit.Geometry

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.ShloMosaic.Pipeline (Dat)
open Cert.Splat

theorem recs_unread (c : Dev nD) (M0 : Memref sig .tc .vmem S1x8x512 .f32) (h0 : M0.IsWhole) (x : S1x8x512.Idx → EReal) (k : Fin 512) :
    recs c M0 (h0.unread (Val := Elt Ideal) x) k = fun ch => x (ix3 0 ch k) := by
  unfold recs
  rw [h0.read_unread]

theorem densOut_at (c : Dev nD) (i : grid0.Coords) (M0 : Memref sig .tc .vmem S1x8x512 .f32) (h0 : M0.IsWhole)
    (M1 : Memref sig .tc .vmem S40816x16 .f32) (h1 : M1.IsWhole) (x : S1x8x512.Idx → EReal) (acc : S40816x16.Idx → EReal)
    (hz : densFirst i → ∀ j, acc j = 0) (r : Fin 40816) (z : Fin 16) :
    densOut (F := Ideal) c i M0 h0 M1 h1 x acc (ix2 r z)
      = acc (ix2 r z) + ∑ k : Fin 512, hit (fun ch => x (ix3 0 ch k)) r.val z.val := by
  unfold densOut
  split_ifs with h
  · rw [densBody0_read, hz h, zero_add]
    exact Finset.sum_congr rfl fun k _ => congrArg (hit · r.val z.val) (recs_unread c M0 h0 x k)
  · rw [densBodyS_read, h1.read_unread]
    exact congrArg (acc (ix2 r z) + ·) (Finset.sum_congr rfl fun k _ => congrArg (hit · r.val z.val) (recs_unread c M0 h0 x k))

variable (W : Dev nD → Valuation τ sig (Elt Ideal))

/-- The record of Gaussian `k` of block `t`. -/
def recAt (c : Dev nD) (t : Fin 98) (k : Fin 512) : Fin 8 → EReal := fun ch => W c main_v31 (ix3 t ch k)

theorem win0_0_index : ∀ t : Fin cfg0.N, win0_0.index t = ![t.val, 0, 0] := (by decide +kernel : ∀ t : Fin grid0.N, _)

theorem win0_1_index : ∀ t : Fin cfg0.N, win0_1.index t = ![0, 0] := (by decide +kernel : ∀ t : Fin grid0.N, _)

theorem densStg_at (c : Dev nD) (t : Fin cfg0.N) (ch : Fin 8) (k : Fin 512) :
    densStg (F := Ideal) W c t (ix3 0 ch k) = recAt W c ⟨t.val, t.isLt⟩ k ch := by
  unfold densStg recAt
  blk_simp
  congr 1
  blk_ext [win0_0_index]

theorem densAcc_at (c : Dev nD) (n : ℕ) (hn : n ≤ 98) (r : Fin 40816) (z : Fin 16) :
    densAcc (F := Ideal) W c n (ix2 r z)
      = ∑ t : Fin n, ∑ k : Fin 512, hit (recAt W c ⟨t.val, by omega⟩ k) r.val z.val := by
  induction n with
  | zero =>
    simp only [Finset.univ_eq_empty, Finset.sum_empty]
    exact zero_f32
  | succ n ih =>
    have h := densAcc_succ (F := Ideal) W c ⟨n, hn⟩
    dsimp only at h
    rw [h, densOut_at, ih (by omega)]
    · refine Eq.trans ?_ (Fin.sum_univ_castSucc (fun t : Fin (n + 1) =>
        ∑ k : Fin 512, hit (recAt W c ⟨t.val, by omega⟩ k) r.val z.val)).symm
      refine congrArg (fun s : EReal => _ + s) (Finset.sum_congr rfl fun k _ => congrArg (hit · r.val z.val) (funext fun ch => ?_))
      exact densStg_at W c ⟨n, hn⟩ ch k
    · intro hf j
      have h0 : n = 0 := (dens_first ⟨n, hn⟩).mp hf
      subst h0
      exact zero_f32

/-- The density at a row and a column. -/
theorem dens_array (c : Dev nD) (r : Fin 40816) (z : Fin 16) :
    (dat0 (F := Ideal) W c).arrAt 1 cfg0.N (ix2 r z) = ∑ t : Fin 98, ∑ k : Fin 512, hit (recAt W c t k) r.val z.val := by
  have h : (dat0 (F := Ideal) W c).arrAt 1 cfg0.N = densAcc (F := Ideal) W c 98 := by
    refine (dat0 (F := Ideal) W c).arrAt_eq_of_covers 1 _ (by decide +kernel) fun t hf y => ?_
    have ht : t.val = 97 := by
      have := (flush0_1 t).mp hf
      have h98 : t.val < 98 := t.isLt
      omega
    blk_simp
    show densAcc (F := Ideal) W c (t.val + 1) y = _
    rw [ht]
    congr 1
    blk_ext [win0_1_index]
  rw [h, densAcc_at W c 98 le_rfl]

end Cert.KernelIdeal.Splat
-- ==== Proof.FeatsValue.lean ====
/- The array of features after its launch: at each place, the sum over the records, times their features. -/
module

public import proofs.«01_k».proof.Proof.FeatsSum
public import proofs.«01_k».proof.Proof.FeatsRegion
public import proofs.«01_k».proof.Proof.DensArray

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.ShloMosaic.Pipeline (Dat)
open Cert.Splat

/-- What a record of feature `f` adds at row `r`, column `z`. -/
def hitF (p : Fin 8 → EReal) (f : EReal) (r z : ℕ) : EReal :=
  ∑ e : Fin 3, ∑ j : Fin 3, if r = rowOf (F := Ideal) p + 202 * e.val + j.val then
    zhits (colOf (F := Ideal) p) z (fun d => wP (F := Ideal) p e j d) * f else 0

theorem spreadF_eq (c : Dev nD) (arg1 : Memref sig .tc .vmem S1x8x512 .f32) (x : Buf (Elt Ideal) (arg1.view.loc (c : Thread nD τ)))
    (k : Fin 512) (f : EReal) (r z : ℕ) :
    spreadF (fun q => blockW (F := Ideal) c arg1 x (ix2 k q)) f (rowOf (F := Ideal) (recs c arg1 x k)) (colOf (F := Ideal) (recs c arg1 x k)) r z
      = hitF (recs c arg1 x k) f r z := by
  unfold spreadF hitF
  simp only [blockW_at]
  rfl

section Word
variable {F : FTy → Type} [FloatOps F]

/-- The column word of a trip. -/
theorem featsCol_full (c : Dev nD) (arg5 : Memref sig .tc .vmem S512x8 .i32) (f : Buf (Elt F) (arg5.view.loc (c : Thread nD τ)))
    (w : IVec S512x8 32) (k : Fin k1_t1_loop.trips) :
    featsTrip.sl.v2047 (F := F) c arg5 (arg5.view.writes (Elt F) f [⟨Rect.unit ![0, 0] S512x8.size inb_S512x8_S512x8_0_0, w⟩]) k
      = w (ix2 ⟨k.val, k.isLt⟩ 1) := by
  unfold featsTrip.sl.v2047 extractAt
  rw [View.readAt_apply, View.read_writes_full]
  refine congrArg w (funext fun a => Fin.ext ?_)
  have hk := iv_toNat k.val k.isLt
  fin_cases a
  · show (Scalar.indexCast (Scf.iv 0#32 1#32 k.val)).toNat + 1 * 0 = k.val
    omega
  · rfl

end Word

/-- The lanes' columns: sixteen channels to each. -/
theorem iota38 (j : Fin 3) (l : Fin 256) : k1_pay1 k1_pay295 k1_pay296 k1_pay297 (ix2 j l) = BitVec.ofNat 32 (l.val / 16) := by
  unfold k1_pay1 k1_pay295 k1_pay296 k1_pay297
  pointwise
  revert l
  decide +kernel

theorem iota39 (p : Fin 8) (l : Fin 256) : (iota .tc S8x256 32 [0] iota_S8x256_d0_w32) (ix2 p l) = BitVec.ofNat 32 p.val := by
  unfold iota
  refine congrArg (BitVec.ofNat 32) ?_
  simp

theorem iota40 (p : Fin 16) (l : Fin 256) : (iota .tc S16x256 32 [0] iota_S16x256_d0_w32) (ix2 p l) = BitVec.ofNat 32 p.val := by
  unfold iota
  refine congrArg (BitVec.ofNat 32) ?_
  simp

section Body
variable (c : Dev nD) (i : grid1.Coords) (arg1 : Memref sig .tc .vmem S1x8x512 .f32) (harg1 : arg1.IsWhole)
    (arg2 : Memref sig .tc .vmem S512x256 .f32) (harg2 : arg2.IsWhole)
    (arg3 : Memref sig .tc .vmem S40816x256 .f32) (harg3 : arg3.IsWhole)
    (arg4 : Memref sig .tc .vmem S512x32 .f32) (harg4 : arg4.IsWhole) (arg5 : Memref sig .tc .vmem S512x8 .i32) (harg5 : arg5.IsWhole)
    (x : Buf (Elt Ideal) (arg1.view.loc (c : Thread nD τ))) (ft : Buf (Elt Ideal) (arg2.view.loc (c : Thread nD τ)))

theorem fblock_read (v2016 : IVec S3x256 32) (v2030 v2034 : IVec S3x256 1) (v2039 : IVec S8x256 32) (v2040 : IVec S16x256 32)
    (h38 : ∀ (j : Fin 3) (l : Fin 256), k1_pay1 v2016 v2030 v2034 (ix2 j l) = BitVec.ofNat 32 (l.val / 16))
    (h39 : ∀ (i : Fin 8) (l : Fin 256), v2039 (ix2 i l) = BitVec.ofNat 32 i.val)
    (h40 : ∀ (p : Fin 16) (l : Fin 256), v2040 (ix2 p l) = BitVec.ofNat 32 p.val)
    (f4 : Buf (Elt Ideal) (arg4.view.loc (c : Thread nD τ))) (f5 : Buf (Elt Ideal) (arg5.view.loc (c : Thread nD τ)))
    (hrow : ∀ k, k1_chk1 (featsRow (F := Ideal) c arg5
      (arg5.view.writes (Elt Ideal) f5 [⟨Rect.unit ![0, 0] S512x8.size inb_S512x8_S512x8_0_0, blockI (F := Ideal) c arg1 x⟩]) k))
    (f : Buf (Elt Ideal) (arg3.view.loc (c : Thread nD τ))) (r : Fin 40816) (l : Fin 256) :
    arg3.view.read (Elt Ideal) (featsFold c i arg1 harg1 arg2 harg2 arg3 harg3 arg4 harg4 arg5 harg5 v2016 v2030 v2034 v2039 v2040 ft
        (arg4.view.writes (Elt Ideal) f4 [⟨Rect.unit ![0, 0] S512x32.size inb_S512x32_S512x32_0_0, blockW (F := Ideal) c arg1 x⟩])
        (arg5.view.writes (Elt Ideal) f5 [⟨Rect.unit ![0, 0] S512x8.size inb_S512x8_S512x8_0_0, blockI (F := Ideal) c arg1 x⟩])
        hrow f k1_t1_loop.trips) (ix2 r l)
      = arg3.view.read (Elt Ideal) f (ix2 r l) + ∑ k : Fin 512, hitF (recs c arg1 x k) (arg2.view.read (Elt Ideal) ft (ix2 k l)) r.val (l.val / 16) := by
  refine (ffold_read c arg3 i arg1 harg1 arg2 harg2 harg3 arg4 harg4 arg5 harg5 v2016 v2030 v2034 v2039 v2040 ft _ _ hrow f
    (fun k => rowOf (F := Ideal) (recs c arg1 x k)) (fun k => colOf (F := Ideal) (recs c arg1 x k))
    (fun k q => blockW (F := Ideal) c arg1 x (ix2 k q)) (fun k l => arg2.view.read (Elt Ideal) ft (ix2 k l))
    ?_ (fun k => rowOf_le _) ?_ ?_ (fun _ _ => rfl) h38 h39 h40 r l).trans ?_
  · intro k
    rw [featsRow_full]
    exact blockI_row c arg1 x _
  · intro k
    rw [featsCol_full]
    exact blockI_col c arg1 x _
  · intro k q
    exact congrFun (View.read_writes_full _ _ _ _ _) _
  · simp only [spreadF_eq]

theorem featsBody0_read (h0 : Scalar.cmpi .ne (Scalar.extui (Scalar.cmpi .eq (BitVec.ofNat 32 (i 0).val) 0#32)) 0#32 = 1#1)
    (r : Fin 40816) (l : Fin 256) :
    arg3.view.read (Elt Ideal) (featsBody0 (F := Ideal) c i arg1 harg1 arg2 harg2 arg3 harg3 arg4 harg4 arg5 harg5 h0 x ft).1 (ix2 r l)
      = ∑ k : Fin 512, hitF (recs c arg1 x k) (arg2.view.read (Elt Ideal) ft (ix2 k l)) r.val (l.val / 16) := by
  unfold featsBody0
  dsimp only
  refine (fblock_read c i arg1 harg1 arg2 harg2 arg3 harg3 arg4 harg4 arg5 harg5 x ft _ _ _ _ _ iota38 iota39 iota40 _ _ _ _ r l).trans ?_
  have h : arg3.view.read (Elt Ideal) (arg3.view.writes (Elt Ideal) arg3.view.junk (featsBody0.sl.HA_1 (F := Ideal))) (ix2 r l) = (0 : EReal) := by
    unfold featsBody0.sl.HA_1
    refine (congrFun (View.read_writes_full _ _ _ _ _) _).trans ?_
    exact zero_f32
  rw [h, zero_add]

theorem featsBodyS_read (h0 : ¬ Scalar.cmpi .ne (Scalar.extui (Scalar.cmpi .eq (BitVec.ofNat 32 (i 0).val) 0#32)) 0#32 = 1#1)
    (f3 : Buf (Elt Ideal) (arg3.view.loc (c : Thread nD τ))) (r : Fin 40816) (l : Fin 256) :
    arg3.view.read (Elt Ideal) ((featsBodyS (F := Ideal) c i arg1 harg1 arg2 harg2 arg3 harg3 arg4 harg4 arg5 harg5 h0 x ft).1 f3) (ix2 r l)
      = arg3.view.read (Elt Ideal) f3 (ix2 r l) + ∑ k : Fin 512, hitF (recs c arg1 x k) (arg2.view.read (Elt Ideal) ft (ix2 k l)) r.val (l.val / 16) := by
  unfold featsBodyS
  dsimp only
  exact fblock_read c i arg1 harg1 arg2 harg2 arg3 harg3 arg4 harg4 arg5 harg5 x ft _ _ _ _ _ iota38 iota39 iota40 _ _ _ _ r l

end Body

theorem featsOut_at (c : Dev nD) (i : grid1.Coords) (M0 : Memref sig .tc .vmem S1x8x512 .f32) (h0 : M0.IsWhole)
    (Mt : Memref sig .tc .vmem S512x256 .f32) (ht : Mt.IsWhole)
    (M1 : Memref sig .tc .vmem S40816x256 .f32) (h1 : M1.IsWhole) (x : S1x8x512.Idx → EReal) (y : S512x256.Idx → EReal) (acc : S40816x256.Idx → EReal)
    (hz : featsFirst i → ∀ j, acc j = 0) (r : Fin 40816) (l : Fin 256) :
    featsOut (F := Ideal) c i M0 h0 Mt ht M1 h1 x y acc (ix2 r l)
      = acc (ix2 r l) + ∑ k : Fin 512, hitF (fun ch => x (ix3 0 ch k)) (y (ix2 k l)) r.val (l.val / 16) := by
  have e : ∀ k : Fin 512, hitF (recs c M0 (h0.unread (Val := Elt Ideal) x) k) (Mt.view.read (Elt Ideal) (ht.unread (Val := Elt Ideal) y) (ix2 k l)) r.val (l.val / 16)
      = hitF (fun ch => x (ix3 0 ch k)) (y (ix2 k l)) r.val (l.val / 16) := by
    intro k
    rw [recs_unread, ht.read_unread]
  unfold featsOut
  split_ifs with h
  · rw [featsBody0_read, hz h, zero_add]
    exact Finset.sum_congr rfl fun k _ => e k
  · rw [featsBodyS_read, h1.read_unread]
    exact congrArg (acc (ix2 r l) + ·) (Finset.sum_congr rfl fun k _ => e k)

variable (W : Dev nD → Valuation τ sig (Elt Ideal))

theorem win1_0_index : ∀ t : Fin cfg1.N, win1_0.index t = ![t.val, 0, 0] := (by decide +kernel : ∀ t : Fin grid1.N, _)

theorem win1_1_index : ∀ t : Fin cfg1.N, win1_1.index t = ![t.val, 0] := (by decide +kernel : ∀ t : Fin grid1.N, _)

theorem win1_2_index : ∀ t : Fin cfg1.N, win1_2.index t = ![0, 0] := (by decide +kernel : ∀ t : Fin grid1.N, _)

theorem featsStg0_at (c : Dev nD) (t : Fin cfg1.N) (ch : Fin 8) (k : Fin 512) :
    featsStg0 (F := Ideal) W c t (ix3 0 ch k) = recAt W c ⟨t.val, t.isLt⟩ k ch := by
  unfold featsStg0 recAt
  blk_simp
  congr 1
  blk_ext [win1_0_index]

/-- The features of Gaussian `k` of block `t`, at lane `l`. -/
def ftAt (c : Dev nD) (t : Fin 98) (k : Fin 512) (l : Fin 256) : EReal := W c main_v35 (ix2 ⟨t.val * 512 + k.val, by omega⟩ l)

theorem featsStg1_at (c : Dev nD) (t : Fin cfg1.N) (k : Fin 512) (l : Fin 256) :
    featsStg1 (F := Ideal) W c t (ix2 k l) = ftAt W c ⟨t.val, t.isLt⟩ k l := by
  unfold featsStg1 ftAt
  blk_simp
  congr 1
  blk_ext [win1_1_index]

theorem featsAcc_at (c : Dev nD) (n : ℕ) (hn : n ≤ 98) (r : Fin 40816) (l : Fin 256) :
    featsAcc (F := Ideal) W c n (ix2 r l)
      = ∑ t : Fin n, ∑ k : Fin 512, hitF (recAt W c ⟨t.val, by omega⟩ k) (ftAt W c ⟨t.val, by omega⟩ k l) r.val (l.val / 16) := by
  induction n with
  | zero =>
    simp only [Finset.univ_eq_empty, Finset.sum_empty]
    exact zero_f32
  | succ n ih =>
    have h := featsAcc_succ (F := Ideal) W c ⟨n, hn⟩
    dsimp only at h
    rw [h, featsOut_at, ih (by omega)]
    · refine Eq.trans ?_ (Fin.sum_univ_castSucc (fun t : Fin (n + 1) =>
        ∑ k : Fin 512, hitF (recAt W c ⟨t.val, by omega⟩ k) (ftAt W c ⟨t.val, by omega⟩ k l) r.val (l.val / 16))).symm
      refine congrArg (fun s : EReal => _ + s) (Finset.sum_congr rfl fun k _ => ?_)
      rw [featsStg1_at W c ⟨n, hn⟩ k l]
      exact congrArg (hitF · _ r.val (l.val / 16)) (funext fun ch => featsStg0_at W c ⟨n, hn⟩ ch k)
    · intro hf j
      have h0 : n = 0 := (feats_first ⟨n, hn⟩).mp hf
      subst h0
      exact zero_f32

/-- The features at a row and a lane. -/
theorem feats_array (c : Dev nD) (r : Fin 40816) (l : Fin 256) :
    (dat1 (F := Ideal) W c).arrAt 2 cfg1.N (ix2 r l)
      = ∑ t : Fin 98, ∑ k : Fin 512, hitF (recAt W c t k) (ftAt W c t k l) r.val (l.val / 16) := by
  have h : (dat1 (F := Ideal) W c).arrAt 2 cfg1.N = featsAcc (F := Ideal) W c 98 := by
    refine (dat1 (F := Ideal) W c).arrAt_eq_of_covers 2 _ (by decide +kernel) fun t hf y => ?_
    have ht : t.val = 97 := by
      have := (flush1_2 t).mp hf
      have h98 : t.val < 98 := t.isLt
      omega
    blk_simp
    show featsAcc (F := Ideal) W c (t.val + 1) y = _
    rw [ht]
    congr 1
    blk_ext [win1_2_index]
  rw [h, featsAcc_at W c 98 le_rfl]

end Cert.KernelIdeal.Splat
-- ==== Proof.Sums.lean ====
/-
  The kernel's boxes of weights, summed over its blocks, are the reference's scattered sums.
-/
module

public import proofs.«01_k».proof.Proof.Cells
public import proofs.«01_k».proof.Proof.DensValue
public import proofs.«01_k».proof.Proof.FeatsValue

@[expose] public section

noncomputable section

namespace Cert.ReferenceIdeal.Splat

open Cert.ReferenceIdeal Cert.ReferenceIdeal.Gen Cert.ReferenceIdeal.Read
open Idealize.ShloMosaic
open Cert.KernelIdeal.Splat (baseW noff wS wP rowOf colOf hit hitF zhits)
open Cert.Splat (clip199)

theorem sum27 (f : Fin 27 → EReal) : ∑ k : Fin 27, f k = ∑ e : Fin 3, ∑ j : Fin 3, ∑ d : Fin 3, f (kk e j d) := by
  have hb : Function.Bijective (fun p : Fin 3 × Fin 3 × Fin 3 => kk p.1 p.2.1 p.2.2) := by decide
  rw [← hb.sum_comp, Fintype.sum_prod_type]
  exact Finset.sum_congr rfl fun e _ => Fintype.sum_prod_type _

/-- A sequence of 50000 terms, zero from there on. -/
def padded (h : Fin 50000 → EReal) (q : ℕ) : EReal := if hq : q < 50000 then h ⟨q, hq⟩ else 0

theorem padded_lt (h : Fin 50000 → EReal) (q : ℕ) (hq : q < 50000) : padded h q = h ⟨q, hq⟩ := dif_pos hq
theorem padded_ge (h : Fin 50000 → EReal) (q : ℕ) (hq : ¬ q < 50000) : padded h q = 0 := dif_neg hq

theorem blocks_sum (g : Fin 98 → Fin 512 → EReal) (h : Fin 50000 → EReal)
    (h1 : ∀ (t : Fin 98) (k : Fin 512) (hq : t.val * 512 + k.val < 50000), g t k = h ⟨t.val * 512 + k.val, hq⟩)
    (h2 : ∀ (t : Fin 98) (k : Fin 512), 50000 ≤ t.val * 512 + k.val → g t k = 0) :
    ∑ t : Fin 98, ∑ k : Fin 512, g t k = ∑ n : Fin 50000, h n := by
  have hg (t : Fin 98) (k : Fin 512) : g t k = padded h (finProdFinEquiv (t, k)).val := by
    have hv : (finProdFinEquiv (t, k)).val = t.val * 512 + k.val := by
      show k.val + 512 * t.val = _
      omega
    rw [hv]
    by_cases hq : t.val * 512 + k.val < 50000
    · rw [h1 t k hq]; exact (padded_lt h _ hq).symm
    · rw [h2 t k (by omega)]; exact (padded_ge h _ hq).symm
  have e1 : ∑ t : Fin 98, ∑ k : Fin 512, g t k = ∑ p : Fin 98 × Fin 512, padded h (finProdFinEquiv p).val := by
    rw [Fintype.sum_prod_type]
    exact Finset.sum_congr rfl fun t _ => Finset.sum_congr rfl fun k _ => hg t k
  have e2 : ∑ p : Fin 98 × Fin 512, padded h (finProdFinEquiv p).val = ∑ q : Fin (98 * 512), padded h q.val :=
    Equiv.sum_comp finProdFinEquiv (fun q : Fin (98 * 512) => padded h q.val)
  have e3 : ∑ n : Fin 50000, h n = ∑ n : Fin 50000, padded h n.val := Finset.sum_congr rfl fun n _ => (padded_lt h n.val n.isLt).symm
  rw [e1, e2, e3, Fin.sum_univ_eq_sum_range (fun q => padded h q) (98 * 512), Fin.sum_univ_eq_sum_range (fun q => padded h q) 50000]
  refine (Finset.sum_subset (Finset.range_subset_range.2 (by norm_num)) fun q _ hq => ?_).symm
  rw [Finset.mem_range] at hq
  exact padded_ge h q hq

theorem zhits_mul (z0 : BitVec 32) (z : ℕ) (a : Fin 3 → EReal) (f : EReal) :
    zhits z0 z a * f = ∑ d : Fin 3, if BitVec.ofNat 32 z = Scalar.addi (Scalar.subi z0 1#32) (BitVec.ofNat 32 d.val) then a d * f else 0 := by
  unfold zhits
  by_cases h : ∃ d0 : Fin 3, BitVec.ofNat 32 z = Scalar.addi (Scalar.subi z0 1#32) (BitVec.ofNat 32 d0.val)
  · obtain ⟨d0, h0⟩ := h
    have hu (d : Fin 3) (hd : d ≠ d0) : ¬ BitVec.ofNat 32 z = Scalar.addi (Scalar.subi z0 1#32) (BitVec.ofNat 32 d.val) := by
      intro hz
      rw [h0] at hz
      have hz' : Scalar.subi z0 1#32 + BitVec.ofNat 32 d0.val = Scalar.subi z0 1#32 + BitVec.ofNat 32 d.val := hz
      have := congrArg (fun v => v - Scalar.subi z0 1#32) hz'
      simp only [BitVec.add_comm, BitVec.add_sub_cancel] at this
      have hn := congrArg BitVec.toNat this
      simp only [BitVec.toNat_ofNat] at hn
      apply hd
      apply Fin.ext
      omega
    rw [Finset.sum_eq_single d0 (fun d _ hd => if_neg (hu d hd)) (fun hn => absurd (Finset.mem_univ _) hn),
      Finset.sum_eq_single d0 (fun d _ hd => if_neg (hu d hd)) (fun hn => absurd (Finset.mem_univ _) hn), if_pos h0, if_pos h0]
  · rw [not_exists] at h
    rw [Finset.sum_eq_zero (fun d _ => if_neg (h d)), Finset.sum_eq_zero (fun d _ => if_neg (h d)), zero_mul]

theorem zero_lit : (FloatOps.ofBits .f32 0x00000000#32 : Ideal .f32) = (0 : EReal) := by
  show Ideal.ofBits .f32 0x00000000#32 = 0
  simp [Ideal.ofBits, Ideal.ieee]

theorem small_nonneg : (0 : EReal) ≤ Ideal.ofBits .f32 0x358637BD#32 := by
  simp [Ideal.ofBits, Ideal.ieee]
  rw [← EReal.coe_mul]
  exact_mod_cast (by norm_num)

/-- A record of no opacity has no weight. -/
theorem dummy_weight (p : Fin 8 → EReal) (hp : p 6 = 0) (e j d : Fin 3) : wP (F := Ideal) p e j d = (0 : EReal) := by
  unfold wP
  rw [wS_eq]
  rw [hp]
  have hk : ∀ a b c : Ideal .f32, keepB a b c (0 : EReal) ≠ 1#1 := by
    intro a b c hk
    unfold keepB at hk
    simp only [IntOp.andi_eq_one] at hk
    obtain ⟨⟨⟨hk, -⟩, -⟩, -⟩ := hk
    have h' : BitVec.ofBool (decide (Ideal.ofBits .f32 0x358637BD#32 < (0 : EReal))) = 1#1 := hk
    rw [decide_eq_false (not_lt.2 small_nonneg)] at h'
    exact absurd h' (by decide)
  have hm (c : BitVec 1) (a b : EReal) (hc : c ≠ 1#1) : Scalar.select c a b = b := by
    unfold Scalar.select; simp [hc]
  refine (hm _ _ _ fun hc => ?_).trans zero_lit
  rw [IntOp.andi_eq_one] at hc
  exact hk _ _ _ hc.2

theorem zhits_zero (z0 : BitVec 32) (z : ℕ) : zhits z0 z (fun _ => 0) = 0 := by
  unfold zhits
  exact Finset.sum_eq_zero fun d _ => ite_self _

theorem dummy_hit (p : Fin 8 → EReal) (hp : p 6 = 0) (r z : ℕ) : hit p r z = 0 := by
  unfold hit
  refine Finset.sum_eq_zero fun e _ => Finset.sum_eq_zero fun j _ => ?_
  have : (fun d => wP (F := Ideal) p e j d) = fun _ => (0 : EReal) := funext fun d => dummy_weight p hp e j d
  rw [this, zhits_zero, ite_self]

theorem dummy_hitF (p : Fin 8 → EReal) (hp : p 6 = 0) (f : EReal) (r z : ℕ) : hitF p f r z = 0 := by
  unfold hitF
  refine Finset.sum_eq_zero fun e _ => Finset.sum_eq_zero fun j _ => ?_
  have : (fun d => wP (F := Ideal) p e j d) = fun _ => (0 : EReal) := funext fun d => dummy_weight p hp e j d
  rw [this, zhits_zero, zero_mul, ite_self]

variable (x0 : (⟨S50000x3, .f32⟩ : BufTy).Contents (Elt Ideal)) (x1 : (⟨S50000x3x3, .f32⟩ : BufTy).Contents (Elt Ideal))
  (x2 : (⟨S50000, .f32⟩ : BufTy).Contents (Elt Ideal)) (x3 : (⟨S50000x16, .f32⟩ : BufTy).Contents (Elt Ideal))

/-- A Gaussian as the kernel's record. -/
def recOf (n : Fin 50000) : Fin 8 → EReal :=
  ![x0 (ix2 n (0 : Fin 3)), x0 (ix2 n (1 : Fin 3)), x0 (ix2 n (2 : Fin 3)), x1 (ix3 n (0 : Fin 3) (0 : Fin 3)), x1 (ix3 n (1 : Fin 3) (1 : Fin 3)),
    x1 (ix3 n (2 : Fin 3) (2 : Fin 3)), x2 (ix1 n), 0]

/-- The covariances are diagonal, their variances neither zero nor infinite, and no Gaussian's height is the volume's top. -/
structure Good : Prop where
  diag (n : Fin 50000) : Diag x1 n (x1 (ix3 n (0 : Fin 3) (0 : Fin 3))) (x1 (ix3 n (1 : Fin 3) (1 : Fin 3))) (x1 (ix3 n (2 : Fin 3) (2 : Fin 3)))
  ok (n : Fin 50000) (a : Fin 3) : (x1 (ix3 n a a) : EReal) ≠ 0 ∧ (x1 (ix3 n a a) : EReal) ≠ ⊤
  top (n : Fin 50000) : (x0 (ix2 n (2 : Fin 3)) : EReal) ≠ Ideal.ofBits .f32 0x40ACCCCD#32

variable {x0 x1} (G : Good x0 x1)
include G

theorem wP_rec (n : Fin 50000) (e j d : Fin 3) :
    wP (F := Ideal) (recOf x0 x1 x2 n) e j d = val_main_v184 (F := Ideal) x0 x1 x2 (ix2 n (kk e j d)) :=
  (weight_any x0 x1 x2 (G.diag n) (G.ok n 0) (G.ok n 1) (G.ok n 2) e j d).symm

theorem cell_rec (n : Fin 50000) (e j d : Fin 3) (X Y : Fin 200) (Z : Fin 16) (hw : wP (F := Ideal) (recOf x0 x1 x2 n) e j d ≠ (0 : EReal)) :
    (wrapW (val_main_v199 (F := Ideal) x0 (ix2 n (kk e j d)))).toInt = (((X.val * 200 + Y.val) * 16 + Z.val : ℕ) : ℤ) ↔
      ((X.val + 1) * 202 + (Y.val + 1) = rowOf (F := Ideal) (recOf x0 x1 x2 n) + 202 * e.val + j.val ∧
        BitVec.ofNat 32 Z.val = Scalar.addi (Scalar.subi (colOf (F := Ideal) (recOf x0 x1 x2 n)) 1#32) (BitVec.ofNat 32 d.val)) := by
  obtain ⟨x, y, z, hx, hy, hz, ix, iy, iz, ex, ey, ez⟩ := support (m0 := x0 (ix2 n (0 : Fin 3))) (m1 := x0 (ix2 n (1 : Fin 3))) (m2 := x0 (ix2 n (2 : Fin 3)))
    (A := x1 (ix3 n (0 : Fin 3) (0 : Fin 3))) (E := x1 (ix3 n (1 : Fin 3) (1 : Fin 3))) (I := x1 (ix3 n (2 : Fin 3) (2 : Fin 3))) (o := x2 (ix1 n)) hw (G.top n)
  have h := cell_iff x0 n e j d hx hy hz ix iy iz ex ey ez X Y Z
  rw [← ex, ← ey, ← ez] at h
  exact h

theorem hit_rec (n : Fin 50000) (X Y : Fin 200) (Z : Fin 16) :
    hit (recOf x0 x1 x2 n) ((X.val + 1) * 202 + (Y.val + 1)) Z.val =
      ∑ k : Fin 27, if (wrapW (val_main_v199 (F := Ideal) x0 (ix2 n k))).toInt = (((X.val * 200 + Y.val) * 16 + Z.val : ℕ) : ℤ)
        then val_main_v184 (F := Ideal) x0 x1 x2 (ix2 n k) else (0 : EReal) := by
  rw [sum27]
  unfold hit
  refine Finset.sum_congr rfl fun e _ => Finset.sum_congr rfl fun j _ => ?_
  by_cases hr : (X.val + 1) * 202 + (Y.val + 1) = rowOf (F := Ideal) (recOf x0 x1 x2 n) + 202 * e.val + j.val
  · rw [if_pos hr]
    unfold zhits
    refine Finset.sum_congr rfl fun d _ => ?_
    rw [← wP_rec x2 G]
    by_cases hw : wP (F := Ideal) (recOf x0 x1 x2 n) e j d = (0 : EReal)
    · simp only [hw, ite_self]
    · have h := cell_rec x2 G n e j d X Y Z hw
      by_cases hz : BitVec.ofNat 32 Z.val = Scalar.addi (Scalar.subi (colOf (F := Ideal) (recOf x0 x1 x2 n)) 1#32) (BitVec.ofNat 32 d.val)
      · rw [if_pos hz, if_pos (h.2 ⟨hr, hz⟩)]
      · rw [if_neg hz, if_neg fun hc => hz (h.1 hc).2]
  · rw [if_neg hr]
    refine (Finset.sum_eq_zero fun d _ => ?_).symm
    rw [← wP_rec x2 G]
    by_cases hw : wP (F := Ideal) (recOf x0 x1 x2 n) e j d = (0 : EReal)
    · simp only [hw, ite_self]
    · exact if_neg fun hc => hr ((cell_rec x2 G n e j d X Y Z hw).1 hc).1

theorem hitF_rec (n : Fin 50000) (f : EReal) (X Y : Fin 200) (Z : Fin 16) :
    hitF (recOf x0 x1 x2 n) f ((X.val + 1) * 202 + (Y.val + 1)) Z.val =
      ∑ k : Fin 27, if (wrapW (val_main_v199 (F := Ideal) x0 (ix2 n k))).toInt = (((X.val * 200 + Y.val) * 16 + Z.val : ℕ) : ℤ)
        then val_main_v184 (F := Ideal) x0 x1 x2 (ix2 n k) * f else (0 : EReal) := by
  rw [sum27]
  unfold hitF
  refine Finset.sum_congr rfl fun e _ => Finset.sum_congr rfl fun j _ => ?_
  by_cases hr : (X.val + 1) * 202 + (Y.val + 1) = rowOf (F := Ideal) (recOf x0 x1 x2 n) + 202 * e.val + j.val
  · rw [if_pos hr, zhits_mul]
    refine Finset.sum_congr rfl fun d _ => ?_
    rw [← wP_rec x2 G]
    by_cases hw : wP (F := Ideal) (recOf x0 x1 x2 n) e j d = (0 : EReal)
    · simp only [hw, zero_mul, ite_self]
    · have h := cell_rec x2 G n e j d X Y Z hw
      by_cases hz : BitVec.ofNat 32 Z.val = Scalar.addi (Scalar.subi (colOf (F := Ideal) (recOf x0 x1 x2 n)) 1#32) (BitVec.ofNat 32 d.val)
      · rw [if_pos hz, if_pos (h.2 ⟨hr, hz⟩)]
      · rw [if_neg hz, if_neg fun hc => hz (h.1 hc).2]
  · rw [if_neg hr]
    refine (Finset.sum_eq_zero fun d _ => ?_).symm
    rw [← wP_rec x2 G]
    by_cases hw : wP (F := Ideal) (recOf x0 x1 x2 n) e j d = (0 : EReal)
    · simp only [hw, zero_mul, ite_self]
    · exact if_neg fun hc => hr ((cell_rec x2 G n e j d X Y Z hw).1 hc).1

/-- The kernel's density at a cell is the reference's. -/
theorem density_cell (p : Fin 98 → Fin 512 → Fin 8 → EReal)
    (h1 : ∀ (t : Fin 98) (k : Fin 512) (hq : t.val * 512 + k.val < 50000), p t k = recOf x0 x1 x2 ⟨t.val * 512 + k.val, hq⟩)
    (h2 : ∀ (t : Fin 98) (k : Fin 512), 50000 ≤ t.val * 512 + k.val → p t k 6 = 0) (X Y : Fin 200) (Z : Fin 16) :
    ∑ t : Fin 98, ∑ k : Fin 512, hit (p t k) ((X.val + 1) * 202 + (Y.val + 1)) Z.val =
      val_main_v209 (F := Ideal) x0 x1 x2 (ix1 (⟨(X.val * 200 + Y.val) * 16 + Z.val, by omega⟩ : Fin 640000)) := by
  rw [density_sum, blocks_sum _ (fun n => hit (recOf x0 x1 x2 n) ((X.val + 1) * 202 + (Y.val + 1)) Z.val)
    (fun t k hq => by rw [h1 t k hq]) (fun t k hq => dummy_hit _ (h2 t k hq) _ _)]
  exact Finset.sum_congr rfl fun n _ => hit_rec x2 G n X Y Z

/-- The kernel's feature sum at a cell is the reference's. -/
theorem features_cell (p : Fin 98 → Fin 512 → Fin 8 → EReal) (f : Fin 98 → Fin 512 → EReal) (q : Fin 16)
    (h1 : ∀ (t : Fin 98) (k : Fin 512) (hq : t.val * 512 + k.val < 50000), p t k = recOf x0 x1 x2 ⟨t.val * 512 + k.val, hq⟩)
    (h2 : ∀ (t : Fin 98) (k : Fin 512), 50000 ≤ t.val * 512 + k.val → p t k 6 = 0)
    (h3 : ∀ (t : Fin 98) (k : Fin 512) (hq : t.val * 512 + k.val < 50000), f t k = x3 (ix2 (⟨t.val * 512 + k.val, hq⟩ : Fin 50000) q))
    (X Y : Fin 200) (Z : Fin 16) :
    ∑ t : Fin 98, ∑ k : Fin 512, hitF (p t k) (f t k) ((X.val + 1) * 202 + (Y.val + 1)) Z.val =
      val_main_v225 (F := Ideal) x0 x1 x2 x3 (ix2 (⟨(X.val * 200 + Y.val) * 16 + Z.val, by omega⟩ : Fin 640000) q) := by
  rw [features_sum, blocks_sum _ (fun n => hitF (recOf x0 x1 x2 n) (x3 (ix2 n q)) ((X.val + 1) * 202 + (Y.val + 1)) Z.val)
    (fun t k hq => by rw [h1 t k hq, h3 t k hq]) (fun t k hq => dummy_hitF _ (h2 t k hq) _ _ _)]
  exact Finset.sum_congr rfl fun n _ => hitF_rec x2 G n _ X Y Z

end Cert.ReferenceIdeal.Splat
-- ==== Proof.HostIn.lean ====
/-
  What the host lines before the kernels make of the arguments: the records and the tiled features.
-/
module

public import proofs.«01_k».proof.Proof.FeatsValue
public import Idealize.ShloMosaic.Lib.KernelVsHost
public import Idealize.ShloMosaic.Lib.StableHlo.ReadAt

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic

section Lists
variable (X : Valuation τ sig (Elt Ideal))

theorem pad1_at {α : Type} (x : S50000.Idx → α) (v : S_.Idx → α) (q : Fin 50176) :
    pad S50176 ![0] ![176] ![0] x v pads_S50000_S50176_01760 h_S_ (ix1 q) = if h : q.val < 50000 then x (ix1 ⟨q.val, h⟩) else v (Shape.Idx.first h_S_) := by
  by_cases h : q.val < 50000
  · rw [dif_pos h]
    exact pad_apply_of_inside _ _ _ x v _ _ _ _ (fun a => match a with | ⟨0, _⟩ => by show q.val = 0 + q.val * (0 + 1); omega)
  · rw [dif_neg h]
    refine pad_apply_of_not_inside _ _ _ x v _ _ _ (0 : Fin 1) ?_
    intro hc
    apply h
    have := hc.2.2
    have h2 : (q.val - 0) / (0 + 1) < 50000 := this
    omega

theorem pad2_at {α : Type} (x : S50000x16.Idx → α) (v : S_.Idx → α) (q : Fin 50176) (f : Fin 16) (h : q.val < 50000) :
    pad S50176x16 ![0, 0] ![176, 0] ![0, 0] x v pads_S50000x16_S50176x16_01760_000 h_S_ (ix2 q f) = x (ix2 (⟨q.val, h⟩ : Fin 50000) f) :=
  pad_apply_of_inside _ _ _ x v _ _ _ _ (fun a => match a with
    | ⟨0, _⟩ => by show q.val = 0 + q.val * (0 + 1); omega
    | ⟨1, _⟩ => by show f.val = 0 + f.val * (0 + 1); omega)

theorem v2_at (n : Fin 50000) : StableHlo.after (hostOps0_1 (F := Ideal)) X main_v2 (ix1 n) = X main_arg0 (ix2 n (0 : Fin 3)) := by
  rw [hostOps0_1]
  after_reads_at

theorem v3_at (q : Fin 50176) (h : q.val < 50000) : StableHlo.after (hostOps0_2 (F := Ideal)) X main_v3 (ix1 q) = X main_v2 (ix1 (⟨q.val, h⟩ : Fin 50000)) := by
  rw [hostOps0_2]
  after_reads_simp
  refine (pad1_at (X main_v2 : S50000.Idx → Ideal .f32) _ q).trans ?_
  rw [dif_pos h]

theorem v5_at (n : Fin 50000) : StableHlo.after (hostOps0_3 (F := Ideal)) X main_v5 (ix1 n) = X main_arg0 (ix2 n (1 : Fin 3)) := by
  rw [hostOps0_3]
  after_reads_at

theorem v6_at (q : Fin 50176) (h : q.val < 50000) : StableHlo.after (hostOps0_4 (F := Ideal)) X main_v6 (ix1 q) = X main_v5 (ix1 (⟨q.val, h⟩ : Fin 50000)) := by
  rw [hostOps0_4]
  after_reads_simp
  refine (pad1_at (X main_v5 : S50000.Idx → Ideal .f32) _ q).trans ?_
  rw [dif_pos h]

theorem v8_at (n : Fin 50000) : StableHlo.after (hostOps0_5 (F := Ideal)) X main_v8 (ix1 n) = X main_arg0 (ix2 n (2 : Fin 3)) := by
  rw [hostOps0_5]
  after_reads_at

theorem v9_at (q : Fin 50176) (h : q.val < 50000) : StableHlo.after (hostOps0_6 (F := Ideal)) X main_v9 (ix1 q) = X main_v8 (ix1 (⟨q.val, h⟩ : Fin 50000)) := by
  rw [hostOps0_6]
  after_reads_simp
  refine (pad1_at (X main_v8 : S50000.Idx → Ideal .f32) _ q).trans ?_
  rw [dif_pos h]

theorem v11_at (n : Fin 50000) : StableHlo.after (hostOps0_7 (F := Ideal)) X main_v11 (ix1 n) = X main_v0 (ix2 n (0 : Fin 3)) := by
  rw [hostOps0_7]
  after_reads_at

theorem v12_at (q : Fin 50176) (h : q.val < 50000) : StableHlo.after (hostOps0_8 (F := Ideal)) X main_v12 (ix1 q) = X main_v11 (ix1 (⟨q.val, h⟩ : Fin 50000)) := by
  rw [hostOps0_8]
  after_reads_simp
  refine (pad1_at (X main_v11 : S50000.Idx → Ideal .f32) _ q).trans ?_
  rw [dif_pos h]

theorem v14_at (n : Fin 50000) : StableHlo.after (hostOps0_9 (F := Ideal)) X main_v14 (ix1 n) = X main_v0 (ix2 n (1 : Fin 3)) := by
  rw [hostOps0_9]
  after_reads_at

theorem v15_at (q : Fin 50176) (h : q.val < 50000) : StableHlo.after (hostOps0_10 (F := Ideal)) X main_v15 (ix1 q) = X main_v14 (ix1 (⟨q.val, h⟩ : Fin 50000)) := by
  rw [hostOps0_10]
  after_reads_simp
  refine (pad1_at (X main_v14 : S50000.Idx → Ideal .f32) _ q).trans ?_
  rw [dif_pos h]

theorem v17_at (n : Fin 50000) : StableHlo.after (hostOps0_11 (F := Ideal)) X main_v17 (ix1 n) = X main_v0 (ix2 n (2 : Fin 3)) := by
  rw [hostOps0_11]
  after_reads_at

theorem v18_at (q : Fin 50176) (h : q.val < 50000) : StableHlo.after (hostOps0_12 (F := Ideal)) X main_v18 (ix1 q) = X main_v17 (ix1 (⟨q.val, h⟩ : Fin 50000)) := by
  rw [hostOps0_12]
  after_reads_simp
  refine (pad1_at (X main_v17 : S50000.Idx → Ideal .f32) _ q).trans ?_
  rw [dif_pos h]

theorem v19_at (q : Fin 50176) (h : q.val < 50000) : StableHlo.after (hostOps0_14 (F := Ideal)) X main_v19 (ix1 q) = X main_arg2 (ix1 (⟨q.val, h⟩ : Fin 50000)) := by
  rw [hostOps0_14]
  after_reads_simp
  refine (pad1_at (X main_arg2 : S50000.Idx → Ideal .f32) _ q).trans ?_
  rw [dif_pos h]

theorem v19_pad (q : Fin 50176) (h : ¬ q.val < 50000) (hc : ∀ i, X main_c_4 i = (0#32 : BitVec 32)) : StableHlo.after (hostOps0_14 (F := Ideal)) X main_v19 (ix1 q) = (0 : EReal) := by
  rw [hostOps0_14]
  after_reads_simp
  refine (pad1_at (X main_arg2 : S50000.Idx → Ideal .f32) _ q).trans ?_
  rw [dif_neg h]
  show FloatOps.sitofp (F := Ideal) .f32 (X main_c_4 _ : BitVec 32) = (0 : EReal)
  rw [hc]
  simp [FloatOps.sitofp]

theorem c4_at (i : S_.Idx) : StableHlo.after (hostOps0_13 (F := Ideal)) X main_c_4 i = (0#32 : BitVec 32) := by
  rw [hostOps0_13]
  after_reads_at

theorem v32_at (q : Fin 50176) (f : Fin 16) (h : q.val < 50000) : StableHlo.after (hostOps0_16 (F := Ideal)) X main_v32 (ix2 q f) =
    X main_arg3 (ix2 (⟨q.val, h⟩ : Fin 50000) f) := by
  rw [hostOps0_16]
  after_reads_simp
  exact pad2_at (X main_arg3 : S50000x16.Idx → Ideal .f32) _ q f h

theorem v35_at (q : Fin 50176) (l : Fin 256) : StableHlo.after (hostOps0_17 (F := Ideal)) X main_v35 (ix2 q l) =
    X main_v32 (ix2 q (⟨l.val % 16, by omega⟩ : Fin 16)) := by
  rw [hostOps0_17]
  after_reads_at

theorem row0_at (q : Fin 50176) : StableHlo.after ((hostOps0_15 (F := Ideal)).take 10) X main_v21 (ix2 (0 : Fin 1) q) = X main_v3 (ix1 q) := by
  rw [hostOps0_15]
  simp only [List.take]
  after_reads_at

theorem row1_at (q : Fin 50176) : StableHlo.after ((hostOps0_15 (F := Ideal)).take 10) X main_v22 (ix2 (0 : Fin 1) q) = X main_v6 (ix1 q) := by
  rw [hostOps0_15]
  simp only [List.take]
  after_reads_at

theorem row2_at (q : Fin 50176) : StableHlo.after ((hostOps0_15 (F := Ideal)).take 10) X main_v23 (ix2 (0 : Fin 1) q) = X main_v9 (ix1 q) := by
  rw [hostOps0_15]
  simp only [List.take]
  after_reads_at

theorem row3_at (q : Fin 50176) : StableHlo.after ((hostOps0_15 (F := Ideal)).take 10) X main_v24 (ix2 (0 : Fin 1) q) = X main_v12 (ix1 q) := by
  rw [hostOps0_15]
  simp only [List.take]
  after_reads_at

theorem row4_at (q : Fin 50176) : StableHlo.after ((hostOps0_15 (F := Ideal)).take 10) X main_v25 (ix2 (0 : Fin 1) q) = X main_v15 (ix1 q) := by
  rw [hostOps0_15]
  simp only [List.take]
  after_reads_at

theorem row5_at (q : Fin 50176) : StableHlo.after ((hostOps0_15 (F := Ideal)).take 10) X main_v26 (ix2 (0 : Fin 1) q) = X main_v18 (ix1 q) := by
  rw [hostOps0_15]
  simp only [List.take]
  after_reads_at

theorem row6_at (q : Fin 50176) : StableHlo.after ((hostOps0_15 (F := Ideal)).take 10) X main_v27 (ix2 (0 : Fin 1) q) = X main_v19 (ix1 q) := by
  rw [hostOps0_15]
  simp only [List.take]
  after_reads_at

theorem row7_at (q : Fin 50176) : StableHlo.after ((hostOps0_15 (F := Ideal)).take 10) X main_v28 (ix2 (0 : Fin 1) q) = (0 : EReal) := by
  rw [hostOps0_15]
  simp only [List.take]
  after_reads_at

theorem stack0_at (t : Fin 98) (k : Fin 512) : StableHlo.after ((hostOps0_15 (F := Ideal)).drop 10) X main_v31 (ix3 t (0 : Fin 8) k) =
    X main_v21 (ix2 (0 : Fin 1) (⟨t.val * 512 + k.val, by omega⟩ : Fin 50176)) := by
  rw [hostOps0_15]
  simp only [List.drop]
  after_reads_at
  try rfl

theorem stack1_at (t : Fin 98) (k : Fin 512) : StableHlo.after ((hostOps0_15 (F := Ideal)).drop 10) X main_v31 (ix3 t (1 : Fin 8) k) =
    X main_v22 (ix2 (0 : Fin 1) (⟨t.val * 512 + k.val, by omega⟩ : Fin 50176)) := by
  rw [hostOps0_15]
  simp only [List.drop]
  after_reads_at
  try rfl

theorem stack2_at (t : Fin 98) (k : Fin 512) : StableHlo.after ((hostOps0_15 (F := Ideal)).drop 10) X main_v31 (ix3 t (2 : Fin 8) k) =
    X main_v23 (ix2 (0 : Fin 1) (⟨t.val * 512 + k.val, by omega⟩ : Fin 50176)) := by
  rw [hostOps0_15]
  simp only [List.drop]
  after_reads_at
  try rfl

theorem stack3_at (t : Fin 98) (k : Fin 512) : StableHlo.after ((hostOps0_15 (F := Ideal)).drop 10) X main_v31 (ix3 t (3 : Fin 8) k) =
    X main_v24 (ix2 (0 : Fin 1) (⟨t.val * 512 + k.val, by omega⟩ : Fin 50176)) := by
  rw [hostOps0_15]
  simp only [List.drop]
  after_reads_at
  try rfl

theorem stack4_at (t : Fin 98) (k : Fin 512) : StableHlo.after ((hostOps0_15 (F := Ideal)).drop 10) X main_v31 (ix3 t (4 : Fin 8) k) =
    X main_v25 (ix2 (0 : Fin 1) (⟨t.val * 512 + k.val, by omega⟩ : Fin 50176)) := by
  rw [hostOps0_15]
  simp only [List.drop]
  after_reads_at
  try rfl

theorem stack5_at (t : Fin 98) (k : Fin 512) : StableHlo.after ((hostOps0_15 (F := Ideal)).drop 10) X main_v31 (ix3 t (5 : Fin 8) k) =
    X main_v26 (ix2 (0 : Fin 1) (⟨t.val * 512 + k.val, by omega⟩ : Fin 50176)) := by
  rw [hostOps0_15]
  simp only [List.drop]
  after_reads_at
  try rfl

theorem stack6_at (t : Fin 98) (k : Fin 512) : StableHlo.after ((hostOps0_15 (F := Ideal)).drop 10) X main_v31 (ix3 t (6 : Fin 8) k) =
    X main_v27 (ix2 (0 : Fin 1) (⟨t.val * 512 + k.val, by omega⟩ : Fin 50176)) := by
  rw [hostOps0_15]
  simp only [List.drop]
  after_reads_at
  try rfl

theorem stack7_at (t : Fin 98) (k : Fin 512) : StableHlo.after ((hostOps0_15 (F := Ideal)).drop 10) X main_v31 (ix3 t (7 : Fin 8) k) =
    X main_v28 (ix2 (0 : Fin 1) (⟨t.val * 512 + k.val, by omega⟩ : Fin 50176)) := by
  rw [hostOps0_15]
  simp only [List.drop]
  after_reads_at
  try rfl

/-- The diagonal's indices: a row's place, twice. -/
theorem diag_gather {α : Type} (x : S50000x3x3.Idx → α) (idx : IVec S3x2 32) (hi : ∀ (a : Fin 3) (b : Fin 2), idx (ix2 a b) = BitVec.ofNat 32 a.val)
    (n : Fin 50000) (a : Fin 3) :
    Host.gather gather_S50000x3x3_S3x2_S50000x3_0_12_n_n_12_1_5000011 x idx (ix2 n a) = x (ix3 n a a) := by
  unfold Host.gather
  have hs (k : Fin 2) : (gather_S50000x3x3_S3x2_S50000x3_0_12_n_n_12_1_5000011).siIdx (ix2 n a) k = ix2 a k := by
    funext b
    match b with
    | ⟨0, _⟩ => rfl
    | ⟨1, _⟩ => rfl
  have hm : min (BitVec.ofNat 32 a.val).toInt.toNat 2 = a.val := by fin_cases a <;> rfl
  have p0 : (gather_S50000x3x3_S3x2_S50000x3_0_12_n_n_12_1_5000011).start (ix2 n a) idx (0 : Fin 3) + (gather_S50000x3x3_S3x2_S50000x3_0_12_n_n_12_1_5000011).batchCoord (ix2 n a) (0 : Fin 3)
      + (gather_S50000x3x3_S3x2_S50000x3_0_12_n_n_12_1_5000011).offCoord (ix2 n a) (0 : Fin 3) = n.val := by
    rw [GatherDims.batchCoord_eq_zero _ _ _ List.not_mem_nil]
    unfold GatherDims.start
    rw [dif_neg (show (0 : Fin 3) ∉ (gather_S50000x3x3_S3x2_S50000x3_0_12_n_n_12_1_5000011).startIndexMap by decide)]
    show 0 + 0 + n.val = n.val
    omega
  have p1 : (gather_S50000x3x3_S3x2_S50000x3_0_12_n_n_12_1_5000011).start (ix2 n a) idx (1 : Fin 3) + (gather_S50000x3x3_S3x2_S50000x3_0_12_n_n_12_1_5000011).batchCoord (ix2 n a) (1 : Fin 3)
      + (gather_S50000x3x3_S3x2_S50000x3_0_12_n_n_12_1_5000011).offCoord (ix2 n a) (1 : Fin 3) = a.val := by
    rw [GatherDims.batchCoord_eq_zero _ _ _ List.not_mem_nil, GatherDims.offCoord_eq_zero _ _ _ (show (1 : Fin 3) ∉ (gather_S50000x3x3_S3x2_S50000x3_0_12_n_n_12_1_5000011).sKept by decide)]
    unfold GatherDims.start
    rw [dif_pos (show (1 : Fin 3) ∈ (gather_S50000x3x3_S3x2_S50000x3_0_12_n_n_12_1_5000011).startIndexMap by decide)]
    show min (idx ((gather_S50000x3x3_S3x2_S50000x3_0_12_n_n_12_1_5000011).siIdx (ix2 n a) (0 : Fin 2))).toInt.toNat 2 = a.val
    rw [hs, hi]
    exact hm
  have p2 : (gather_S50000x3x3_S3x2_S50000x3_0_12_n_n_12_1_5000011).start (ix2 n a) idx (2 : Fin 3) + (gather_S50000x3x3_S3x2_S50000x3_0_12_n_n_12_1_5000011).batchCoord (ix2 n a) (2 : Fin 3)
      + (gather_S50000x3x3_S3x2_S50000x3_0_12_n_n_12_1_5000011).offCoord (ix2 n a) (2 : Fin 3) = a.val := by
    rw [GatherDims.batchCoord_eq_zero _ _ _ List.not_mem_nil, GatherDims.offCoord_eq_zero _ _ _ (show (2 : Fin 3) ∉ (gather_S50000x3x3_S3x2_S50000x3_0_12_n_n_12_1_5000011).sKept by decide)]
    unfold GatherDims.start
    rw [dif_pos (show (2 : Fin 3) ∈ (gather_S50000x3x3_S3x2_S50000x3_0_12_n_n_12_1_5000011).startIndexMap by decide)]
    show min (idx ((gather_S50000x3x3_S3x2_S50000x3_0_12_n_n_12_1_5000011).siIdx (ix2 n a) (1 : Fin 2))).toInt.toNat 2 = a.val
    rw [hs, hi]
    exact hm
  refine congrArg x (funext fun b => Fin.ext ?_)
  match b with
  | ⟨0, _⟩ => exact p0
  | ⟨1, _⟩ => exact p1
  | ⟨2, _⟩ => exact p2

theorem v14a_at (a : Fin 3) : StableHlo.after ((hostOps0 (F := Ideal)).take 18) X main_call0_v12 (ix2 a (0 : Fin 1)) = BitVec.ofNat 32 a.val := by
  rw [hostOps0]
  simp only [List.take]
  after_reads_at
  fin_cases a <;> rfl

theorem v14b_at (a : Fin 3) : StableHlo.after ((hostOps0 (F := Ideal)).take 18) X main_call0_v13 (ix2 a (0 : Fin 1)) = BitVec.ofNat 32 a.val := by
  rw [hostOps0]
  simp only [List.take]
  after_reads_at
  fin_cases a <;> rfl

theorem v0_last : StableHlo.after ((hostOps0 (F := Ideal)).drop 18) X main_v0 =
    Host.gather gather_S50000x3x3_S3x2_S50000x3_0_12_n_n_12_1_5000011 (X main_arg1 : S50000x3x3.Idx → Ideal .f32)
      (concatenate S3x2 1 [⟨S3x1, (X main_call0_v12 : S3x1.Idx → BitVec 32)⟩, ⟨S3x1, (X main_call0_v13 : S3x1.Idx → BitVec 32)⟩] concatenates_S3x1_S3x1_S3x2_d1) := by
  rw [hostOps0]
  simp only [List.drop]
  after_results_simp
  rfl

theorem cat_at (u v : S3x1.Idx → BitVec 32) (hu : ∀ a : Fin 3, u (ix2 a (0 : Fin 1)) = BitVec.ofNat 32 a.val)
    (hv : ∀ a : Fin 3, v (ix2 a (0 : Fin 1)) = BitVec.ofNat 32 a.val) (a : Fin 3) (b : Fin 2) :
    concatenate S3x2 1 [⟨S3x1, u⟩, ⟨S3x1, v⟩] concatenates_S3x1_S3x1_S3x2_d1 (ix2 a b) = BitVec.ofNat 32 a.val := by
  fin_cases b
  · show concatenate S3x2 1 [⟨S3x1, u⟩, ⟨S3x1, v⟩] concatenates_S3x1_S3x1_S3x2_d1 (ix2 a (0 : Fin 2)) = _
    pointwise
    exact hu a
  · show concatenate S3x2 1 [⟨S3x1, u⟩, ⟨S3x1, v⟩] concatenates_S3x1_S3x1_S3x2_d1 (ix2 a (1 : Fin 2)) = _
    pointwise
    exact hv a

theorem arg1_take : StableHlo.after ((hostOps0 (F := Ideal)).take 18) X main_arg1 = X main_arg1 := by
  rw [hostOps0]
  simp only [List.take]
  after_reads_simp

theorem v0_at (n : Fin 50000) (a : Fin 3) : StableHlo.after (hostOps0 (F := Ideal)) X main_v0 (ix2 n a) = X main_arg1 (ix3 n a a) := by
  have h : StableHlo.after (hostOps0 (F := Ideal)) X = StableHlo.after ((hostOps0 (F := Ideal)).drop 18) (StableHlo.after ((hostOps0 (F := Ideal)).take 18) X) := rfl
  rw [h, v0_last, diag_gather _ _ (cat_at _ _ (v14a_at X) (v14b_at X)), arg1_take]

end Lists

variable (m : (ℓ : Loc nD τ sig) → Buf (Elt Ideal) ℓ) (c : Dev nD)

theorem diag_V1 (n : Fin 50000) (a : Fin 3) : V1 m c main_v0 (ix2 n a) = m ((c.tc : Thread nD τ).loc main_arg1) (ix3 n a a) := v0_at (V0 m c) n a

theorem rec0_V15 (q : Fin 50176) (h : q.val < 50000) : V15 m c main_v3 (ix1 q) = m ((c.tc : Thread nD τ).loc main_arg0) (ix2 (⟨q.val, h⟩ : Fin 50000) (0 : Fin 3)) := by
  rw [V15_of m c main_v3 (by decide), V14_of m c main_v3 (by decide), V13_of m c main_v3 (by decide), V12_of m c main_v3 (by decide), V11_of m c main_v3 (by decide), V10_of m c main_v3 (by decide), V9_of m c main_v3 (by decide), V8_of m c main_v3 (by decide), V7_of m c main_v3 (by decide), V6_of m c main_v3 (by decide), V5_of m c main_v3 (by decide), V4_of m c main_v3 (by decide)]
  refine (v3_at (V2 m c) q h).trans ?_
  refine (v2_at (V1 m c) ⟨q.val, h⟩).trans ?_
  rw [V1_of m c main_arg0 (by decide)]

theorem rec1_V15 (q : Fin 50176) (h : q.val < 50000) : V15 m c main_v6 (ix1 q) = m ((c.tc : Thread nD τ).loc main_arg0) (ix2 (⟨q.val, h⟩ : Fin 50000) (1 : Fin 3)) := by
  rw [V15_of m c main_v6 (by decide), V14_of m c main_v6 (by decide), V13_of m c main_v6 (by decide), V12_of m c main_v6 (by decide), V11_of m c main_v6 (by decide), V10_of m c main_v6 (by decide), V9_of m c main_v6 (by decide), V8_of m c main_v6 (by decide), V7_of m c main_v6 (by decide), V6_of m c main_v6 (by decide)]
  refine (v6_at (V4 m c) q h).trans ?_
  refine (v5_at (V3 m c) ⟨q.val, h⟩).trans ?_
  rw [V3_of m c main_arg0 (by decide), V2_of m c main_arg0 (by decide), V1_of m c main_arg0 (by decide)]

theorem rec2_V15 (q : Fin 50176) (h : q.val < 50000) : V15 m c main_v9 (ix1 q) = m ((c.tc : Thread nD τ).loc main_arg0) (ix2 (⟨q.val, h⟩ : Fin 50000) (2 : Fin 3)) := by
  rw [V15_of m c main_v9 (by decide), V14_of m c main_v9 (by decide), V13_of m c main_v9 (by decide), V12_of m c main_v9 (by decide), V11_of m c main_v9 (by decide), V10_of m c main_v9 (by decide), V9_of m c main_v9 (by decide), V8_of m c main_v9 (by decide)]
  refine (v9_at (V6 m c) q h).trans ?_
  refine (v8_at (V5 m c) ⟨q.val, h⟩).trans ?_
  rw [V5_of m c main_arg0 (by decide), V4_of m c main_arg0 (by decide), V3_of m c main_arg0 (by decide), V2_of m c main_arg0 (by decide), V1_of m c main_arg0 (by decide)]

theorem rec3_V15 (q : Fin 50176) (h : q.val < 50000) : V15 m c main_v12 (ix1 q) = m ((c.tc : Thread nD τ).loc main_arg1) (ix3 (⟨q.val, h⟩ : Fin 50000) (0 : Fin 3) (0 : Fin 3)) := by
  rw [V15_of m c main_v12 (by decide), V14_of m c main_v12 (by decide), V13_of m c main_v12 (by decide), V12_of m c main_v12 (by decide), V11_of m c main_v12 (by decide), V10_of m c main_v12 (by decide)]
  refine (v12_at (V8 m c) q h).trans ?_
  refine (v11_at (V7 m c) ⟨q.val, h⟩).trans ?_
  rw [V7_of m c main_v0 (by decide), V6_of m c main_v0 (by decide), V5_of m c main_v0 (by decide), V4_of m c main_v0 (by decide), V3_of m c main_v0 (by decide), V2_of m c main_v0 (by decide)]
  exact diag_V1 m c _ _

theorem rec4_V15 (q : Fin 50176) (h : q.val < 50000) : V15 m c main_v15 (ix1 q) = m ((c.tc : Thread nD τ).loc main_arg1) (ix3 (⟨q.val, h⟩ : Fin 50000) (1 : Fin 3) (1 : Fin 3)) := by
  rw [V15_of m c main_v15 (by decide), V14_of m c main_v15 (by decide), V13_of m c main_v15 (by decide), V12_of m c main_v15 (by decide)]
  refine (v15_at (V10 m c) q h).trans ?_
  refine (v14_at (V9 m c) ⟨q.val, h⟩).trans ?_
  rw [V9_of m c main_v0 (by decide), V8_of m c main_v0 (by decide), V7_of m c main_v0 (by decide), V6_of m c main_v0 (by decide), V5_of m c main_v0 (by decide), V4_of m c main_v0 (by decide), V3_of m c main_v0 (by decide), V2_of m c main_v0 (by decide)]
  exact diag_V1 m c _ _

theorem rec5_V15 (q : Fin 50176) (h : q.val < 50000) : V15 m c main_v18 (ix1 q) = m ((c.tc : Thread nD τ).loc main_arg1) (ix3 (⟨q.val, h⟩ : Fin 50000) (2 : Fin 3) (2 : Fin 3)) := by
  rw [V15_of m c main_v18 (by decide), V14_of m c main_v18 (by decide)]
  refine (v18_at (V12 m c) q h).trans ?_
  refine (v17_at (V11 m c) ⟨q.val, h⟩).trans ?_
  rw [V11_of m c main_v0 (by decide), V10_of m c main_v0 (by decide), V9_of m c main_v0 (by decide), V8_of m c main_v0 (by decide), V7_of m c main_v0 (by decide), V6_of m c main_v0 (by decide), V5_of m c main_v0 (by decide), V4_of m c main_v0 (by decide), V3_of m c main_v0 (by decide), V2_of m c main_v0 (by decide)]
  exact diag_V1 m c _ _

theorem rec6_V15 (q : Fin 50176) (h : q.val < 50000) : V15 m c main_v19 (ix1 q) = m ((c.tc : Thread nD τ).loc main_arg2) (ix1 (⟨q.val, h⟩ : Fin 50000)) := by
  refine (v19_at (V14 m c) q h).trans ?_
  rw [V14_of m c main_arg2 (by decide), V13_of m c main_arg2 (by decide), V12_of m c main_arg2 (by decide), V11_of m c main_arg2 (by decide), V10_of m c main_arg2 (by decide), V9_of m c main_arg2 (by decide), V8_of m c main_arg2 (by decide), V7_of m c main_arg2 (by decide), V6_of m c main_arg2 (by decide), V5_of m c main_arg2 (by decide), V4_of m c main_arg2 (by decide), V3_of m c main_arg2 (by decide), V2_of m c main_arg2 (by decide), V1_of m c main_arg2 (by decide)]

theorem pad6_V15 (q : Fin 50176) (h : ¬ q.val < 50000) : V15 m c main_v19 (ix1 q) = (0 : EReal) :=
  v19_pad (V14 m c) q h (c4_at (V13 m c))

theorem V16_split : V16 m c = StableHlo.after ((hostOps0_15 (F := Ideal)).drop 10) (StableHlo.after ((hostOps0_15 (F := Ideal)).take 10) (V15 m c)) := rfl

theorem v31_V18 : V18 m c main_v31 = V16 m c main_v31 := by
  rw [V18_of m c main_v31 (by decide), V17_of m c main_v31 (by decide)]

theorem meta0 (t : Fin 98) (k : Fin 512) : V18 m c main_v31 (ix3 t (0 : Fin 8) k) = V15 m c main_v3 (ix1 (⟨t.val * 512 + k.val, by omega⟩ : Fin 50176)) := by
  rw [v31_V18, V16_split]
  exact (stack0_at _ t k).trans (row0_at _ _)

theorem meta1 (t : Fin 98) (k : Fin 512) : V18 m c main_v31 (ix3 t (1 : Fin 8) k) = V15 m c main_v6 (ix1 (⟨t.val * 512 + k.val, by omega⟩ : Fin 50176)) := by
  rw [v31_V18, V16_split]
  exact (stack1_at _ t k).trans (row1_at _ _)

theorem meta2 (t : Fin 98) (k : Fin 512) : V18 m c main_v31 (ix3 t (2 : Fin 8) k) = V15 m c main_v9 (ix1 (⟨t.val * 512 + k.val, by omega⟩ : Fin 50176)) := by
  rw [v31_V18, V16_split]
  exact (stack2_at _ t k).trans (row2_at _ _)

theorem meta3 (t : Fin 98) (k : Fin 512) : V18 m c main_v31 (ix3 t (3 : Fin 8) k) = V15 m c main_v12 (ix1 (⟨t.val * 512 + k.val, by omega⟩ : Fin 50176)) := by
  rw [v31_V18, V16_split]
  exact (stack3_at _ t k).trans (row3_at _ _)

theorem meta4 (t : Fin 98) (k : Fin 512) : V18 m c main_v31 (ix3 t (4 : Fin 8) k) = V15 m c main_v15 (ix1 (⟨t.val * 512 + k.val, by omega⟩ : Fin 50176)) := by
  rw [v31_V18, V16_split]
  exact (stack4_at _ t k).trans (row4_at _ _)

theorem meta5 (t : Fin 98) (k : Fin 512) : V18 m c main_v31 (ix3 t (5 : Fin 8) k) = V15 m c main_v18 (ix1 (⟨t.val * 512 + k.val, by omega⟩ : Fin 50176)) := by
  rw [v31_V18, V16_split]
  exact (stack5_at _ t k).trans (row5_at _ _)

theorem meta6 (t : Fin 98) (k : Fin 512) : V18 m c main_v31 (ix3 t (6 : Fin 8) k) = V15 m c main_v19 (ix1 (⟨t.val * 512 + k.val, by omega⟩ : Fin 50176)) := by
  rw [v31_V18, V16_split]
  exact (stack6_at _ t k).trans (row6_at _ _)

theorem meta7 (t : Fin 98) (k : Fin 512) : V18 m c main_v31 (ix3 t (7 : Fin 8) k) = (0 : EReal) := by
  rw [v31_V18, V16_split]
  exact (stack7_at _ t k).trans (row7_at _ _)

theorem feat_V18 (q : Fin 50176) (l : Fin 256) (h : q.val < 50000) : V18 m c main_v35 (ix2 q l) =
    m ((c.tc : Thread nD τ).loc main_arg3) (ix2 (⟨q.val, h⟩ : Fin 50000) (⟨l.val % 16, by omega⟩ : Fin 16)) := by
  refine (v35_at (V17 m c) q l).trans ?_
  refine (v32_at (V16 m c) q _ h).trans ?_
  rw [V16_of m c main_arg3 (by decide), V15_of m c main_arg3 (by decide), V14_of m c main_arg3 (by decide), V13_of m c main_arg3 (by decide), V12_of m c main_arg3 (by decide), V11_of m c main_arg3 (by decide), V10_of m c main_arg3 (by decide), V9_of m c main_arg3 (by decide), V8_of m c main_arg3 (by decide), V7_of m c main_arg3 (by decide), V6_of m c main_arg3 (by decide), V5_of m c main_arg3 (by decide), V4_of m c main_arg3 (by decide), V3_of m c main_arg3 (by decide), V2_of m c main_arg3 (by decide), V1_of m c main_arg3 (by decide)]

end Cert.KernelIdeal.Splat
-- ==== Proof.NormValue.lean ====
/- The array of normalised features after its launch: each feature sum over its clipped density. -/
module

public import proofs.«01_k».proof.Proof.NormRegion
public import proofs.«01_k».proof.Proof.DensSum
public import Idealize.ShloMosaic.Lib.Pipeline.ValueKit.Geometry
public import Idealize.ShloMosaic.Lib.Pointwise

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Idealize.ShloMosaic.Pipeline (Dat)
open Cert.Splat

theorem lane16 (p : Fin 16) (l : Fin 256) : k2_pay2 (ix2 p l) = BitVec.ofNat 32 (l.val / 16) := by
  unfold k2_pay2
  pointwise
  revert l
  decide +kernel

theorem norm_pure (x : Vec Ideal S16x16 .f32) (y : Vec Ideal S16x256 .f32) (p : Fin 16) (l : Fin 256) :
    k2_pay1 (F := Ideal) k2_pay2 (k2_pay14 k2_pay2 (k2_pay3 x) (k2_pay10 k2_pay2 (k2_pay3 x)
        (k2_pay7 k2_pay2 (k2_pay3 x) (k2_pay4 x) (k2_pay5 x) k2_pay6 normBody.sl.cst_10) (k2_pay8 (k2_pay3 x)) k2_pay9)
        (k2_pay11 k2_pay2) (k2_pay12 (k2_pay3 x)) k2_pay13) (k2_pay15 (k2_pay3 x)) k2_pay16 y (ix2 p l)
      = Ideal.div (y (ix2 p l)) (max (x (ix2 p (⟨l.val / 16, by omega⟩ : Fin 16))) (Ideal.ofBits FTy.f32 897988541#32)) := by
  unfold k2_pay1 k2_pay14 k2_pay10 k2_pay7 k2_pay4 k2_pay5 k2_pay6 k2_pay8 k2_pay9 k2_pay11 k2_pay12 k2_pay13 k2_pay15 k2_pay16 k2_pay3 normBody.sl.cst_10
  pointwise
  simp only [lane16, select_eq]
  generalize hq : (⟨l.val / 16, by omega⟩ : Fin 16) = q
  have hq' : l.val / 16 = q.val := by rw [← hq]
  rw [hq']
  clear hq hq'
  fin_cases q <;> simp

theorem normOut_at (c : Dev nD) (i : grid2.Coords) (M0 : Memref sig .tc .vmem S16x16 .f32) (h0 : M0.IsWhole)
    (Mt : Memref sig .tc .vmem S16x256 .f32) (ht : Mt.IsWhole) (M1 : Memref sig .tc .vmem S16x256 .f32) (h1 : M1.IsWhole)
    (x : S16x16.Idx → EReal) (y : S16x256.Idx → EReal) (p : Fin 16) (l : Fin 256) :
    normOut (F := Ideal) c i M0 h0 Mt ht M1 h1 x y (ix2 p l)
      = Ideal.div (y (ix2 p l)) (max (x (ix2 p (⟨l.val / 16, by omega⟩ : Fin 16))) (Ideal.ofBits FTy.f32 897988541#32)) := by
  have ex : View.readAt (Elt Ideal) M0.view (Rect.unit ![0, 0] S16x16.size inb_S16x16_S16x16_0_0).toLoadRect (h0.unread (Val := Elt Ideal) x) = x := by
    funext j
    rw [View.readAt_apply, h0.read_unread]
    refine congrArg x (funext fun a => Fin.ext ?_)
    fin_cases a
    · show 0 + 1 * (j 0).val = (j 0).val
      omega
    · show 0 + 1 * (j 1).val = (j 1).val
      omega
  have ey : View.readAt (Elt Ideal) Mt.view (Rect.unit ![0, 0] S16x256.size inb_S16x256_S16x256_0_0).toLoadRect (ht.unread (Val := Elt Ideal) y) = y := by
    funext j
    rw [View.readAt_apply, ht.read_unread]
    refine congrArg y (funext fun a => Fin.ext ?_)
    fin_cases a
    · show 0 + 1 * (j 0).val = (j 0).val
      omega
    · show 0 + 1 * (j 1).val = (j 1).val
      omega
  unfold normOut normBody
  dsimp only
  unfold normBody.sl.HO_1
  refine (congrFun (View.read_writes_full _ _ _ _ _) _).trans ?_
  unfold normBody.sl.r_7 normBody.sl.r_8 normBody.sl.r_6 normBody.sl.r_5 normBody.sl.r_4 normBody.sl.r_3 normBody.sl.r_2 normBody.sl.r_1 normBody.sl.r
  rw [ex, ey]
  exact norm_pure x y p l

variable (W : Dev nD → Valuation τ sig (Elt Ideal))

theorem win2_0_index : ∀ t : Fin cfg2.N, win2_0.index t = ![t.val, 0] := (by decide +kernel : ∀ t : Fin grid2.N, _)

theorem win2_1_index : ∀ t : Fin cfg2.N, win2_1.index t = ![t.val, 0] := (by decide +kernel : ∀ t : Fin grid2.N, _)

theorem win2_2_index : ∀ t : Fin cfg2.N, win2_2.index t = ![t.val, 0] := (by decide +kernel : ∀ t : Fin grid2.N, _)

/-- The quotients, as one array. -/
def normArr (c : Dev nD) : S40816x256.Idx → EReal := fun j =>
  Ideal.div (W c main_v37 (ix2 (j 0) (j 1)))
    (max (W c main_v36 (ix2 (j 0) (⟨(j 1).val / 16, by have := (j 1).isLt; simp at this; omega⟩ : Fin 16))) (Ideal.ofBits FTy.f32 897988541#32))

theorem normStg0_at (c : Dev nD) (t : Fin cfg2.N) (p z : Fin 16) (h : t.val * 16 + p.val < 40816) :
    normStg0 (F := Ideal) W c t (ix2 p z) = W c main_v36 (ix2 (⟨t.val * 16 + p.val, h⟩ : Fin 40816) z) := by
  unfold normStg0
  blk_simp
  congr 1
  blk_ext [win2_0_index]

theorem normStg1_at (c : Dev nD) (t : Fin cfg2.N) (p : Fin 16) (l : Fin 256) (h : t.val * 16 + p.val < 40816) :
    normStg1 (F := Ideal) W c t (ix2 p l) = W c main_v37 (ix2 (⟨t.val * 16 + p.val, h⟩ : Fin 40816) l) := by
  unfold normStg1
  blk_simp
  congr 1
  blk_ext [win2_1_index]

/-- The normalised features at a row and a lane. -/
theorem norm_array (c : Dev nD) : (dat2 (F := Ideal) W c).arrAt 2 cfg2.N = normArr W c := by
  refine (dat2 (F := Ideal) W c).arrAt_eq_of_covers 2 _ (by decide +kernel) fun t hf y => ?_
  blk_simp
  show normRes (F := Ideal) W c t y = _
  obtain ⟨p, l, rfl⟩ : ∃ (p : Fin 16) (l : Fin 256), y = ix2 p l := ⟨y 0, y 1, by funext a; fin_cases a <;> rfl⟩
  have ht : t.val < 2551 := t.isLt
  have hp : t.val * 16 + p.val < 40816 := by have := p.isLt; omega
  unfold normRes
  rw [normOut_at, normStg0_at W c t p _ hp, normStg1_at W c t p l hp]
  have e : normArr W c (ix2 (⟨t.val * 16 + p.val, hp⟩ : Fin 40816) l) = Ideal.div (W c main_v37 (ix2 ⟨t.val * 16 + p.val, hp⟩ l))
      (max (W c main_v36 (ix2 ⟨t.val * 16 + p.val, hp⟩ (⟨l.val / 16, by omega⟩ : Fin 16))) (Ideal.ofBits FTy.f32 897988541#32)) := rfl
  refine e.symm.trans ?_
  generalize normArr W c = g
  congr 1
  blk_ext [win2_2_index]

end Cert.KernelIdeal.Splat
-- ==== Proof.HostOut.lean ====
/-
  The kernel's results at an index, and their equation with the reference's.
-/
module

public import proofs.«01_k».proof.Proof.Sums
public import proofs.«01_k».proof.Proof.HostIn
public import proofs.«01_k».proof.Proof.NormValue
public import proofs.«01_k».proof.Proof.DensValue
public import proofs.«01_k».proof.Proof.Run

@[expose] public section

set_option maxRecDepth 16384

noncomputable section

namespace Cert.KernelIdeal.Splat

open Cert.KernelIdeal Cert.KernelIdeal.Gen
open Idealize.ShloMosaic Idealize.ShloMosaic.TcCoe Idealize.ShloMosaic.Tactic
open Cert.ReferenceIdeal.Splat (Good recOf density_cell features_cell)

section Lines
variable (X : Valuation τ sig (Elt Ideal))

/-- The row of the padded volume that a voxel's column is held in. -/
def rowAt (x y : Fin 200) : Fin 40816 := ⟨(x.val + 1) * 202 + (y.val + 1), by omega⟩
/-- The lane of a feature at a height. -/
def laneAt (z q : Fin 16) : Fin 256 := ⟨z.val * 16 + q.val, by omega⟩

theorem v43_at (x y : Fin 200) (z : Fin 16) :
    StableHlo.after (hostOps3 (F := Ideal)) X main_v43 (ix3 x y z) = X main_v36 (ix2 (rowAt x y) z) := by
  rw [hostOps3]
  after_reads_at
  exact congrArg (fun r => X main_v36 (ix2 r z)) (Fin.ext (by show (1 + x.val) * 202 + (1 + y.val) = (x.val + 1) * 202 + (y.val + 1); omega))

theorem v44_at (x y : Fin 200) (z q : Fin 16) :
    StableHlo.after (hostOps3 (F := Ideal)) X main_v44 (ix4 x y z q) = X main_v38 (ix2 (rowAt x y) (laneAt z q)) := by
  rw [hostOps3]
  after_reads_at
  exact congrArg (fun r => X main_v38 (ix2 r (laneAt z q))) (Fin.ext (by show (1 + x.val) * 202 + (1 + y.val) = (x.val + 1) * 202 + (y.val + 1); omega))

end Lines

variable (m : (ℓ : Loc nD τ sig) → Buf (Elt Ideal) ℓ) (c : Dev nD)

/-- The arguments. -/
def a0 : S50000x3.Idx → EReal := m ((c.tc : Thread nD τ).loc main_arg0)
def a1 : S50000x3x3.Idx → EReal := m ((c.tc : Thread nD τ).loc main_arg1)
def a2 : S50000.Idx → EReal := m ((c.tc : Thread nD τ).loc main_arg2)
def a3 : S50000x16.Idx → EReal := m ((c.tc : Thread nD τ).loc main_arg3)

theorem rec_in (t : Fin 98) (k : Fin 512) (hq : t.val * 512 + k.val < 50000) :
    recAt (W18 m) c t k = recOf (a0 m c) (a1 m c) (a2 m c) ⟨t.val * 512 + k.val, hq⟩ := by
  funext ch
  fin_cases ch
  · exact (meta0 m c t k).trans (rec0_V15 m c _ hq)
  · exact (meta1 m c t k).trans (rec1_V15 m c _ hq)
  · exact (meta2 m c t k).trans (rec2_V15 m c _ hq)
  · exact (meta3 m c t k).trans (rec3_V15 m c _ hq)
  · exact (meta4 m c t k).trans (rec4_V15 m c _ hq)
  · exact (meta5 m c t k).trans (rec5_V15 m c _ hq)
  · exact (meta6 m c t k).trans (rec6_V15 m c _ hq)
  · exact meta7 m c t k

theorem rec_out (t : Fin 98) (k : Fin 512) (hq : 50000 ≤ t.val * 512 + k.val) : recAt (W18 m) c t k 6 = (0 : EReal) :=
  (meta6 m c t k).trans (pad6_V15 m c _ (by show ¬ t.val * 512 + k.val < 50000; omega))

theorem W19_v31 : W19 m c main_v31 = W18 m c main_v31 := Function.update_of_ne (by decide) _ _
theorem W19_v35 : W19 m c main_v35 = W18 m c main_v35 := Function.update_of_ne (by decide) _ _
theorem W20_v36 : W20 m c main_v36 = o19 m c := (Function.update_of_ne (by decide) _ _).trans (Function.update_self ..)
theorem W20_v37 : W20 m c main_v37 = o20 m c := Function.update_self ..

theorem rec19 (t : Fin 98) (k : Fin 512) : recAt (W19 m) c t k = recAt (W18 m) c t k := by
  funext ch
  exact congrFun (W19_v31 m c) _

theorem ft_in (t : Fin 98) (k : Fin 512) (z q : Fin 16) (hq : t.val * 512 + k.val < 50000) :
    ftAt (W19 m) c t k (laneAt z q) = a3 m c (ix2 (⟨t.val * 512 + k.val, hq⟩ : Fin 50000) q) := by
  refine (congrFun (W19_v35 m c) _).trans ((feat_V18 m c _ (laneAt z q) hq).trans ?_)
  have hl : (⟨(laneAt z q).val % 16, by omega⟩ : Fin 16) = q := Fin.ext (by show (z.val * 16 + q.val) % 16 = q.val; omega)
  rw [hl]
  rfl

variable (G : Good (a0 m c) (a1 m c))
include G

/-- The density array holds the reference's sums. -/
theorem dens_cell (x y : Fin 200) (z : Fin 16) :
    o19 m c (ix2 (rowAt x y) z) = Cert.ReferenceIdeal.Read.val_main_v209 (F := Ideal) (a0 m c) (a1 m c) (a2 m c)
      (ix1 (⟨(x.val * 200 + y.val) * 16 + z.val, by omega⟩ : Fin 640000)) :=
  (dens_array (W18 m) c (rowAt x y) z).trans
    (density_cell (a2 m c) G (recAt (W18 m) c) (rec_in m c) (rec_out m c) x y z)

/-- The feature array holds the reference's sums. -/
theorem feats_cell (x y : Fin 200) (z q : Fin 16) :
    o20 m c (ix2 (rowAt x y) (laneAt z q)) = Cert.ReferenceIdeal.Read.val_main_v225 (F := Ideal) (a0 m c) (a1 m c) (a2 m c) (a3 m c)
      (ix2 (⟨(x.val * 200 + y.val) * 16 + z.val, by omega⟩ : Fin 640000) q) := by
  refine (feats_array (W19 m) c (rowAt x y) (laneAt z q)).trans ?_
  have hl : (laneAt z q).val / 16 = z.val := by show (z.val * 16 + q.val) / 16 = z.val; omega
  rw [hl]
  exact features_cell (a2 m c) (a3 m c) G (recAt (W19 m) c) (fun t k => ftAt (W19 m) c t k (laneAt z q)) q
    (fun t k hq => (rec19 m c t k).trans (rec_in m c t k hq)) (fun t k hq => (congrFun (rec19 m c t k) 6).trans (rec_out m c t k hq))
    (fun t k hq => ft_in m c t k z q hq) x y z

/-- The density result is the reference's. -/
theorem density_eq : (V22 m (outs m) c main_v43 : S200x200x16.Idx → EReal) =
    Cert.ReferenceIdeal.Read.val_main_v210 (F := Ideal) (a0 m c) (a1 m c) (a2 m c) := by
  funext i
  obtain ⟨x, y, z, rfl⟩ : ∃ x y z, i = ix3 x y z :=
    ⟨i 0, i 1, i 2, funext fun b => match b with | ⟨0, _⟩ => rfl | ⟨1, _⟩ => rfl | ⟨2, _⟩ => rfl⟩
  refine (v43_at (V21 m (outs m) c) x y z).trans ?_
  rw [V21_eq, W21_v36]
  refine (dens_cell m c G x y z).trans (Eq.trans (congrArg _ ?_) (Cert.ReferenceIdeal.Read.val_main_v210_apply _ _ _ (ix3 x y z)).symm)
  exact funext fun b => match b with | ⟨0, _⟩ => rfl

/-- The features result is the reference's. -/
theorem features_eq : (V22 m (outs m) c main_v44 : S200x200x16x16.Idx → EReal) =
    Cert.ReferenceIdeal.Read.val_main_v231 (F := Ideal) (a0 m c) (a1 m c) (a2 m c) (a3 m c) := by
  funext i
  obtain ⟨x, y, z, q, rfl⟩ : ∃ x y z q, i = ix4 x y z q :=
    ⟨i 0, i 1, i 2, i 3, funext fun b => match b with | ⟨0, _⟩ => rfl | ⟨1, _⟩ => rfl | ⟨2, _⟩ => rfl | ⟨3, _⟩ => rfl⟩
  refine (v44_at (V21 m (outs m) c) x y z q).trans ?_
  rw [V21_eq, W21_v38]
  refine (congrFun (norm_array (W20 m) c) (ix2 (rowAt x y) (laneAt z q))).trans ?_
  have hl : (⟨(laneAt z q).val / 16, by omega⟩ : Fin 16) = z := Fin.ext (by show (z.val * 16 + q.val) / 16 = z.val; omega)
  have hd : W20 m c main_v36 (ix2 (rowAt x y) (⟨(laneAt z q).val / 16, by omega⟩ : Fin 16)) =
      Cert.ReferenceIdeal.Read.val_main_v210 (F := Ideal) (a0 m c) (a1 m c) (a2 m c) (ix3 x y z) := by
    rw [hl, W20_v36, dens_cell m c G x y z, Cert.ReferenceIdeal.Read.val_main_v210_apply]
    exact congrArg _ (funext fun b => match b with | ⟨0, _⟩ => rfl)
  have hf : W20 m c main_v37 (ix2 (rowAt x y) (laneAt z q)) =
      Cert.ReferenceIdeal.Read.val_main_v226 (F := Ideal) (a0 m c) (a1 m c) (a2 m c) (a3 m c) (ix4 x y z q) := by
    rw [W20_v37, feats_cell m c G x y z q, Cert.ReferenceIdeal.Read.val_main_v226_apply]
    refine congrArg _ (funext fun b => match b with | ⟨0, _⟩ => Fin.ext ?_ | ⟨1, _⟩ => Fin.ext ?_)
    · show (x.val * 200 + y.val) * 16 + z.val = (((x.val * 200 + y.val) * 16 + z.val) * 16 + q.val) / 16
      omega
    · show q.val = (((x.val * 200 + y.val) * 16 + z.val) * 16 + q.val) % 16
      omega
  rw [Cert.ReferenceIdeal.Read.val_main_v231_apply, Cert.ReferenceIdeal.Read.val_main_v230_apply, Cert.ReferenceIdeal.Read.val_main_v229_apply,
    Cert.ReferenceIdeal.Read.val_main_v228_apply, Cert.ReferenceIdeal.Read.val_main_v227_apply, ← hf]
  have hi : Cert.ReferenceIdeal.Read.idx_main_v229 (Cert.ReferenceIdeal.Read.idx_main_v230 (ix4 x y z q)) = ix3 x y z :=
    funext fun b => match b with | ⟨0, _⟩ => rfl | ⟨1, _⟩ => rfl | ⟨2, _⟩ => rfl
  rw [hi, ← hd]
  rfl

end Cert.KernelIdeal.Splat
-- ==== Proof.PreGood.lean ====
/-
  What the precondition says of the arguments, read at an index.
-/
module

public import proofs.«01_k».proof.Proof.Sums
public import proofs.«01_k».proof.Proof.Gen.Pre_plain_gaussians
public import Idealize.ShloMosaic.Lib.ReduceAll
public import Idealize.ShloMosaic.Lib.KernelVsHost

@[expose] public section

noncomputable section

namespace Cert.ReferenceIdeal.Splat

open Idealize.ShloMosaic
open Cert.Pre_plain_gaussians (fn fn_part1 fn_where)
open Cert.Pre_plain_gaussians.Gen

instance : Subsingleton Cert.Pre_plain_gaussians.S_.Idx := ⟨fun a b => funext fun i => i.elim0⟩

/-- Whether an entry is on the diagonal. -/
def onDiag (a b : Fin 3) : BitVec 1 := BitVec.ofBool (BitVec.ofNat 32 a.val + 0#32 == BitVec.ofNat 32 b.val)

variable {x0 : Cert.Pre_plain_gaussians.S50000x3.Idx → EReal} {x1 : Cert.Pre_plain_gaussians.S50000x3x3.Idx → EReal}
variable {x2 : Cert.Pre_plain_gaussians.S50000.Idx → EReal} {x3 : Cert.Pre_plain_gaussians.S50000x16.Idx → EReal}

theorem top_lit : (FloatOps.ofBits .f32 0x7F800000#32 : Ideal .f32) = (⊤ : EReal) := by
  show Ideal.ofBits .f32 0x7F800000#32 = ⊤
  simp [Ideal.ofBits, Ideal.ieee]

theorem cov_bit (e : fn (F := Ideal) x0 x1 x2 x3 = fun _ => 1#1) (n : Fin 50000) (a b : Fin 3) :
    Scalar.select (onDiag a b)
      (IntOp.andi (Ideal.cmp .une (x1 (ix3 n a b)) (Ideal.ofBits .f32 0x00000000#32)) (Ideal.cmp .olt (x1 (ix3 n a b)) (Ideal.ofBits .f32 0x7F800000#32)))
      (Ideal.cmp .oeq (x1 (ix3 n a b)) (Ideal.ofBits .f32 0x00000000#32)) = 1#1 := by
  have e0 := congrFun e (fun i => i.elim0)
  obtain ⟨h, -⟩ := IntOp.andi_eq_one.1 e0
  have h1 := Host.reduce_andi_all _ _ _ _ _ h (ix3 n a b)
  refine Eq.trans ?_ h1
  unfold fn_where
  pointwise
  rfl

theorem top_bit (e : fn (F := Ideal) x0 x1 x2 x3 = fun _ => 1#1) (n : Fin 50000) :
    Ideal.cmp .une (x0 (ix2 n (2 : Fin 3))) (Ideal.ofBits .f32 0x40ACCCCD#32) = 1#1 := by
  have e0 := congrFun e (fun i => i.elim0)
  obtain ⟨-, h⟩ := IntOp.andi_eq_one.1 e0
  have h1 := Host.reduce_andi_all _ _ _ _ _ h (ix1 n)
  refine Eq.trans ?_ h1
  pointwise

theorem onDiag_ne : ∀ a b : Fin 3, a ≠ b → onDiag a b = 0#1 := by decide
theorem onDiag_self : ∀ a : Fin 3, onDiag a a = 1#1 := by decide

theorem off_zero (e : fn (F := Ideal) x0 x1 x2 x3 = fun _ => 1#1) (n : Fin 50000) (a b : Fin 3) (h : a ≠ b) : x1 (ix3 n a b) = 0 := by
  have hb := cov_bit e n a b
  rw [onDiag_ne a b h] at hb
  have hc : BitVec.ofBool (decide (x1 (ix3 n a b) = Ideal.ofBits .f32 0x00000000#32)) = 1#1 := hb
  by_cases hx : x1 (ix3 n a b) = Ideal.ofBits .f32 0x00000000#32
  · exact hx.trans zero_lit
  · rw [decide_eq_false hx] at hc
    exact absurd hc (by decide)

theorem diag_ok (e : fn (F := Ideal) x0 x1 x2 x3 = fun _ => 1#1) (n : Fin 50000) (a : Fin 3) : x1 (ix3 n a a) ≠ 0 ∧ x1 (ix3 n a a) ≠ ⊤ := by
  have hb := cov_bit e n a a
  rw [onDiag_self a] at hb
  have hc : IntOp.andi (BitVec.ofBool (decide (x1 (ix3 n a a) ≠ Ideal.ofBits .f32 0x00000000#32)))
    (BitVec.ofBool (decide (x1 (ix3 n a a) < Ideal.ofBits .f32 0x7F800000#32))) = 1#1 := hb
  obtain ⟨h1, h2⟩ := IntOp.andi_eq_one.1 hc
  constructor
  · intro hx
    rw [decide_eq_false (fun h => h (hx.trans zero_lit.symm))] at h1
    exact absurd h1 (by decide)
  · intro hx
    have ht : Ideal.ofBits .f32 0x7F800000#32 = (⊤ : EReal) := top_lit
    rw [decide_eq_false (by rw [hx, ht]; exact lt_irrefl _)] at h2
    exact absurd h2 (by decide)

theorem good_of (e : fn (F := Ideal) x0 x1 x2 x3 = fun _ => 1#1) : Good x0 x1 where
  diag n := ⟨rfl, off_zero e n 0 1 (by decide), off_zero e n 0 2 (by decide), off_zero e n 1 0 (by decide), rfl, off_zero e n 1 2 (by decide),
    off_zero e n 2 0 (by decide), off_zero e n 2 1 (by decide), rfl⟩
  ok n a := diag_ok e n a
  top n hx := by
    have hb := top_bit e n
    have hc : BitVec.ofBool (decide (x0 (ix2 n (2 : Fin 3)) ≠ Ideal.ofBits .f32 0x40ACCCCD#32)) = 1#1 := hb
    rw [decide_eq_false (fun h => h hx)] at hc
    exact absurd hc (by decide)

end Cert.ReferenceIdeal.Splat
-- ==== Proof.lean ====
/- The certificate: the three programs run and leave their arguments, and the idealization preserves the kernel,
   and under the precondition the idealized kernel's results are the reference's. -/
module

public import proofs.«01_k».proof.Defs
public import proofs.«01_k».proof.Proof.Run
public import proofs.«01_k».proof.Proof.Bits.Run
public import proofs.«01_k».proof.Proof.HostOut
public import proofs.«01_k».proof.Proof.PreGood
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_plain_gaussians

@[expose] public section

noncomputable section

namespace Cert.Proof

open Idealize.ShloMosaic Idealize.ShloMosaic.TcCoe Idealize.SL.Sem

/-- The kernel runs and leaves its arguments. -/
theorem frame_kernel : Cert.quiescent_Kernel := by
  intro m ρ _
  exact (θ_run Cert.Kernel.defs _ _).mono (fun r h => ⟨fun c =>
      ⟨(h.1 c _ rfl).trans (Cert.Kernel.Gen.V22_main_arg0 m _ c), (h.1 c _ rfl).trans (Cert.Kernel.Gen.V22_main_arg1 m _ c),
        (h.1 c _ rfl).trans (Cert.Kernel.Gen.V22_main_arg2 m _ c), (h.1 c _ rfl).trans (Cert.Kernel.Gen.V22_main_arg3 m _ c)⟩, h.2⟩)
    (Cert.Kernel.Splat.run (F := Bits) m ρ)

/-- The idealized kernel runs and leaves its arguments. -/
theorem frame_ideal : Cert.quiescent_KernelIdeal := by
  intro m ρ _
  exact (θ_run Cert.KernelIdeal.defs _ _).mono (fun r h => ⟨fun c =>
      ⟨(h.1 c _ rfl).trans (Cert.KernelIdeal.Gen.V22_main_arg0 m _ c), (h.1 c _ rfl).trans (Cert.KernelIdeal.Gen.V22_main_arg1 m _ c),
        (h.1 c _ rfl).trans (Cert.KernelIdeal.Gen.V22_main_arg2 m _ c), (h.1 c _ rfl).trans (Cert.KernelIdeal.Gen.V22_main_arg3 m _ c)⟩, h.2⟩)
    (Cert.KernelIdeal.Splat.run (F := Ideal) m ρ)

/-- The reference runs and leaves its arguments; it declares no semaphore. -/
theorem frame_reference : Cert.quiescent_ReferenceIdeal := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Under the precondition both programs run and end with equal results. -/
theorem values : Cert.algebraic_KernelIdeal_ReferenceIdeal_pre_plain_gaussians := by
  intro m g m' g' hpre harg
  refine ⟨fun c => Cert.KernelIdeal.Gen.V22 m (Cert.KernelIdeal.Splat.outs m) c (Proc.devRef .tc Cert.KernelIdeal.main_v43),
    fun c => Cert.KernelIdeal.Gen.V22 m (Cert.KernelIdeal.Splat.outs m) c (Proc.devRef .tc Cert.KernelIdeal.main_v44), ?_, ?_⟩
  · exact (θ_run Cert.KernelIdeal.defs _ _).mono (fun r h c =>
        ⟨h.1 c _ rfl, h.1 c _ rfl,
          (h.1 c _ rfl).trans (Cert.KernelIdeal.Gen.V22_main_arg0 m _ c), (h.1 c _ rfl).trans (Cert.KernelIdeal.Gen.V22_main_arg1 m _ c),
          (h.1 c _ rfl).trans (Cert.KernelIdeal.Gen.V22_main_arg2 m _ c), (h.1 c _ rfl).trans (Cert.KernelIdeal.Gen.V22_main_arg3 m _ c)⟩)
      (Cert.KernelIdeal.Splat.run (F := Ideal) m g)
  · refine (θ_run Cert.ReferenceIdeal.defs _ _).mono (fun r h c => ?_) (Cert.ReferenceIdeal.Value.run (F := Ideal) m' g')
    have G := Cert.ReferenceIdeal.Splat.good_of (hpre c)
    obtain ⟨e0, e1, e2, e3⟩ := harg c
    have d := Cert.KernelIdeal.Splat.density_eq m c G
    have f := Cert.KernelIdeal.Splat.features_eq m c G
    unfold Cert.KernelIdeal.Splat.a0 Cert.KernelIdeal.Splat.a1 Cert.KernelIdeal.Splat.a2 at d
    unfold Cert.KernelIdeal.Splat.a0 Cert.KernelIdeal.Splat.a1 Cert.KernelIdeal.Splat.a2 Cert.KernelIdeal.Splat.a3 at f
    refine ⟨(h c).1.trans ((Cert.ReferenceIdeal.Read.val_main_v210_eq _).trans (Eq.trans ?_ d.symm)),
      (h c).2.1.trans ((Cert.ReferenceIdeal.Read.val_main_v231_eq _).trans (Eq.trans ?_ f.symm)), (h c).2.2⟩
    · rw [← e0, ← e1, ← e2]
    · rw [← e0, ← e1, ← e2, ← e3]

theorem claim : Cert.Claim :=
  ⟨Cert.Kernel.Gen.facts, Cert.KernelIdeal.Gen.facts, Cert.ReferenceIdeal.Gen.facts, Cert.Pre_plain_gaussians.Gen.facts,
    frame_kernel, frame_ideal, fun m g _ => frame_ideal m g trivial, frame_reference, fun m g _ => frame_reference m g trivial, trivial, values⟩

end Cert.Proof
